-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x1024 : Shape := ⟨3, ![2, 512, 1024]⟩
abbrev S1024x1024 : Shape := ⟨2, ![1024, 1024]⟩
abbrev S_ : Shape := ⟨0, ![]⟩

class Facts : Prop where
  bcast_S_S2x512x1024 : S_.BroadcastsInDim S2x512x1024 (![] : Fin 0 → Fin S2x512x1024.rank)
  bcast_S_S1024x1024 : S_.BroadcastsInDim S1024x1024 (![] : Fin 0 → Fin S1024x1024.rank)

variable [Facts]

def fn {F : FTy → Type} [FloatOps F] (main_arg0 : FVec F S2x512x1024 .f32) (main_arg1 : FVec F S1024x1024 .f32) (main_arg2 : FVec F S1024x1024 .f32) (main_arg3 : FVec F S1024x1024 .f32) (main_arg4 : FVec F S1024x1024 .f32) : IVec S2x512x1024 1 × IVec S1024x1024 1 × IVec S1024x1024 1 :=
  let main_cst : FVec F S_ .f32 := constant S_ .f32 0x7F800000#32
  let main_v0 : FVec F S_ .f32 := Host.negf main_cst
  let main_v1 : FVec F S2x512x1024 .f32 := broadcastInDim S2x512x1024 ![] bcast_S_S2x512x1024 main_v0
  let main_v2 : IVec S2x512x1024 1 := cmpf .olt main_v1 main_arg0
  let main_cst_0 : FVec F S_ .f32 := constant S_ .f32 0x7F800000#32
  let main_v3 : FVec F S2x512x1024 .f32 := broadcastInDim S2x512x1024 ![] bcast_S_S2x512x1024 main_cst_0
  let main_v4 : IVec S2x512x1024 1 := cmpf .olt main_arg0 main_v3
  let main_v5 : IVec S2x512x1024 1 := andi main_v2 main_v4
  let main_cst_1 : FVec F S_ .f32 := constant S_ .f32 0x7F800000#32
  let main_v6 : FVec F S_ .f32 := Host.negf main_cst_1
  let main_v7 : FVec F S1024x1024 .f32 := broadcastInDim S1024x1024 ![] bcast_S_S1024x1024 main_v6
  let main_v8 : IVec S1024x1024 1 := cmpf .olt main_v7 main_arg1
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_arg1 main_v9
  let main_v11 : IVec S1024x1024 1 := andi main_v8 main_v10
  let main_cst_3 : FVec F S_ .f32 := constant S_ .f32 0x7F800000#32
  let main_v12 : FVec F S_ .f32 := Host.negf main_cst_3
  let main_v13 : FVec F S1024x1024 .f32 := broadcastInDim S1024x1024 ![] bcast_S_S1024x1024 main_v12
  let main_v14 : IVec S1024x1024 1 := cmpf .olt main_v13 main_arg2
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_arg2 main_v15
  let main_v17 : IVec S1024x1024 1 := andi main_v14 main_v16
  (main_v5, main_v11, main_v17)
-- ==== Pre_finite_ReferenceIdeal.lean ====
abbrev S2x512x1024 : Shape := ⟨3, ![2, 512, 1024]⟩
abbrev S1024x4096 : Shape := ⟨2, ![1024, 4096]⟩
abbrev S4096x1024 : Shape := ⟨2, ![4096, 1024]⟩
abbrev S_ : Shape := ⟨0, ![]⟩

class Facts : Prop where
  bcast_S_S2x512x1024 : S_.BroadcastsInDim S2x512x1024 (![] : Fin 0 → Fin S2x512x1024.rank)
  bcast_S_S1024x4096 : S_.BroadcastsInDim S1024x4096 (![] : Fin 0 → Fin S1024x4096.rank)

variable [Facts]

def fn {F : FTy → Type} [FloatOps F] (main_arg0 : FVec F S2x512x1024 .f32) (main_arg1 : FVec F S1024x4096 .f32) (main_arg2 : FVec F S1024x4096 .f32) (main_arg3 : FVec F S1024x4096 .f32) (main_arg4 : FVec F S4096x1024 .f32) : IVec S2x512x1024 1 × IVec S1024x4096 1 × IVec S1024x4096 1 :=
  let main_cst : FVec F S_ .f32 := constant S_ .f32 0x7F800000#32
  let main_v0 : FVec F S_ .f32 := Host.negf main_cst
  let main_v1 : FVec F S2x512x1024 .f32 := broadcastInDim S2x512x1024 ![] bcast_S_S2x512x1024 main_v0
  let main_v2 : IVec S2x512x1024 1 := cmpf .olt main_v1 main_arg0
  let main_cst_0 : FVec F S_ .f32 := constant S_ .f32 0x7F800000#32
  let main_v3 : FVec F S2x512x1024 .f32 := broadcastInDim S2x512x1024 ![] bcast_S_S2x512x1024 main_cst_0
  let main_v4 : IVec S2x512x1024 1 := cmpf .olt main_arg0 main_v3
  let main_v5 : IVec S2x512x1024 1 := andi main_v2 main_v4
  let main_cst_1 : FVec F S_ .f32 := constant S_ .f32 0x7F800000#32
  let main_v6 : FVec F S_ .f32 := Host.negf main_cst_1
  let main_v7 : FVec F S1024x4096 .f32 := broadcastInDim S1024x4096 ![] bcast_S_S1024x4096 main_v6
  let main_v8 : IVec S1024x4096 1 := cmpf .olt main_v7 main_arg1
  let main_cst_2 : FVec F S_ .f32 := constant S_ .f32 0x7F800000#32
  let main_v9 : FVec F S1024x4096 .f32 := broadcastInDim S1024x4096 ![] bcast_S_S1024x4096 main_cst_2
  let main_v10 : IVec S1024x4096 1 := cmpf .olt main_arg1 main_v9
  let main_v11 : IVec S1024x4096 1 := andi main_v8 main_v10
  let main_cst_3 : FVec F S_ .f32 := constant S_ .f32 0x7F800000#32
  let main_v12 : FVec F S_ .f32 := Host.negf main_cst_3
  let main_v13 : FVec F S1024x4096 .f32 := broadcastInDim S1024x4096 ![] bcast_S_S1024x4096 main_v12
  let main_v14 : IVec S1024x4096 1 := cmpf .olt main_v13 main_arg2
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_arg2 main_v15
  let main_v17 : IVec S1024x4096 1 := andi main_v14 main_v16
  (main_v5, main_v11, main_v17)
-- ==== Kernel.lean ====
abbrev S2x512x1024 : Shape := ⟨3, ![2, 512, 1024]⟩
abbrev S1024x1024 : Shape := ⟨2, ![1024, 1024]⟩
abbrev S64 : Shape := ⟨1, ![64]⟩
abbrev S_ : Shape := ⟨0, ![]⟩
abbrev S512 : Shape := ⟨1, ![512]⟩
abbrev S512x1 : Shape := ⟨2, ![512, 1]⟩
abbrev S1x64 : Shape := ⟨2, ![1, 64]⟩
abbrev S512x64 : Shape := ⟨2, ![512, 64]⟩
abbrev S512x64x2 : Shape := ⟨3, ![512, 64, 2]⟩
abbrev S512x128 : Shape := ⟨2, ![512, 128]⟩
abbrev S1x512x1x128 : Shape := ⟨4, ![1, 512, 1, 128]⟩
abbrev S2x512x8x128 : Shape := ⟨4, ![2, 512, 8, 128]⟩
abbrev S1024 : Shape := ⟨1, ![1024]⟩
abbrev S1x1024 : Shape := ⟨2, ![1, 1024]⟩
abbrev S3x256x1024 : Shape := ⟨3, ![3, 256, 1024]⟩
abbrev S3 : Shape := ⟨1, ![3]⟩
abbrev S6 : Shape := ⟨1, ![6]⟩
abbrev S256x1024 : Shape := ⟨2, ![256, 1024]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S1 : Shape := ⟨1, ![1]⟩
abbrev S1x256x1024 : Shape := ⟨3, ![1, 256, 1024]⟩
abbrev S128x1024 : Shape := ⟨2, ![128, 1024]⟩
abbrev S1x128x1024 : Shape := ⟨3, ![1, 128, 1024]⟩

abbrev nBuf : Space → Nat
  | .hbm => 81
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S512, .i32⟩
  | .hbm, ⟨24, _⟩ => ⟨S512x1, .i32⟩
  | .hbm, ⟨25, _⟩ => ⟨S1x64, .f32⟩
  | .hbm, ⟨26, _⟩ => ⟨S512x1, .f32⟩
  | .hbm, ⟨27, _⟩ => ⟨S512x64, .f32⟩
  | .hbm, ⟨28, _⟩ => ⟨S512x64, .f32⟩
  | .hbm, ⟨29, _⟩ => ⟨S512x64, .f32⟩
  | .hbm, ⟨30, _⟩ => ⟨S512x64, .f32⟩
  | .hbm, ⟨31, _⟩ => ⟨S512x64x2, .f32⟩
  | .hbm, ⟨32, _⟩ => ⟨S512x128, .f32⟩
  | .hbm, ⟨33, _⟩ => ⟨S512x64, .f32⟩
  | .hbm, ⟨34, _⟩ => ⟨S512x64x2, .f32⟩
  | .hbm, ⟨35, _⟩ => ⟨S512x128, .f32⟩
  | .hbm, ⟨36, _⟩ => ⟨S1x512x1x128, .f32⟩
  | .hbm, ⟨37, _⟩ => ⟨S2x512x8x128, .f32⟩
  | .hbm, ⟨38, _⟩ => ⟨S1024x1024, .f32⟩
  | .hbm, ⟨39, _⟩ => ⟨S1x512x1x128, .f32⟩
  | .hbm, ⟨40, _⟩ => ⟨S2x512x8x128, .f32⟩
  | .hbm, ⟨41, _⟩ => ⟨S1024x1024, .f32⟩
  | .hbm, ⟨42, _⟩ => ⟨S1024, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S1024, .i32⟩
  | .hbm, ⟨56, _⟩ => ⟨S1024, .i1⟩
  | .hbm, ⟨57, _⟩ => ⟨S_, .i32⟩
  | .hbm, ⟨58, _⟩ => ⟨S_, .i1⟩
  | .hbm, ⟨59, _⟩ => ⟨S1024, .i1⟩
  | .hbm, ⟨60, _⟩ => ⟨S1024, .i1⟩
  | .hbm, ⟨61, _⟩ => ⟨S1024, .i1⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S_, .i32⟩
  | .hbm, ⟨66, _⟩ => ⟨S1024, .i32⟩
  | .hbm, ⟨67, _⟩ => ⟨S1024, .i1⟩
  | .hbm, ⟨68, _⟩ => ⟨S1x1024, .i1⟩
  | .hbm, ⟨69, _⟩ => ⟨S1024x1024, .f32⟩
  | .hbm, ⟨70, _⟩ => ⟨S_, .f32⟩
  | .hbm, ⟨71, _⟩ => ⟨S_, .f32⟩
  | .hbm, ⟨72, _⟩ => ⟨S1024x1024, .i1⟩
  | .hbm, ⟨73, _⟩ => ⟨S1024x1024, .f32⟩
  | .hbm, ⟨74, _⟩ => ⟨S1024x1024, .f32⟩
  | .hbm, ⟨75, _⟩ => ⟨S_, .f32⟩
  | .hbm, ⟨76, _⟩ => ⟨S_, .f32⟩
  | .hbm, ⟨77, _⟩ => ⟨S1024x1024, .i1⟩
  | .hbm, ⟨78, _⟩ => ⟨S1024x1024, .f32⟩
  | .hbm, ⟨79, _⟩ => ⟨S1024x1024, .f32⟩
  | .hbm, ⟨80, _⟩ => ⟨S2x512x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S2x512x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S3x256x1024, .bf16⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_c_1 : Ref sig .tc := ⟨.hbm, 51, rfl⟩
abbrev main_call0_v5 : Ref sig .tc := ⟨.hbm, 52, rfl⟩
abbrev main_call0_v6 : Ref sig .tc := ⟨.hbm, 53, rfl⟩
abbrev main_call0_c_2 : Ref sig .tc := ⟨.hbm, 54, rfl⟩
abbrev main_call0_v7 : Ref sig .tc := ⟨.hbm, 55, rfl⟩
abbrev main_call0_v8 : Ref sig .tc := ⟨.hbm, 56, rfl⟩
abbrev main_call0_c_3 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_v34 : Ref sig .tc := ⟨.hbm, 64, rfl⟩
abbrev main_c_4 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_5 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v39 : Ref sig .tc := ⟨.hbm, 74, rfl⟩
abbrev main_cst_6 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v40 : Ref sig .tc := ⟨.hbm, 79, rfl⟩
abbrev main_v41 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c1_i32_48
  let c4_i32_49 : BitVec 32 := 4#32
  let c0_i32_50 : BitVec 32 := 0#32
  let v82 : BitVec 1 := Scalar.cmpi .eq c4_i32_49 c0_i32_50
  let c1_i32_51 : BitVec 32 := 1#32
  let v83 : BitVec 32 := Scalar.select v82 c1_i32_51 c4_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  let c256_i32_55 : BitVec 32 := 256#32
  let v93 : BitVec 32 := Scalar.muli v91 c256_i32_55
  let v112 : Index := Scalar.indexCast v93
  let c0_63 : Index := 0#32
  ![v112.toNat, 0]
def k0_off2 (d0 : Dev nD) (c1_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c1_i32_48
  let c4_i32_49 : BitVec 32 := 4#32
  let c0_i32_50 : BitVec 32 := 0#32
  let v82 : BitVec 1 := Scalar.cmpi .eq c4_i32_49 c0_i32_50
  let c1_i32_51 : BitVec 32 := 1#32
  let v83 : BitVec 32 := Scalar.select v82 c1_i32_51 c4_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  let c0_i32_57 : BitVec 32 := 0#32
  let v95 : BitVec 1 := Scalar.cmpi .sgt v91 c0_i32_57
  let v96 : BitVec 32 := Scalar.extui v95
  let c0_i32_58 : BitVec 32 := 0#32
  let v97 : BitVec 1 := Scalar.cmpi .slt v91 c0_i32_58
  let v98 : BitVec 32 := Scalar.extui v97
  let v99 : BitVec 32 := Scalar.subi v96 v98
  let c2_i32_56 : BitVec 32 := 2#32
  let c0_i32_59 : BitVec 32 := 0#32
  let v100 : BitVec 1 := Scalar.cmpi .sgt c2_i32_56 c0_i32_59
  let v101 : BitVec 32 := Scalar.extui v100
  let c0_i32_60 : BitVec 32 := 0#32
  let v102 : BitVec 1 := Scalar.cmpi .slt c2_i32_56 c0_i32_60
  let v103 : BitVec 32 := Scalar.extui v102
  let v104 : BitVec 32 := Scalar.subi v101 v103
  let v105 : BitVec 1 := Scalar.cmpi .ne v99 v104
  let v106 : BitVec 32 := Scalar.remsi v91 c2_i32_56
  let c0_i32_61 : BitVec 32 := 0#32
  let v107 : BitVec 1 := Scalar.cmpi .ne v106 c0_i32_61
  let v108 : BitVec 1 := Scalar.andi v105 v107
  let v94 : BitVec 32 := Scalar.divsi v91 c2_i32_56
  let c1_i32_62 : BitVec 32 := 1#32
  let v109 : BitVec 32 := Scalar.subi v94 c1_i32_62
  let v110 : BitVec 32 := Scalar.select v108 v109 v94
  let c512_i32 : BitVec 32 := 512#32
  let v111 : BitVec 32 := Scalar.muli v110 c512_i32
  let v137 : Index := Scalar.indexCast v111
  let c0_71 : Index := 0#32
  ![v137.toNat, 0]
def k0_off3 (d0 : Dev nD) (c1_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c1_i32_48
  let c4_i32_49 : BitVec 32 := 4#32
  let c0_i32_50 : BitVec 32 := 0#32
  let v82 : BitVec 1 := Scalar.cmpi .eq c4_i32_49 c0_i32_50
  let c1_i32_51 : BitVec 32 := 1#32
  let v83 : BitVec 32 := Scalar.select v82 c1_i32_51 c4_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  let c0_i32_57 : BitVec 32 := 0#32
  let v95 : BitVec 1 := Scalar.cmpi .sgt v91 c0_i32_57
  let v96 : BitVec 32 := Scalar.extui v95
  let c0_i32_58 : BitVec 32 := 0#32
  let v97 : BitVec 1 := Scalar.cmpi .slt v91 c0_i32_58
  let v98 : BitVec 32 := Scalar.extui v97
  let v99 : BitVec 32 := Scalar.subi v96 v98
  let c2_i32_56 : BitVec 32 := 2#32
  let c0_i32_59 : BitVec 32 := 0#32
  let v100 : BitVec 1 := Scalar.cmpi .sgt c2_i32_56 c0_i32_59
  let v101 : BitVec 32 := Scalar.extui v100
  let c0_i32_60 : BitVec 32 := 0#32
  let v102 : BitVec 1 := Scalar.cmpi .slt c2_i32_56 c0_i32_60
  let v103 : BitVec 32 := Scalar.extui v102
  let v104 : BitVec 32 := Scalar.subi v101 v103
  let v105 : BitVec 1 := Scalar.cmpi .ne v99 v104
  let v106 : BitVec 32 := Scalar.remsi v91 c2_i32_56
  let c0_i32_61 : BitVec 32 := 0#32
  let v107 : BitVec 1 := Scalar.cmpi .ne v106 c0_i32_61
  let v108 : BitVec 1 := Scalar.andi v105 v107
  let v94 : BitVec 32 := Scalar.divsi v91 c2_i32_56
  let c1_i32_62 : BitVec 32 := 1#32
  let v109 : BitVec 32 := Scalar.subi v94 c1_i32_62
  let v110 : BitVec 32 := Scalar.select v108 v109 v94
  let c512_i32 : BitVec 32 := 512#32
  let v111 : BitVec 32 := Scalar.muli v110 c512_i32
  let v153 : Index := Scalar.indexCast v111
  let c128 : Index := 128#32
  ![v153.toNat, 128]
def k0_off4 (d0 : Dev nD) (c1_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c1_i32_48
  let c4_i32_49 : BitVec 32 := 4#32
  let c0_i32_50 : BitVec 32 := 0#32
  let v82 : BitVec 1 := Scalar.cmpi .eq c4_i32_49 c0_i32_50
  let c1_i32_51 : BitVec 32 := 1#32
  let v83 : BitVec 32 := Scalar.select v82 c1_i32_51 c4_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  let c0_i32_57 : BitVec 32 := 0#32
  let v95 : BitVec 1 := Scalar.cmpi .sgt v91 c0_i32_57
  let v96 : BitVec 32 := Scalar.extui v95
  let c0_i32_58 : BitVec 32 := 0#32
  let v97 : BitVec 1 := Scalar.cmpi .slt v91 c0_i32_58
  let v98 : BitVec 32 := Scalar.extui v97
  let v99 : BitVec 32 := Scalar.subi v96 v98
  let c2_i32_56 : BitVec 32 := 2#32
  let c0_i32_59 : BitVec 32 := 0#32
  let v100 : BitVec 1 := Scalar.cmpi .sgt c2_i32_56 c0_i32_59
  let v101 : BitVec 32 := Scalar.extui v100
  let c0_i32_60 : BitVec 32 := 0#32
  let v102 : BitVec 1 := Scalar.cmpi .slt c2_i32_56 c0_i32_60
  let v103 : BitVec 32 := Scalar.extui v102
  let v104 : BitVec 32 := Scalar.subi v101 v103
  let v105 : BitVec 1 := Scalar.cmpi .ne v99 v104
  let v106 : BitVec 32 := Scalar.remsi v91 c2_i32_56
  let c0_i32_61 : BitVec 32 := 0#32
  let v107 : BitVec 1 := Scalar.cmpi .ne v106 c0_i32_61
  let v108 : BitVec 1 := Scalar.andi v105 v107
  let v94 : BitVec 32 := Scalar.divsi v91 c2_i32_56
  let c1_i32_62 : BitVec 32 := 1#32
  let v109 : BitVec 32 := Scalar.subi v94 c1_i32_62
  let v110 : BitVec 32 := Scalar.select v108 v109 v94
  let c512_i32 : BitVec 32 := 512#32
  let v111 : BitVec 32 := Scalar.muli v110 c512_i32
  let v169 : Index := Scalar.indexCast v111
  let c256 : Index := 256#32
  ![v169.toNat, 256]
def k0_off5 (d0 : Dev nD) (c1_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c1_i32_48
  let c4_i32_49 : BitVec 32 := 4#32
  let c0_i32_50 : BitVec 32 := 0#32
  let v82 : BitVec 1 := Scalar.cmpi .eq c4_i32_49 c0_i32_50
  let c1_i32_51 : BitVec 32 := 1#32
  let v83 : BitVec 32 := Scalar.select v82 c1_i32_51 c4_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  let c0_i32_57 : BitVec 32 := 0#32
  let v95 : BitVec 1 := Scalar.cmpi .sgt v91 c0_i32_57
  let v96 : BitVec 32 := Scalar.extui v95
  let c0_i32_58 : BitVec 32 := 0#32
  let v97 : BitVec 1 := Scalar.cmpi .slt v91 c0_i32_58
  let v98 : BitVec 32 := Scalar.extui v97
  let v99 : BitVec 32 := Scalar.subi v96 v98
  let c2_i32_56 : BitVec 32 := 2#32
  let c0_i32_59 : BitVec 32 := 0#32
  let v100 : BitVec 1 := Scalar.cmpi .sgt c2_i32_56 c0_i32_59
  let v101 : BitVec 32 := Scalar.extui v100
  let c0_i32_60 : BitVec 32 := 0#32
  let v102 : BitVec 1 := Scalar.cmpi .slt c2_i32_56 c0_i32_60
  let v103 : BitVec 32 := Scalar.extui v102
  let v104 : BitVec 32 := Scalar.subi v101 v103
  let v105 : BitVec 1 := Scalar.cmpi .ne v99 v104
  let v106 : BitVec 32 := Scalar.remsi v91 c2_i32_56
  let c0_i32_61 : BitVec 32 := 0#32
  let v107 : BitVec 1 := Scalar.cmpi .ne v106 c0_i32_61
  let v108 : BitVec 1 := Scalar.andi v105 v107
  let v94 : BitVec 32 := Scalar.divsi v91 c2_i32_56
  let c1_i32_62 : BitVec 32 := 1#32
  let v109 : BitVec 32 := Scalar.subi v94 c1_i32_62
  let v110 : BitVec 32 := Scalar.select v108 v109 v94
  let c512_i32 : BitVec 32 := 512#32
  let v111 : BitVec 32 := Scalar.muli v110 c512_i32
  let v185 : Index := Scalar.indexCast v111
  let c384 : Index := 384#32
  ![v185.toNat, 384]
def k0_off6 (d0 : Dev nD) (c1_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c1_i32_48
  let c4_i32_49 : BitVec 32 := 4#32
  let c0_i32_50 : BitVec 32 := 0#32
  let v82 : BitVec 1 := Scalar.cmpi .eq c4_i32_49 c0_i32_50
  let c1_i32_51 : BitVec 32 := 1#32
  let v83 : BitVec 32 := Scalar.select v82 c1_i32_51 c4_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  let c0_i32_57 : BitVec 32 := 0#32
  let v95 : BitVec 1 := Scalar.cmpi .sgt v91 c0_i32_57
  let v96 : BitVec 32 := Scalar.extui v95
  let c0_i32_58 : BitVec 32 := 0#32
  let v97 : BitVec 1 := Scalar.cmpi .slt v91 c0_i32_58
  let v98 : BitVec 32 := Scalar.extui v97
  let v99 : BitVec 32 := Scalar.subi v96 v98
  let c2_i32_56 : BitVec 32 := 2#32
  let c0_i32_59 : BitVec 32 := 0#32
  let v100 : BitVec 1 := Scalar.cmpi .sgt c2_i32_56 c0_i32_59
  let v101 : BitVec 32 := Scalar.extui v100
  let c0_i32_60 : BitVec 32 := 0#32
  let v102 : BitVec 1 := Scalar.cmpi .slt c2_i32_56 c0_i32_60
  let v103 : BitVec 32 := Scalar.extui v102
  let v104 : BitVec 32 := Scalar.subi v101 v103
  let v105 : BitVec 1 := Scalar.cmpi .ne v99 v104
  let v106 : BitVec 32 := Scalar.remsi v91 c2_i32_56
  let c0_i32_61 : BitVec 32 := 0#32
  let v107 : BitVec 1 := Scalar.cmpi .ne v106 c0_i32_61
  let v108 : BitVec 1 := Scalar.andi v105 v107
  let v94 : BitVec 32 := Scalar.divsi v91 c2_i32_56
  let c1_i32_62 : BitVec 32 := 1#32
  let v109 : BitVec 32 := Scalar.subi v94 c1_i32_62
  let v110 : BitVec 32 := Scalar.select v108 v109 v94
  let c512_i32 : BitVec 32 := 512#32
  let v111 : BitVec 32 := Scalar.muli v110 c512_i32
  let v201 : Index := Scalar.indexCast v111
  let c512 : Index := 512#32
  ![v201.toNat, 512]
def k0_off7 (d0 : Dev nD) (c1_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c1_i32_48
  let c4_i32_49 : BitVec 32 := 4#32
  let c0_i32_50 : BitVec 32 := 0#32
  let v82 : BitVec 1 := Scalar.cmpi .eq c4_i32_49 c0_i32_50
  let c1_i32_51 : BitVec 32 := 1#32
  let v83 : BitVec 32 := Scalar.select v82 c1_i32_51 c4_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  let c0_i32_57 : BitVec 32 := 0#32
  let v95 : BitVec 1 := Scalar.cmpi .sgt v91 c0_i32_57
  let v96 : BitVec 32 := Scalar.extui v95
  let c0_i32_58 : BitVec 32 := 0#32
  let v97 : BitVec 1 := Scalar.cmpi .slt v91 c0_i32_58
  let v98 : BitVec 32 := Scalar.extui v97
  let v99 : BitVec 32 := Scalar.subi v96 v98
  let c2_i32_56 : BitVec 32 := 2#32
  let c0_i32_59 : BitVec 32 := 0#32
  let v100 : BitVec 1 := Scalar.cmpi .sgt c2_i32_56 c0_i32_59
  let v101 : BitVec 32 := Scalar.extui v100
  let c0_i32_60 : BitVec 32 := 0#32
  let v102 : BitVec 1 := Scalar.cmpi .slt c2_i32_56 c0_i32_60
  let v103 : BitVec 32 := Scalar.extui v102
  let v104 : BitVec 32 := Scalar.subi v101 v103
  let v105 : BitVec 1 := Scalar.cmpi .ne v99 v104
  let v106 : BitVec 32 := Scalar.remsi v91 c2_i32_56
  let c0_i32_61 : BitVec 32 := 0#32
  let v107 : BitVec 1 := Scalar.cmpi .ne v106 c0_i32_61
  let v108 : BitVec 1 := Scalar.andi v105 v107
  let v94 : BitVec 32 := Scalar.divsi v91 c2_i32_56
  let c1_i32_62 : BitVec 32 := 1#32
  let v109 : BitVec 32 := Scalar.subi v94 c1_i32_62
  let v110 : BitVec 32 := Scalar.select v108 v109 v94
  let c512_i32 : BitVec 32 := 512#32
  let v111 : BitVec 32 := Scalar.muli v110 c512_i32
  let v217 : Index := Scalar.indexCast v111
  let c640 : Index := 640#32
  ![v217.toNat, 640]
def k0_off8 (d0 : Dev nD) (c1_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c1_i32_48
  let c4_i32_49 : BitVec 32 := 4#32
  let c0_i32_50 : BitVec 32 := 0#32
  let v82 : BitVec 1 := Scalar.cmpi .eq c4_i32_49 c0_i32_50
  let c1_i32_51 : BitVec 32 := 1#32
  let v83 : BitVec 32 := Scalar.select v82 c1_i32_51 c4_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  let c0_i32_57 : BitVec 32 := 0#32
  let v95 : BitVec 1 := Scalar.cmpi .sgt v91 c0_i32_57
  let v96 : BitVec 32 := Scalar.extui v95
  let c0_i32_58 : BitVec 32 := 0#32
  let v97 : BitVec 1 := Scalar.cmpi .slt v91 c0_i32_58
  let v98 : BitVec 32 := Scalar.extui v97
  let v99 : BitVec 32 := Scalar.subi v96 v98
  let c2_i32_56 : BitVec 32 := 2#32
  let c0_i32_59 : BitVec 32 := 0#32
  let v100 : BitVec 1 := Scalar.cmpi .sgt c2_i32_56 c0_i32_59
  let v101 : BitVec 32 := Scalar.extui v100
  let c0_i32_60 : BitVec 32 := 0#32
  let v102 : BitVec 1 := Scalar.cmpi .slt c2_i32_56 c0_i32_60
  let v103 : BitVec 32 := Scalar.extui v102
  let v104 : BitVec 32 := Scalar.subi v101 v103
  let v105 : BitVec 1 := Scalar.cmpi .ne v99 v104
  let v106 : BitVec 32 := Scalar.remsi v91 c2_i32_56
  let c0_i32_61 : BitVec 32 := 0#32
  let v107 : BitVec 1 := Scalar.cmpi .ne v106 c0_i32_61
  let v108 : BitVec 1 := Scalar.andi v105 v107
  let v94 : BitVec 32 := Scalar.divsi v91 c2_i32_56
  let c1_i32_62 : BitVec 32 := 1#32
  let v109 : BitVec 32 := Scalar.subi v94 c1_i32_62
  let v110 : BitVec 32 := Scalar.select v108 v109 v94
  let c512_i32 : BitVec 32 := 512#32
  let v111 : BitVec 32 := Scalar.muli v110 c512_i32
  let v233 : Index := Scalar.indexCast v111
  let c768 : Index := 768#32
  ![v233.toNat, 768]
def k0_off9 (d0 : Dev nD) (c1_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c1_i32_48
  let c4_i32_49 : BitVec 32 := 4#32
  let c0_i32_50 : BitVec 32 := 0#32
  let v82 : BitVec 1 := Scalar.cmpi .eq c4_i32_49 c0_i32_50
  let c1_i32_51 : BitVec 32 := 1#32
  let v83 : BitVec 32 := Scalar.select v82 c1_i32_51 c4_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  let c0_i32_57 : BitVec 32 := 0#32
  let v95 : BitVec 1 := Scalar.cmpi .sgt v91 c0_i32_57
  let v96 : BitVec 32 := Scalar.extui v95
  let c0_i32_58 : BitVec 32 := 0#32
  let v97 : BitVec 1 := Scalar.cmpi .slt v91 c0_i32_58
  let v98 : BitVec 32 := Scalar.extui v97
  let v99 : BitVec 32 := Scalar.subi v96 v98
  let c2_i32_56 : BitVec 32 := 2#32
  let c0_i32_59 : BitVec 32 := 0#32
  let v100 : BitVec 1 := Scalar.cmpi .sgt c2_i32_56 c0_i32_59
  let v101 : BitVec 32 := Scalar.extui v100
  let c0_i32_60 : BitVec 32 := 0#32
  let v102 : BitVec 1 := Scalar.cmpi .slt c2_i32_56 c0_i32_60
  let v103 : BitVec 32 := Scalar.extui v102
  let v104 : BitVec 32 := Scalar.subi v101 v103
  let v105 : BitVec 1 := Scalar.cmpi .ne v99 v104
  let v106 : BitVec 32 := Scalar.remsi v91 c2_i32_56
  let c0_i32_61 : BitVec 32 := 0#32
  let v107 : BitVec 1 := Scalar.cmpi .ne v106 c0_i32_61
  let v108 : BitVec 1 := Scalar.andi v105 v107
  let v94 : BitVec 32 := Scalar.divsi v91 c2_i32_56
  let c1_i32_62 : BitVec 32 := 1#32
  let v109 : BitVec 32 := Scalar.subi v94 c1_i32_62
  let v110 : BitVec 32 := Scalar.select v108 v109 v94
  let c512_i32 : BitVec 32 := 512#32
  let v111 : BitVec 32 := Scalar.muli v110 c512_i32
  let v249 : Index := Scalar.indexCast v111
  let c896 : Index := 896#32
  ![v249.toNat, 896]
def k0_off10 (d0 : Dev nD) (c1_i32_48 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c1_i32_48
  let c4_i32_49 : BitVec 32 := 4#32
  let c0_i32_50 : BitVec 32 := 0#32
  let v82 : BitVec 1 := Scalar.cmpi .eq c4_i32_49 c0_i32_50
  let c1_i32_51 : BitVec 32 := 1#32
  let v83 : BitVec 32 := Scalar.select v82 c1_i32_51 c4_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  let c256_i32 : BitVec 32 := 256#32
  let v92 : BitVec 32 := Scalar.muli v91 c256_i32
  let c0_i32_122 : BitVec 32 := 0#32
  ![v92.toNat, 0]
def k0_dev4 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_48 : BitVec 32 := 1#32
  let v81 : BitVec 32 := Scalar.addi v2 c1_i32_48
  let c4_i32_49 : BitVec 32 := 4#32
  let c0_i32_50 : BitVec 32 := 0#32
  let v82 : BitVec 1 := Scalar.cmpi .eq c4_i32_49 c0_i32_50
  let c1_i32_51 : BitVec 32 := 1#32
  let v83 : BitVec 32 := Scalar.select v82 c1_i32_51 c4_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  let c1_i32_118 : BitVec 32 := 1#32
  let v271 : BitVec 32 := Scalar.muli v91 c1_i32_118
  let v272 : BitVec 32 := Scalar.addi c0_i32_119 v271
  v272.toNat
def k0_dev5 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_123 : BitVec 32 := 2#32
  let v280 : BitVec 32 := Scalar.addi v2 c2_i32_123
  let c4_i32_124 : BitVec 32 := 4#32
  let c0_i32_125 : BitVec 32 := 0#32
  let v281 : BitVec 1 := Scalar.cmpi .eq c4_i32_124 c0_i32_125
  let c1_i32_126 : BitVec 32 := 1#32
  let v282 : BitVec 32 := Scalar.select v281 c1_i32_126 c4_i32_124
  let v283 : BitVec 32 := Scalar.remsi v280 v282
  let c0_i32_128 : BitVec 32 := 0#32
  let v285 : BitVec 1 := Scalar.cmpi .slt v283 c0_i32_128
  let c0_i32_129 : BitVec 32 := 0#32
  let v286 : BitVec 1 := Scalar.cmpi .slt v282 c0_i32_129
  let v287 : BitVec 1 := Scalar.xori v285 v286
  let c0_i32_127 : BitVec 32 := 0#32
  let v284 : BitVec 1 := Scalar.cmpi .ne v283 c0_i32_127
  let v288 : BitVec 1 := Scalar.andi v287 v284
  let v289 : BitVec 32 := Scalar.addi v283 v282
  let v290 : BitVec 32 := Scalar.select v288 v289 v283
  let c1_i32_201 : BitVec 32 := 1#32
  let v470 : BitVec 32 := Scalar.muli v290 c1_i32_201
  let v471 : BitVec 32 := Scalar.addi c0_i32_202 v470
  v471.toNat
def k0_dev6 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_206 : BitVec 32 := 3#32
  let v479 : BitVec 32 := Scalar.addi v2 c3_i32_206
  let c4_i32_207 : BitVec 32 := 4#32
  let c0_i32_208 : BitVec 32 := 0#32
  let v480 : BitVec 1 := Scalar.cmpi .eq c4_i32_207 c0_i32_208
  let c1_i32_209 : BitVec 32 := 1#32
  let v481 : BitVec 32 := Scalar.select v480 c1_i32_209 c4_i32_207
  let v482 : BitVec 32 := Scalar.remsi v479 v481
  let c0_i32_211 : BitVec 32 := 0#32
  let v484 : BitVec 1 := Scalar.cmpi .slt v482 c0_i32_211
  let c0_i32_212 : BitVec 32 := 0#32
  let v485 : BitVec 1 := Scalar.cmpi .slt v481 c0_i32_212
  let v486 : BitVec 1 := Scalar.xori v484 v485
  let c0_i32_210 : BitVec 32 := 0#32
  let v483 : BitVec 1 := Scalar.cmpi .ne v482 c0_i32_210
  let v487 : BitVec 1 := Scalar.andi v486 v483
  let v488 : BitVec 32 := Scalar.addi v482 v481
  let v489 : BitVec 32 := Scalar.select v487 v488 v482
  let c1_i32_284 : BitVec 32 := 1#32
  let v669 : BitVec 32 := Scalar.muli v489 c1_i32_284
  let v670 : BitVec 32 := Scalar.addi c0_i32_285 v669
  v670.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_289 : BitVec 32 := 256#32
  let v678 : BitVec 32 := Scalar.muli v2 c256_i32_289
  let v697 : Index := Scalar.indexCast v678
  let c0_298 : Index := 0#32
  ![v697.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_291 : BitVec 32 := 0#32
  let v680 : BitVec 1 := Scalar.cmpi .sgt v2 c0_i32_291
  let v681 : BitVec 32 := Scalar.extui v680
  let c0_i32_292 : BitVec 32 := 0#32
  let v682 : BitVec 1 := Scalar.cmpi .slt v2 c0_i32_292
  let v683 : BitVec 32 := Scalar.extui v682
  let v684 : BitVec 32 := Scalar.subi v681 v683
  let c2_i32_290 : BitVec 32 := 2#32
  let c0_i32_293 : BitVec 32 := 0#32
  let v685 : BitVec 1 := Scalar.cmpi .sgt c2_i32_290 c0_i32_293
  let v686 : BitVec 32 := Scalar.extui v685
  let c0_i32_294 : BitVec 32 := 0#32
  let v687 : BitVec 1 := Scalar.cmpi .slt c2_i32_290 c0_i32_294
  let v688 : BitVec 32 := Scalar.extui v687
  let v689 : BitVec 32 := Scalar.subi v686 v688
  let v690 : BitVec 1 := Scalar.cmpi .ne v684 v689
  let v691 : BitVec 32 := Scalar.remsi v2 c2_i32_290
  let c0_i32_295 : BitVec 32 := 0#32
  let v692 : BitVec 1 := Scalar.cmpi .ne v691 c0_i32_295
  let v693 : BitVec 1 := Scalar.andi v690 v692
  let v679 : BitVec 32 := Scalar.divsi v2 c2_i32_290
  let c1_i32_296 : BitVec 32 := 1#32
  let v694 : BitVec 32 := Scalar.subi v679 c1_i32_296
  let v695 : BitVec 32 := Scalar.select v693 v694 v679
  let c512_i32_297 : BitVec 32 := 512#32
  let v696 : BitVec 32 := Scalar.muli v695 c512_i32_297
  let v722 : Index := Scalar.indexCast v696
  let c0_306 : Index := 0#32
  ![v722.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_291 : BitVec 32 := 0#32
  let v680 : BitVec 1 := Scalar.cmpi .sgt v2 c0_i32_291
  let v681 : BitVec 32 := Scalar.extui v680
  let c0_i32_292 : BitVec 32 := 0#32
  let v682 : BitVec 1 := Scalar.cmpi .slt v2 c0_i32_292
  let v683 : BitVec 32 := Scalar.extui v682
  let v684 : BitVec 32 := Scalar.subi v681 v683
  let c2_i32_290 : BitVec 32 := 2#32
  let c0_i32_293 : BitVec 32 := 0#32
  let v685 : BitVec 1 := Scalar.cmpi .sgt c2_i32_290 c0_i32_293
  let v686 : BitVec 32 := Scalar.extui v685
  let c0_i32_294 : BitVec 32 := 0#32
  let v687 : BitVec 1 := Scalar.cmpi .slt c2_i32_290 c0_i32_294
  let v688 : BitVec 32 := Scalar.extui v687
  let v689 : BitVec 32 := Scalar.subi v686 v688
  let v690 : BitVec 1 := Scalar.cmpi .ne v684 v689
  let v691 : BitVec 32 := Scalar.remsi v2 c2_i32_290
  let c0_i32_295 : BitVec 32 := 0#32
  let v692 : BitVec 1 := Scalar.cmpi .ne v691 c0_i32_295
  let v693 : BitVec 1 := Scalar.andi v690 v692
  let v679 : BitVec 32 := Scalar.divsi v2 c2_i32_290
  let c1_i32_296 : BitVec 32 := 1#32
  let v694 : BitVec 32 := Scalar.subi v679 c1_i32_296
  let v695 : BitVec 32 := Scalar.select v693 v694 v679
  let c512_i32_297 : BitVec 32 := 512#32
  let v696 : BitVec 32 := Scalar.muli v695 c512_i32_297
  let v738 : Index := Scalar.indexCast v696
  let c128_312 : Index := 128#32
  ![v738.toNat, 128]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_291 : BitVec 32 := 0#32
  let v680 : BitVec 1 := Scalar.cmpi .sgt v2 c0_i32_291
  let v681 : BitVec 32 := Scalar.extui v680
  let c0_i32_292 : BitVec 32 := 0#32
  let v682 : BitVec 1 := Scalar.cmpi .slt v2 c0_i32_292
  let v683 : BitVec 32 := Scalar.extui v682
  let v684 : BitVec 32 := Scalar.subi v681 v683
  let c2_i32_290 : BitVec 32 := 2#32
  let c0_i32_293 : BitVec 32 := 0#32
  let v685 : BitVec 1 := Scalar.cmpi .sgt c2_i32_290 c0_i32_293
  let v686 : BitVec 32 := Scalar.extui v685
  let c0_i32_294 : BitVec 32 := 0#32
  let v687 : BitVec 1 := Scalar.cmpi .slt c2_i32_290 c0_i32_294
  let v688 : BitVec 32 := Scalar.extui v687
  let v689 : BitVec 32 := Scalar.subi v686 v688
  let v690 : BitVec 1 := Scalar.cmpi .ne v684 v689
  let v691 : BitVec 32 := Scalar.remsi v2 c2_i32_290
  let c0_i32_295 : BitVec 32 := 0#32
  let v692 : BitVec 1 := Scalar.cmpi .ne v691 c0_i32_295
  let v693 : BitVec 1 := Scalar.andi v690 v692
  let v679 : BitVec 32 := Scalar.divsi v2 c2_i32_290
  let c1_i32_296 : BitVec 32 := 1#32
  let v694 : BitVec 32 := Scalar.subi v679 c1_i32_296
  let v695 : BitVec 32 := Scalar.select v693 v694 v679
  let c512_i32_297 : BitVec 32 := 512#32
  let v696 : BitVec 32 := Scalar.muli v695 c512_i32_297
  let v754 : Index := Scalar.indexCast v696
  let c256_318 : Index := 256#32
  ![v754.toNat, 256]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_291 : BitVec 32 := 0#32
  let v680 : BitVec 1 := Scalar.cmpi .sgt v2 c0_i32_291
  let v681 : BitVec 32 := Scalar.extui v680
  let c0_i32_292 : BitVec 32 := 0#32
  let v682 : BitVec 1 := Scalar.cmpi .slt v2 c0_i32_292
  let v683 : BitVec 32 := Scalar.extui v682
  let v684 : BitVec 32 := Scalar.subi v681 v683
  let c2_i32_290 : BitVec 32 := 2#32
  let c0_i32_293 : BitVec 32 := 0#32
  let v685 : BitVec 1 := Scalar.cmpi .sgt c2_i32_290 c0_i32_293
  let v686 : BitVec 32 := Scalar.extui v685
  let c0_i32_294 : BitVec 32 := 0#32
  let v687 : BitVec 1 := Scalar.cmpi .slt c2_i32_290 c0_i32_294
  let v688 : BitVec 32 := Scalar.extui v687
  let v689 : BitVec 32 := Scalar.subi v686 v688
  let v690 : BitVec 1 := Scalar.cmpi .ne v684 v689
  let v691 : BitVec 32 := Scalar.remsi v2 c2_i32_290
  let c0_i32_295 : BitVec 32 := 0#32
  let v692 : BitVec 1 := Scalar.cmpi .ne v691 c0_i32_295
  let v693 : BitVec 1 := Scalar.andi v690 v692
  let v679 : BitVec 32 := Scalar.divsi v2 c2_i32_290
  let c1_i32_296 : BitVec 32 := 1#32
  let v694 : BitVec 32 := Scalar.subi v679 c1_i32_296
  let v695 : BitVec 32 := Scalar.select v693 v694 v679
  let c512_i32_297 : BitVec 32 := 512#32
  let v696 : BitVec 32 := Scalar.muli v695 c512_i32_297
  let v770 : Index := Scalar.indexCast v696
  let c384_324 : Index := 384#32
  ![v770.toNat, 384]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_291 : BitVec 32 := 0#32
  let v680 : BitVec 1 := Scalar.cmpi .sgt v2 c0_i32_291
  let v681 : BitVec 32 := Scalar.extui v680
  let c0_i32_292 : BitVec 32 := 0#32
  let v682 : BitVec 1 := Scalar.cmpi .slt v2 c0_i32_292
  let v683 : BitVec 32 := Scalar.extui v682
  let v684 : BitVec 32 := Scalar.subi v681 v683
  let c2_i32_290 : BitVec 32 := 2#32
  let c0_i32_293 : BitVec 32 := 0#32
  let v685 : BitVec 1 := Scalar.cmpi .sgt c2_i32_290 c0_i32_293
  let v686 : BitVec 32 := Scalar.extui v685
  let c0_i32_294 : BitVec 32 := 0#32
  let v687 : BitVec 1 := Scalar.cmpi .slt c2_i32_290 c0_i32_294
  let v688 : BitVec 32 := Scalar.extui v687
  let v689 : BitVec 32 := Scalar.subi v686 v688
  let v690 : BitVec 1 := Scalar.cmpi .ne v684 v689
  let v691 : BitVec 32 := Scalar.remsi v2 c2_i32_290
  let c0_i32_295 : BitVec 32 := 0#32
  let v692 : BitVec 1 := Scalar.cmpi .ne v691 c0_i32_295
  let v693 : BitVec 1 := Scalar.andi v690 v692
  let v679 : BitVec 32 := Scalar.divsi v2 c2_i32_290
  let c1_i32_296 : BitVec 32 := 1#32
  let v694 : BitVec 32 := Scalar.subi v679 c1_i32_296
  let v695 : BitVec 32 := Scalar.select v693 v694 v679
  let c512_i32_297 : BitVec 32 := 512#32
  let v696 : BitVec 32 := Scalar.muli v695 c512_i32_297
  let v786 : Index := Scalar.indexCast v696
  let c512_330 : Index := 512#32
  ![v786.toNat, 512]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_291 : BitVec 32 := 0#32
  let v680 : BitVec 1 := Scalar.cmpi .sgt v2 c0_i32_291
  let v681 : BitVec 32 := Scalar.extui v680
  let c0_i32_292 : BitVec 32 := 0#32
  let v682 : BitVec 1 := Scalar.cmpi .slt v2 c0_i32_292
  let v683 : BitVec 32 := Scalar.extui v682
  let v684 : BitVec 32 := Scalar.subi v681 v683
  let c2_i32_290 : BitVec 32 := 2#32
  let c0_i32_293 : BitVec 32 := 0#32
  let v685 : BitVec 1 := Scalar.cmpi .sgt c2_i32_290 c0_i32_293
  let v686 : BitVec 32 := Scalar.extui v685
  let c0_i32_294 : BitVec 32 := 0#32
  let v687 : BitVec 1 := Scalar.cmpi .slt c2_i32_290 c0_i32_294
  let v688 : BitVec 32 := Scalar.extui v687
  let v689 : BitVec 32 := Scalar.subi v686 v688
  let v690 : BitVec 1 := Scalar.cmpi .ne v684 v689
  let v691 : BitVec 32 := Scalar.remsi v2 c2_i32_290
  let c0_i32_295 : BitVec 32 := 0#32
  let v692 : BitVec 1 := Scalar.cmpi .ne v691 c0_i32_295
  let v693 : BitVec 1 := Scalar.andi v690 v692
  let v679 : BitVec 32 := Scalar.divsi v2 c2_i32_290
  let c1_i32_296 : BitVec 32 := 1#32
  let v694 : BitVec 32 := Scalar.subi v679 c1_i32_296
  let v695 : BitVec 32 := Scalar.select v693 v694 v679
  let c512_i32_297 : BitVec 32 := 512#32
  let v696 : BitVec 32 := Scalar.muli v695 c512_i32_297
  let v802 : Index := Scalar.indexCast v696
  let c640_336 : Index := 640#32
  ![v802.toNat, 640]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_291 : BitVec 32 := 0#32
  let v680 : BitVec 1 := Scalar.cmpi .sgt v2 c0_i32_291
  let v681 : BitVec 32 := Scalar.extui v680
  let c0_i32_292 : BitVec 32 := 0#32
  let v682 : BitVec 1 := Scalar.cmpi .slt v2 c0_i32_292
  let v683 : BitVec 32 := Scalar.extui v682
  let v684 : BitVec 32 := Scalar.subi v681 v683
  let c2_i32_290 : BitVec 32 := 2#32
  let c0_i32_293 : BitVec 32 := 0#32
  let v685 : BitVec 1 := Scalar.cmpi .sgt c2_i32_290 c0_i32_293
  let v686 : BitVec 32 := Scalar.extui v685
  let c0_i32_294 : BitVec 32 := 0#32
  let v687 : BitVec 1 := Scalar.cmpi .slt c2_i32_290 c0_i32_294
  let v688 : BitVec 32 := Scalar.extui v687
  let v689 : BitVec 32 := Scalar.subi v686 v688
  let v690 : BitVec 1 := Scalar.cmpi .ne v684 v689
  let v691 : BitVec 32 := Scalar.remsi v2 c2_i32_290
  let c0_i32_295 : BitVec 32 := 0#32
  let v692 : BitVec 1 := Scalar.cmpi .ne v691 c0_i32_295
  let v693 : BitVec 1 := Scalar.andi v690 v692
  let v679 : BitVec 32 := Scalar.divsi v2 c2_i32_290
  let c1_i32_296 : BitVec 32 := 1#32
  let v694 : BitVec 32 := Scalar.subi v679 c1_i32_296
  let v695 : BitVec 32 := Scalar.select v693 v694 v679
  let c512_i32_297 : BitVec 32 := 512#32
  let v696 : BitVec 32 := Scalar.muli v695 c512_i32_297
  let v818 : Index := Scalar.indexCast v696
  let c768_342 : Index := 768#32
  ![v818.toNat, 768]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_291 : BitVec 32 := 0#32
  let v680 : BitVec 1 := Scalar.cmpi .sgt v2 c0_i32_291
  let v681 : BitVec 32 := Scalar.extui v680
  let c0_i32_292 : BitVec 32 := 0#32
  let v682 : BitVec 1 := Scalar.cmpi .slt v2 c0_i32_292
  let v683 : BitVec 32 := Scalar.extui v682
  let v684 : BitVec 32 := Scalar.subi v681 v683
  let c2_i32_290 : BitVec 32 := 2#32
  let c0_i32_293 : BitVec 32 := 0#32
  let v685 : BitVec 1 := Scalar.cmpi .sgt c2_i32_290 c0_i32_293
  let v686 : BitVec 32 := Scalar.extui v685
  let c0_i32_294 : BitVec 32 := 0#32
  let v687 : BitVec 1 := Scalar.cmpi .slt c2_i32_290 c0_i32_294
  let v688 : BitVec 32 := Scalar.extui v687
  let v689 : BitVec 32 := Scalar.subi v686 v688
  let v690 : BitVec 1 := Scalar.cmpi .ne v684 v689
  let v691 : BitVec 32 := Scalar.remsi v2 c2_i32_290
  let c0_i32_295 : BitVec 32 := 0#32
  let v692 : BitVec 1 := Scalar.cmpi .ne v691 c0_i32_295
  let v693 : BitVec 1 := Scalar.andi v690 v692
  let v679 : BitVec 32 := Scalar.divsi v2 c2_i32_290
  let c1_i32_296 : BitVec 32 := 1#32
  let v694 : BitVec 32 := Scalar.subi v679 c1_i32_296
  let v695 : BitVec 32 := Scalar.select v693 v694 v679
  let c512_i32_297 : BitVec 32 := 512#32
  let v696 : BitVec 32 := Scalar.muli v695 c512_i32_297
  let v834 : Index := Scalar.indexCast v696
  let c896_348 : Index := 896#32
  ![v834.toNat, 896]
def k0_off20 (d0 : Dev nD) (c0_i32_383 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_382 : BitVec 32 := 256#32
  let v872 : BitVec 32 := Scalar.muli v2 c256_i32_382
  let v873 : BitVec 32 := Scalar.addi v872 c0_i32_383
  let v888 : Index := Scalar.indexCast v873
  let c0_391 : Index := 0#32
  ![v888.toNat, 0]
def k0_off21 (d0 : Dev nD) (c0_i32_383 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_382 : BitVec 32 := 256#32
  let v872 : BitVec 32 := Scalar.muli v2 c256_i32_382
  let v873 : BitVec 32 := Scalar.addi v872 c0_i32_383
  let c0_i32_403 : BitVec 32 := 0#32
  ![v873.toNat, 0]
def k0_dev7 (d0 : Dev nD) : Nat :=
  let c0_i32_402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_392 : BitVec 32 := 1#32
  let v892 : BitVec 32 := Scalar.addi v2 c1_i32_392
  let c4_i32_393 : BitVec 32 := 4#32
  let c0_i32_394 : BitVec 32 := 0#32
  let v893 : BitVec 1 := Scalar.cmpi .eq c4_i32_393 c0_i32_394
  let c1_i32_395 : BitVec 32 := 1#32
  let v894 : BitVec 32 := Scalar.select v893 c1_i32_395 c4_i32_393
  let v895 : BitVec 32 := Scalar.remsi v892 v894
  let c0_i32_397 : BitVec 32 := 0#32
  let v897 : BitVec 1 := Scalar.cmpi .slt v895 c0_i32_397
  let c0_i32_398 : BitVec 32 := 0#32
  let v898 : BitVec 1 := Scalar.cmpi .slt v894 c0_i32_398
  let v899 : BitVec 1 := Scalar.xori v897 v898
  let c0_i32_396 : BitVec 32 := 0#32
  let v896 : BitVec 1 := Scalar.cmpi .ne v895 c0_i32_396
  let v900 : BitVec 1 := Scalar.andi v899 v896
  let v901 : BitVec 32 := Scalar.addi v895 v894
  let v902 : BitVec 32 := Scalar.select v900 v901 v895
  let c1_i32_401 : BitVec 32 := 1#32
  let v903 : BitVec 32 := Scalar.muli v902 c1_i32_401
  let v904 : BitVec 32 := Scalar.addi c0_i32_402 v903
  v904.toNat
def k0_dev8 (d0 : Dev nD) : Nat :=
  let c0_i32_415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_405 : BitVec 32 := 2#32
  let v911 : BitVec 32 := Scalar.addi v2 c2_i32_405
  let c4_i32_406 : BitVec 32 := 4#32
  let c0_i32_407 : BitVec 32 := 0#32
  let v912 : BitVec 1 := Scalar.cmpi .eq c4_i32_406 c0_i32_407
  let c1_i32_408 : BitVec 32 := 1#32
  let v913 : BitVec 32 := Scalar.select v912 c1_i32_408 c4_i32_406
  let v914 : BitVec 32 := Scalar.remsi v911 v913
  let c0_i32_410 : BitVec 32 := 0#32
  let v916 : BitVec 1 := Scalar.cmpi .slt v914 c0_i32_410
  let c0_i32_411 : BitVec 32 := 0#32
  let v917 : BitVec 1 := Scalar.cmpi .slt v913 c0_i32_411
  let v918 : BitVec 1 := Scalar.xori v916 v917
  let c0_i32_409 : BitVec 32 := 0#32
  let v915 : BitVec 1 := Scalar.cmpi .ne v914 c0_i32_409
  let v919 : BitVec 1 := Scalar.andi v918 v915
  let v920 : BitVec 32 := Scalar.addi v914 v913
  let v921 : BitVec 32 := Scalar.select v919 v920 v914
  let c1_i32_414 : BitVec 32 := 1#32
  let v922 : BitVec 32 := Scalar.muli v921 c1_i32_414
  let v923 : BitVec 32 := Scalar.addi c0_i32_415 v922
  v923.toNat
def k0_dev9 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_418 : BitVec 32 := 3#32
  let v930 : BitVec 32 := Scalar.addi v2 c3_i32_418
  let c4_i32_419 : BitVec 32 := 4#32
  let c0_i32_420 : BitVec 32 := 0#32
  let v931 : BitVec 1 := Scalar.cmpi .eq c4_i32_419 c0_i32_420
  let c1_i32_421 : BitVec 32 := 1#32
  let v932 : BitVec 32 := Scalar.select v931 c1_i32_421 c4_i32_419
  let v933 : BitVec 32 := Scalar.remsi v930 v932
  let c0_i32_423 : BitVec 32 := 0#32
  let v935 : BitVec 1 := Scalar.cmpi .slt v933 c0_i32_423
  let c0_i32_424 : BitVec 32 := 0#32
  let v936 : BitVec 1 := Scalar.cmpi .slt v932 c0_i32_424
  let v937 : BitVec 1 := Scalar.xori v935 v936
  let c0_i32_422 : BitVec 32 := 0#32
  let v934 : BitVec 1 := Scalar.cmpi .ne v933 c0_i32_422
  let v938 : BitVec 1 := Scalar.andi v937 v934
  let v939 : BitVec 32 := Scalar.addi v933 v932
  let v940 : BitVec 32 := Scalar.select v938 v939 v933
  let c1_i32_427 : BitVec 32 := 1#32
  let v941 : BitVec 32 := Scalar.muli v940 c1_i32_427
  let v942 : BitVec 32 := Scalar.addi c0_i32_428 v941
  v942.toNat
def k0_dev10 (d0 : Dev nD) : Nat :=
  let c0_i32_451 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_442 : BitVec 32 := 1#32
  let v969 : BitVec 32 := Scalar.addi v2 c1_i32_442
  let c4_i32_443 : BitVec 32 := 4#32
  let c0_i32_444 : BitVec 32 := 0#32
  let v970 : BitVec 1 := Scalar.cmpi .eq c4_i32_443 c0_i32_444
  let c1_i32_445 : BitVec 32 := 1#32
  let v971 : BitVec 32 := Scalar.select v970 c1_i32_445 c4_i32_443
  let v972 : BitVec 32 := Scalar.remsi v969 v971
  let c0_i32_447 : BitVec 32 := 0#32
  let v974 : BitVec 1 := Scalar.cmpi .slt v972 c0_i32_447
  let c0_i32_448 : BitVec 32 := 0#32
  let v975 : BitVec 1 := Scalar.cmpi .slt v971 c0_i32_448
  let v976 : BitVec 1 := Scalar.xori v974 v975
  let c0_i32_446 : BitVec 32 := 0#32
  let v973 : BitVec 1 := Scalar.cmpi .ne v972 c0_i32_446
  let v977 : BitVec 1 := Scalar.andi v976 v973
  let v978 : BitVec 32 := Scalar.addi v972 v971
  let v979 : BitVec 32 := Scalar.select v977 v978 v972
  let c1_i32_450 : BitVec 32 := 1#32
  let v980 : BitVec 32 := Scalar.muli v979 c1_i32_450
  let v981 : BitVec 32 := Scalar.addi c0_i32_451 v980
  v981.toNat
def k0_dev11 (d0 : Dev nD) : Nat :=
  let c0_i32_464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_454 : BitVec 32 := 2#32
  let v988 : BitVec 32 := Scalar.addi v2 c2_i32_454
  let c4_i32_455 : BitVec 32 := 4#32
  let c0_i32_456 : BitVec 32 := 0#32
  let v989 : BitVec 1 := Scalar.cmpi .eq c4_i32_455 c0_i32_456
  let c1_i32_457 : BitVec 32 := 1#32
  let v990 : BitVec 32 := Scalar.select v989 c1_i32_457 c4_i32_455
  let v991 : BitVec 32 := Scalar.remsi v988 v990
  let c0_i32_459 : BitVec 32 := 0#32
  let v993 : BitVec 1 := Scalar.cmpi .slt v991 c0_i32_459
  let c0_i32_460 : BitVec 32 := 0#32
  let v994 : BitVec 1 := Scalar.cmpi .slt v990 c0_i32_460
  let v995 : BitVec 1 := Scalar.xori v993 v994
  let c0_i32_458 : BitVec 32 := 0#32
  let v992 : BitVec 1 := Scalar.cmpi .ne v991 c0_i32_458
  let v996 : BitVec 1 := Scalar.andi v995 v992
  let v997 : BitVec 32 := Scalar.addi v991 v990
  let v998 : BitVec 32 := Scalar.select v996 v997 v991
  let c1_i32_463 : BitVec 32 := 1#32
  let v999 : BitVec 32 := Scalar.muli v998 c1_i32_463
  let v1000 : BitVec 32 := Scalar.addi c0_i32_464 v999
  v1000.toNat
def k0_dev12 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_467 : BitVec 32 := 3#32
  let v1007 : BitVec 32 := Scalar.addi v2 c3_i32_467
  let c4_i32_468 : BitVec 32 := 4#32
  let c0_i32_469 : BitVec 32 := 0#32
  let v1008 : BitVec 1 := Scalar.cmpi .eq c4_i32_468 c0_i32_469
  let c1_i32_470 : BitVec 32 := 1#32
  let v1009 : BitVec 32 := Scalar.select v1008 c1_i32_470 c4_i32_468
  let v1010 : BitVec 32 := Scalar.remsi v1007 v1009
  let c0_i32_472 : BitVec 32 := 0#32
  let v1012 : BitVec 1 := Scalar.cmpi .slt v1010 c0_i32_472
  let c0_i32_473 : BitVec 32 := 0#32
  let v1013 : BitVec 1 := Scalar.cmpi .slt v1009 c0_i32_473
  let v1014 : BitVec 1 := Scalar.xori v1012 v1013
  let c0_i32_471 : BitVec 32 := 0#32
  let v1011 : BitVec 1 := Scalar.cmpi .ne v1010 c0_i32_471
  let v1015 : BitVec 1 := Scalar.andi v1014 v1011
  let v1016 : BitVec 32 := Scalar.addi v1010 v1009
  let v1017 : BitVec 32 := Scalar.select v1015 v1016 v1010
  let c1_i32_476 : BitVec 32 := 1#32
  let v1018 : BitVec 32 := Scalar.muli v1017 c1_i32_476
  let v1019 : BitVec 32 := Scalar.addi c0_i32_477 v1018
  v1019.toNat
def k0_off22 (d0 : Dev nD) (c0_i32_494 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_481 : BitVec 32 := 0#32
  let v1027 : BitVec 1 := Scalar.cmpi .sgt v2 c0_i32_481
  let v1028 : BitVec 32 := Scalar.extui v1027
  let c0_i32_482 : BitVec 32 := 0#32
  let v1029 : BitVec 1 := Scalar.cmpi .slt v2 c0_i32_482
  let v1030 : BitVec 32 := Scalar.extui v1029
  let v1031 : BitVec 32 := Scalar.subi v1028 v1030
  let c2_i32_480 : BitVec 32 := 2#32
  let c0_i32_483 : BitVec 32 := 0#32
  let v1032 : BitVec 1 := Scalar.cmpi .sgt c2_i32_480 c0_i32_483
  let v1033 : BitVec 32 := Scalar.extui v1032
  let c0_i32_484 : BitVec 32 := 0#32
  let v1034 : BitVec 1 := Scalar.cmpi .slt c2_i32_480 c0_i32_484
  let v1035 : BitVec 32 := Scalar.extui v1034
  let v1036 : BitVec 32 := Scalar.subi v1033 v1035
  let v1037 : BitVec 1 := Scalar.cmpi .ne v1031 v1036
  let v1038 : BitVec 32 := Scalar.remsi v2 c2_i32_480
  let c0_i32_485 : BitVec 32 := 0#32
  let v1039 : BitVec 1 := Scalar.cmpi .ne v1038 c0_i32_485
  let v1040 : BitVec 1 := Scalar.andi v1037 v1039
  let v1026 : BitVec 32 := Scalar.divsi v2 c2_i32_480
  let c1_i32_486 : BitVec 32 := 1#32
  let v1041 : BitVec 32 := Scalar.subi v1026 c1_i32_486
  let v1042 : BitVec 32 := Scalar.select v1040 v1041 v1026
  let v1055 : Index := Scalar.indexCast v1042
  let c2_i32_487 : BitVec 32 := 2#32
  let c0_i32_488 : BitVec 32 := 0#32
  let v1043 : BitVec 1 := Scalar.cmpi .eq c2_i32_487 c0_i32_488
  let c1_i32_489 : BitVec 32 := 1#32
  let v1044 : BitVec 32 := Scalar.select v1043 c1_i32_489 c2_i32_487
  let v1045 : BitVec 32 := Scalar.remsi v2 v1044
  let c0_i32_491 : BitVec 32 := 0#32
  let v1047 : BitVec 1 := Scalar.cmpi .slt v1045 c0_i32_491
  let c0_i32_492 : BitVec 32 := 0#32
  let v1048 : BitVec 1 := Scalar.cmpi .slt v1044 c0_i32_492
  let v1049 : BitVec 1 := Scalar.xori v1047 v1048
  let c0_i32_490 : BitVec 32 := 0#32
  let v1046 : BitVec 1 := Scalar.cmpi .ne v1045 c0_i32_490
  let v1050 : BitVec 1 := Scalar.andi v1049 v1046
  let v1051 : BitVec 32 := Scalar.addi v1045 v1044
  let v1052 : BitVec 32 := Scalar.select v1050 v1051 v1045
  let c256_i32_493 : BitVec 32 := 256#32
  let v1053 : BitVec 32 := Scalar.muli v1052 c256_i32_493
  let v1054 : BitVec 32 := Scalar.addi v1053 c0_i32_494
  let v1056 : Index := Scalar.indexCast v1054
  let c0_495 : Index := 0#32
  ![v1055.toNat, v1056.toNat, 0]
def k0_off23 (d0 : Dev nD) (c1_i32_520 : BitVec 32) (c0_i32_528 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1100 : BitVec 32 := Scalar.addi v2 c1_i32_520
  let c4_i32_521 : BitVec 32 := 4#32
  let c0_i32_522 : BitVec 32 := 0#32
  let v1101 : BitVec 1 := Scalar.cmpi .eq c4_i32_521 c0_i32_522
  let c1_i32_523 : BitVec 32 := 1#32
  let v1102 : BitVec 32 := Scalar.select v1101 c1_i32_523 c4_i32_521
  let v1103 : BitVec 32 := Scalar.remsi v1100 v1102
  let c0_i32_525 : BitVec 32 := 0#32
  let v1105 : BitVec 1 := Scalar.cmpi .slt v1103 c0_i32_525
  let c0_i32_526 : BitVec 32 := 0#32
  let v1106 : BitVec 1 := Scalar.cmpi .slt v1102 c0_i32_526
  let v1107 : BitVec 1 := Scalar.xori v1105 v1106
  let c0_i32_524 : BitVec 32 := 0#32
  let v1104 : BitVec 1 := Scalar.cmpi .ne v1103 c0_i32_524
  let v1108 : BitVec 1 := Scalar.andi v1107 v1104
  let v1109 : BitVec 32 := Scalar.addi v1103 v1102
  let v1110 : BitVec 32 := Scalar.select v1108 v1109 v1103
  let c256_i32_527 : BitVec 32 := 256#32
  let v1111 : BitVec 32 := Scalar.muli v1110 c256_i32_527
  let v1112 : BitVec 32 := Scalar.addi v1111 c0_i32_528
  let v1113 : Index := Scalar.indexCast v1112
  let c0_529 : Index := 0#32
  ![v1113.toNat, 0]
def k0_off24 (d0 : Dev nD) (c1_i32_520 : BitVec 32) (c0_i32_544 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1100 : BitVec 32 := Scalar.addi v2 c1_i32_520
  let c4_i32_521 : BitVec 32 := 4#32
  let c0_i32_522 : BitVec 32 := 0#32
  let v1101 : BitVec 1 := Scalar.cmpi .eq c4_i32_521 c0_i32_522
  let c1_i32_523 : BitVec 32 := 1#32
  let v1102 : BitVec 32 := Scalar.select v1101 c1_i32_523 c4_i32_521
  let v1103 : BitVec 32 := Scalar.remsi v1100 v1102
  let c0_i32_525 : BitVec 32 := 0#32
  let v1105 : BitVec 1 := Scalar.cmpi .slt v1103 c0_i32_525
  let c0_i32_526 : BitVec 32 := 0#32
  let v1106 : BitVec 1 := Scalar.cmpi .slt v1102 c0_i32_526
  let v1107 : BitVec 1 := Scalar.xori v1105 v1106
  let c0_i32_524 : BitVec 32 := 0#32
  let v1104 : BitVec 1 := Scalar.cmpi .ne v1103 c0_i32_524
  let v1108 : BitVec 1 := Scalar.andi v1107 v1104
  let v1109 : BitVec 32 := Scalar.addi v1103 v1102
  let v1110 : BitVec 32 := Scalar.select v1108 v1109 v1103
  let c0_i32_531 : BitVec 32 := 0#32
  let v1117 : BitVec 1 := Scalar.cmpi .sgt v1110 c0_i32_531
  let v1118 : BitVec 32 := Scalar.extui v1117
  let c0_i32_532 : BitVec 32 := 0#32
  let v1119 : BitVec 1 := Scalar.cmpi .slt v1110 c0_i32_532
  let v1120 : BitVec 32 := Scalar.extui v1119
  let v1121 : BitVec 32 := Scalar.subi v1118 v1120
  let c2_i32_530 : BitVec 32 := 2#32
  let c0_i32_533 : BitVec 32 := 0#32
  let v1122 : BitVec 1 := Scalar.cmpi .sgt c2_i32_530 c0_i32_533
  let v1123 : BitVec 32 := Scalar.extui v1122
  let c0_i32_534 : BitVec 32 := 0#32
  let v1124 : BitVec 1 := Scalar.cmpi .slt c2_i32_530 c0_i32_534
  let v1125 : BitVec 32 := Scalar.extui v1124
  let v1126 : BitVec 32 := Scalar.subi v1123 v1125
  let v1127 : BitVec 1 := Scalar.cmpi .ne v1121 v1126
  let v1128 : BitVec 32 := Scalar.remsi v1110 c2_i32_530
  let c0_i32_535 : BitVec 32 := 0#32
  let v1129 : BitVec 1 := Scalar.cmpi .ne v1128 c0_i32_535
  let v1130 : BitVec 1 := Scalar.andi v1127 v1129
  let v1116 : BitVec 32 := Scalar.divsi v1110 c2_i32_530
  let c1_i32_536 : BitVec 32 := 1#32
  let v1131 : BitVec 32 := Scalar.subi v1116 c1_i32_536
  let v1132 : BitVec 32 := Scalar.select v1130 v1131 v1116
  let v1145 : Index := Scalar.indexCast v1132
  let c2_i32_537 : BitVec 32 := 2#32
  let c0_i32_538 : BitVec 32 := 0#32
  let v1133 : BitVec 1 := Scalar.cmpi .eq c2_i32_537 c0_i32_538
  let c1_i32_539 : BitVec 32 := 1#32
  let v1134 : BitVec 32 := Scalar.select v1133 c1_i32_539 c2_i32_537
  let v1135 : BitVec 32 := Scalar.remsi v1110 v1134
  let c0_i32_541 : BitVec 32 := 0#32
  let v1137 : BitVec 1 := Scalar.cmpi .slt v1135 c0_i32_541
  let c0_i32_542 : BitVec 32 := 0#32
  let v1138 : BitVec 1 := Scalar.cmpi .slt v1134 c0_i32_542
  let v1139 : BitVec 1 := Scalar.xori v1137 v1138
  let c0_i32_540 : BitVec 32 := 0#32
  let v1136 : BitVec 1 := Scalar.cmpi .ne v1135 c0_i32_540
  let v1140 : BitVec 1 := Scalar.andi v1139 v1136
  let v1141 : BitVec 32 := Scalar.addi v1135 v1134
  let v1142 : BitVec 32 := Scalar.select v1140 v1141 v1135
  let c256_i32_543 : BitVec 32 := 256#32
  let v1143 : BitVec 32 := Scalar.muli v1142 c256_i32_543
  let v1144 : BitVec 32 := Scalar.addi v1143 c0_i32_544
  let v1146 : Index := Scalar.indexCast v1144
  let c0_545 : Index := 0#32
  ![v1145.toNat, v1146.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x512x1024 : Shape := ⟨3, ![2, 512, 1024]⟩
abbrev S1024x4096 : Shape := ⟨2, ![1024, 4096]⟩
abbrev S4096x1024 : Shape := ⟨2, ![4096, 1024]⟩
abbrev S64 : Shape := ⟨1, ![64]⟩
abbrev S_ : Shape := ⟨0, ![]⟩
abbrev S512 : Shape := ⟨1, ![512]⟩
abbrev S512x1 : Shape := ⟨2, ![512, 1]⟩
abbrev S1x64 : Shape := ⟨2, ![1, 64]⟩
abbrev S512x64 : Shape := ⟨2, ![512, 64]⟩
abbrev S512x64x2 : Shape := ⟨3, ![512, 64, 2]⟩
abbrev S512x128 : Shape := ⟨2, ![512, 128]⟩
abbrev S2x512x4096 : Shape := ⟨3, ![2, 512, 4096]⟩
abbrev S2x512x32x128 : Shape := ⟨4, ![2, 512, 32, 128]⟩
abbrev S2x512x32x64x2 : Shape := ⟨5, ![2, 512, 32, 64, 2]⟩
abbrev S2x512x32x64x1 : Shape := ⟨5, ![2, 512, 32, 64, 1]⟩
abbrev S2x512x32x64 : Shape := ⟨4, ![2, 512, 32, 64]⟩
abbrev S1x512x1x128 : Shape := ⟨4, ![1, 512, 1, 128]⟩
abbrev S2x32x512x512 : Shape := ⟨4, ![2, 32, 512, 512]⟩
abbrev S2x32x512 : Shape := ⟨3, ![2, 32, 512]⟩
abbrev S2x32x512x1 : Shape := ⟨4, ![2, 32, 512, 1]⟩
abbrev S2x32x128x512 : Shape := ⟨4, ![2, 32, 128, 512]⟩

abbrev nBuf : Space → Nat
  | .hbm => 94
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S512, .i32⟩
  | .hbm, ⟨23, _⟩ => ⟨S512x1, .i32⟩
  | .hbm, ⟨24, _⟩ => ⟨S1x64, .f32⟩
  | .hbm, ⟨25, _⟩ => ⟨S512x1, .f32⟩
  | .hbm, ⟨26, _⟩ => ⟨S512x64, .f32⟩
  | .hbm, ⟨27, _⟩ => ⟨S512x64, .f32⟩
  | .hbm, ⟨28, _⟩ => ⟨S512x64, .f32⟩
  | .hbm, ⟨29, _⟩ => ⟨S512x64, .f32⟩
  | .hbm, ⟨30, _⟩ => ⟨S512x64x2, .f32⟩
  | .hbm, ⟨31, _⟩ => ⟨S512x128, .f32⟩
  | .hbm, ⟨32, _⟩ => ⟨S512x64, .f32⟩
  | .hbm, ⟨33, _⟩ => ⟨S512x64x2, .f32⟩
  | .hbm, ⟨34, _⟩ => ⟨S512x128, .f32⟩
  | .hbm, ⟨35, _⟩ => ⟨S2x512x4096, .f32⟩
  | .hbm, ⟨36, _⟩ => ⟨S2x512x32x128, .f32⟩
  | .hbm, ⟨37, _⟩ => ⟨S2x512x32x64x2, .f32⟩
  | .hbm, ⟨38, _⟩ => ⟨S2x512x32x64x1, .f32⟩
  | .hbm, ⟨39, _⟩ => ⟨S2x512x32x64, .f32⟩
  | .hbm, ⟨40, _⟩ => ⟨S2x512x32x64, .f32⟩
  | .hbm, ⟨41, _⟩ => ⟨S2x512x32x64x1, .f32⟩
  | .hbm, ⟨42, _⟩ => ⟨S2x512x32x64, .f32⟩
  | .hbm, ⟨43, _⟩ => ⟨S2x512x32x64x1, .f32⟩
  | .hbm, ⟨44, _⟩ => ⟨S2x512x32x64x1, .f32⟩
  | .hbm, ⟨45, _⟩ => ⟨S2x512x32x64x2, .f32⟩
  | .hbm, ⟨46, _⟩ => ⟨S2x512x32x128, .f32⟩
  | .hbm, ⟨47, _⟩ => ⟨S1x512x1x128, .f32⟩
  | .hbm, ⟨48, _⟩ => ⟨S2x512x32x128, .f32⟩
  | .hbm, ⟨49, _⟩ => ⟨S2x512x32x128, .f32⟩
  | .hbm, ⟨50, _⟩ => ⟨S1x512x1x128, .f32⟩
  | .hbm, ⟨51, _⟩ => ⟨S2x512x32x128, .f32⟩
  | .hbm, ⟨52, _⟩ => ⟨S2x512x32x128, .f32⟩
  | .hbm, ⟨53, _⟩ => ⟨S2x512x32x128, .f32⟩
  | .hbm, ⟨54, _⟩ => ⟨S2x512x4096, .f32⟩
  | .hbm, ⟨55, _⟩ => ⟨S2x512x32x128, .f32⟩
  | .hbm, ⟨56, _⟩ => ⟨S2x512x32x64x2, .f32⟩
  | .hbm, ⟨57, _⟩ => ⟨S2x512x32x64x1, .f32⟩
  | .hbm, ⟨58, _⟩ => ⟨S2x512x32x64, .f32⟩
  | .hbm, ⟨59, _⟩ => ⟨S2x512x32x64, .f32⟩
  | .hbm, ⟨60, _⟩ => ⟨S2x512x32x64x1, .f32⟩
  | .hbm, ⟨61, _⟩ => ⟨S2x512x32x64, .f32⟩
  | .hbm, ⟨62, _⟩ => ⟨S2x512x32x64x1, .f32⟩
  | .hbm, ⟨63, _⟩ => ⟨S2x512x32x64x1, .f32⟩
  | .hbm, ⟨64, _⟩ => ⟨S2x512x32x64x2, .f32⟩
  | .hbm, ⟨65, _⟩ => ⟨S2x512x32x128, .f32⟩
  | .hbm, ⟨66, _⟩ => ⟨S1x512x1x128, .f32⟩
  | .hbm, ⟨67, _⟩ => ⟨S2x512x32x128, .f32⟩
  | .hbm, ⟨68, _⟩ => ⟨S2x512x32x128, .f32⟩
  | .hbm, ⟨69, _⟩ => ⟨S1x512x1x128, .f32⟩
  | .hbm, ⟨70, _⟩ => ⟨S2x512x32x128, .f32⟩
  | .hbm, ⟨71, _⟩ => ⟨S2x512x32x128, .f32⟩
  | .hbm, ⟨72, _⟩ => ⟨S2x512x32x128, .f32⟩
  | .hbm, ⟨73, _⟩ => ⟨S2x512x4096, .f32⟩
  | .hbm, ⟨74, _⟩ => ⟨S2x512x32x128, .f32⟩
  | .hbm, ⟨75, _⟩ => ⟨S2x32x512x512, .f32⟩
  | .hbm, ⟨76, _⟩ => ⟨S_, .f32⟩
  | .hbm, ⟨77, _⟩ => ⟨S2x32x512x512, .f32⟩
  | .hbm, ⟨78, _⟩ => ⟨S2x32x512x512, .f32⟩
  | .hbm, ⟨79, _⟩ => ⟨S_, .f32⟩
  | .hbm, ⟨80, _⟩ => ⟨S2x32x512, .f32⟩
  | .hbm, ⟨81, _⟩ => ⟨S2x32x512x1, .f32⟩
  | .hbm, ⟨82, _⟩ => ⟨S2x32x512x512, .f32⟩
  | .hbm, ⟨83, _⟩ => ⟨S2x32x512x512, .f32⟩
  | .hbm, ⟨84, _⟩ => ⟨S2x32x512x512, .f32⟩
  | .hbm, ⟨85, _⟩ => ⟨S_, .f32⟩
  | .hbm, ⟨86, _⟩ => ⟨S2x32x512, .f32⟩
  | .hbm, ⟨87, _⟩ => ⟨S2x32x512x1, .f32⟩
  | .hbm, ⟨88, _⟩ => ⟨S2x32x512x512, .f32⟩
  | .hbm, ⟨89, _⟩ => ⟨S2x32x512x512, .f32⟩
  | .hbm, ⟨90, _⟩ => ⟨S2x32x128x512, .f32⟩
  | .hbm, ⟨91, _⟩ => ⟨S2x512x32x128, .f32⟩
  | .hbm, ⟨92, _⟩ => ⟨S2x512x4096, .f32⟩
  | .hbm, ⟨93, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Values.lean ====
/-
  What each device of the attention kernel computes, as functions of the eight arrays its body is given: the keys and
  values it keeps, its four partial outputs (one per row chunk), the contents of the buffers the devices exchange, and
  the whole result. Nothing here speaks of a run.
-/
module

public import proofs.«01_k».proof.Proof.Gen.KernelIdeal.Frame
public import proofs.«01_k».proof.Proof.Gen.KernelIdeal.Skeleton

@[expose] public section

set_option maxRecDepth 16384

noncomputable section

namespace Cert.KernelIdeal.Att

open Idealize.ShloMosaic Idealize.SL.Sem
open Cert.KernelIdeal Cert.KernelIdeal.Gen

variable {F : FTy → Type} [FloatOps F]

/-! ## Devices around the ring -/

/-- The device `d` places after `c`. -/
def pr (d : Fin 4) (c : Dev nD) : Dev nD := ⟨(c.val + d.val) % 4, Nat.mod_lt _ (by decide)⟩

theorem pr_zero (c : Dev nD) : pr 0 c = c := by revert c; decide
theorem pr_pr (d e : Fin 4) (c : Dev nD) : pr d (pr e c) = pr (d + e) c := by revert d e c; decide
theorem pr_val (d : Fin 4) (c : Dev nD) : (pr d c).val = (c.val + d.val) % 4 := rfl

/-! ## Blocks of an array -/

/-- The block of `S` at offsets `off` of an array. -/
def blk {s : Shape} {e : EltTy} (f : Vec F s e) (off : Fin s.rank → Nat) (size : Fin s.rank → Nat)
    (h : ∀ a, off a + size a ≤ s.size a) : Vec F ⟨s.rank, size⟩ e :=
  fun x => f ((Rect.unit (s := s) off size h).emb x)

/-! ## One device's arrays -/

/-- The arrays one device's body is given: the input rows, the device's columns of the three projections and rows of
    the output projection, and the three rotation tables. -/
structure Ins (F : FTy → Type) [FloatOps F] where
  x : Vec F S1024x1024 .f32
  wq : Vec F S1024x1024 .f32
  wk : Vec F S1024x1024 .f32
  wv : Vec F S1024x1024 .f32
  wo : Vec F S1024x1024 .f32
  cs : Vec F S1024x1024 .f32
  sa : Vec F S1024x1024 .f32
  sb : Vec F S1024x1024 .f32

variable (a : Ins F) (c : Dev nD)

/-- The rotated keys of a device's heads. -/
def kB : Vec F S1024x1024 .bf16 := k0_pay8 (k0_pay5 a.x a.wk a.cs a.sa) (k0_pay6 a.x a.wk) (k0_pay7 a.sb)
/-- The values of a device's heads. -/
def vB : Vec F S1024x1024 .bf16 := k0_pay9 (k0_pay1 a.x) a.wv

/-- A device's partial output at the row chunk of the device one place on. -/
def chunk1 : Vec F S256x1024 .bf16 :=
  let v48 := k0_pay2 a.wq
  let v51 := k0_pay3 a.wo
  let v113 : Vec F S256x1024 _ := blk a.x (k0_off1 c 1#32) S256x1024.size (k0_off1_inb c 0)
  let v120 : Vec F S256x1024 _ := blk a.cs (k0_off1 c 1#32) S256x1024.size (k0_off1_inb c 0)
  let v125 : Vec F S256x1024 _ := blk a.sa (k0_off1 c 1#32) S256x1024.size (k0_off1_inb c 0)
  let v131 : Vec F S256x1024 _ := blk a.sb (k0_off1 c 1#32) S256x1024.size (k0_off1_inb c 0)
  let v138 : Vec F S512x128 _ := blk (kB a) (k0_off2 c 1#32) S512x128.size (k0_off2_inb c 0)
  let v140 : Vec F S512x128 _ := blk (vB a) (k0_off2 c 1#32) S512x128.size (k0_off2_inb c 0)
  let v154 : Vec F S512x128 _ := blk (kB a) (k0_off3 c 1#32) S512x128.size (k0_off3_inb c 0)
  let v156 : Vec F S512x128 _ := blk (vB a) (k0_off3 c 1#32) S512x128.size (k0_off3_inb c 0)
  let v170 : Vec F S512x128 _ := blk (kB a) (k0_off4 c 1#32) S512x128.size (k0_off4_inb c 0)
  let v172 : Vec F S512x128 _ := blk (vB a) (k0_off4 c 1#32) S512x128.size (k0_off4_inb c 0)
  let v186 : Vec F S512x128 _ := blk (kB a) (k0_off5 c 1#32) S512x128.size (k0_off5_inb c 0)
  let v188 : Vec F S512x128 _ := blk (vB a) (k0_off5 c 1#32) S512x128.size (k0_off5_inb c 0)
  let v202 : Vec F S512x128 _ := blk (kB a) (k0_off6 c 1#32) S512x128.size (k0_off6_inb c 0)
  let v204 : Vec F S512x128 _ := blk (vB a) (k0_off6 c 1#32) S512x128.size (k0_off6_inb c 0)
  let v218 : Vec F S512x128 _ := blk (kB a) (k0_off7 c 1#32) S512x128.size (k0_off7_inb c 0)
  let v220 : Vec F S512x128 _ := blk (vB a) (k0_off7 c 1#32) S512x128.size (k0_off7_inb c 0)
  let v234 : Vec F S512x128 _ := blk (kB a) (k0_off8 c 1#32) S512x128.size (k0_off8_inb c 0)
  let v236 : Vec F S512x128 _ := blk (vB a) (k0_off8 c 1#32) S512x128.size (k0_off8_inb c 0)
  let v250 : Vec F S512x128 _ := blk (kB a) (k0_off9 c 1#32) S512x128.size (k0_off9_inb c 0)
  let v252 : Vec F S512x128 _ := blk (vB a) (k0_off9 c 1#32) S512x128.size (k0_off9_inb c 0)
  let cst := Scalar.ofBits (F := F) .f32 0x3F800000#32
  let v135 := k0_pay10 v48 v113 v120 v125 v131
  let v144 := k0_pay12 v48 v113 v120 v125 v131 v138
  let v146 := k0_pay13 v48 v113 v120 v125 v131 v138 v140
  let v151 := k0_pay14 v144 v146 cst
  let v167 := k0_pay15 v135 v154 v156
  let v183 := k0_pay16 v135 v170 v172
  let v190 := k0_pay17 v135 v186
  let v199 := k0_pay18 v188 v190
  let v215 := k0_pay19 v135 v202 v204
  let v231 := k0_pay20 v135 v218 v220
  let v232 := k0_pay21 v135
  k0_pay22 v51 v135 v151 v167 v183 v199 v215 v231 v232 v234 v236 v250 v252

/-- A device's partial output at the row chunk of the device two places on. -/
def chunk2 : Vec F S256x1024 .bf16 :=
  let v48 := k0_pay2 a.wq
  let v51 := k0_pay3 a.wo
  let v312 : Vec F S256x1024 _ := blk a.x (k0_off1 c 2#32) S256x1024.size (k0_off1_inb c 1)
  let v319 : Vec F S256x1024 _ := blk a.cs (k0_off1 c 2#32) S256x1024.size (k0_off1_inb c 1)
  let v324 : Vec F S256x1024 _ := blk a.sa (k0_off1 c 2#32) S256x1024.size (k0_off1_inb c 1)
  let v330 : Vec F S256x1024 _ := blk a.sb (k0_off1 c 2#32) S256x1024.size (k0_off1_inb c 1)
  let v337 : Vec F S512x128 _ := blk (kB a) (k0_off2 c 2#32) S512x128.size (k0_off2_inb c 1)
  let v339 : Vec F S512x128 _ := blk (vB a) (k0_off2 c 2#32) S512x128.size (k0_off2_inb c 1)
  let v353 : Vec F S512x128 _ := blk (kB a) (k0_off3 c 2#32) S512x128.size (k0_off3_inb c 1)
  let v355 : Vec F S512x128 _ := blk (vB a) (k0_off3 c 2#32) S512x128.size (k0_off3_inb c 1)
  let v369 : Vec F S512x128 _ := blk (kB a) (k0_off4 c 2#32) S512x128.size (k0_off4_inb c 1)
  let v371 : Vec F S512x128 _ := blk (vB a) (k0_off4 c 2#32) S512x128.size (k0_off4_inb c 1)
  let v385 : Vec F S512x128 _ := blk (kB a) (k0_off5 c 2#32) S512x128.size (k0_off5_inb c 1)
  let v387 : Vec F S512x128 _ := blk (vB a) (k0_off5 c 2#32) S512x128.size (k0_off5_inb c 1)
  let v401 : Vec F S512x128 _ := blk (kB a) (k0_off6 c 2#32) S512x128.size (k0_off6_inb c 1)
  let v403 : Vec F S512x128 _ := blk (vB a) (k0_off6 c 2#32) S512x128.size (k0_off6_inb c 1)
  let v417 : Vec F S512x128 _ := blk (kB a) (k0_off7 c 2#32) S512x128.size (k0_off7_inb c 1)
  let v419 : Vec F S512x128 _ := blk (vB a) (k0_off7 c 2#32) S512x128.size (k0_off7_inb c 1)
  let v433 : Vec F S512x128 _ := blk (kB a) (k0_off8 c 2#32) S512x128.size (k0_off8_inb c 1)
  let v435 : Vec F S512x128 _ := blk (vB a) (k0_off8 c 2#32) S512x128.size (k0_off8_inb c 1)
  let v449 : Vec F S512x128 _ := blk (kB a) (k0_off9 c 2#32) S512x128.size (k0_off9_inb c 1)
  let v451 : Vec F S512x128 _ := blk (vB a) (k0_off9 c 2#32) S512x128.size (k0_off9_inb c 1)
  let cst := constant (F := F) S256x512 .f32 0x00000000#32
  let v334 := k0_pay23 v48 v312 v319 v324 v330
  let v350 := k0_pay24 v48 v312 v319 v324 v330 v337 v339
  let v351 := k0_pay25 v48 v312 v319 v324 v330
  let v366 := k0_pay26 v351 v353 v355 cst
  let v382 := k0_pay27 v334 v369 v371
  let v398 := k0_pay28 v334 v385 v387
  let v399 := k0_pay29 v334
  let v414 := k0_pay30 v399 v401 v403
  let v430 := k0_pay31 v334 v417 v419
  let v439 := k0_pay33 v334 v433
  let v441 := k0_pay34 v334 v433 v435
  let v442 := k0_pay35 (F := F)
  k0_pay36 v51 v334 v350 v366 v382 v398 v414 v430 v439 v441 v442 v449 v451

/-- A device's partial output at the row chunk of the device three places on. -/
def chunk3 : Vec F S256x1024 .bf16 :=
  let v48 := k0_pay2 a.wq
  let v51 := k0_pay3 a.wo
  let v511 : Vec F S256x1024 _ := blk a.x (k0_off1 c 3#32) S256x1024.size (k0_off1_inb c 2)
  let v518 : Vec F S256x1024 _ := blk a.cs (k0_off1 c 3#32) S256x1024.size (k0_off1_inb c 2)
  let v523 : Vec F S256x1024 _ := blk a.sa (k0_off1 c 3#32) S256x1024.size (k0_off1_inb c 2)
  let v529 : Vec F S256x1024 _ := blk a.sb (k0_off1 c 3#32) S256x1024.size (k0_off1_inb c 2)
  let v536 : Vec F S512x128 _ := blk (kB a) (k0_off2 c 3#32) S512x128.size (k0_off2_inb c 2)
  let v538 : Vec F S512x128 _ := blk (vB a) (k0_off2 c 3#32) S512x128.size (k0_off2_inb c 2)
  let v552 : Vec F S512x128 _ := blk (kB a) (k0_off3 c 3#32) S512x128.size (k0_off3_inb c 2)
  let v554 : Vec F S512x128 _ := blk (vB a) (k0_off3 c 3#32) S512x128.size (k0_off3_inb c 2)
  let v568 : Vec F S512x128 _ := blk (kB a) (k0_off4 c 3#32) S512x128.size (k0_off4_inb c 2)
  let v570 : Vec F S512x128 _ := blk (vB a) (k0_off4 c 3#32) S512x128.size (k0_off4_inb c 2)
  let v584 : Vec F S512x128 _ := blk (kB a) (k0_off5 c 3#32) S512x128.size (k0_off5_inb c 2)
  let v586 : Vec F S512x128 _ := blk (vB a) (k0_off5 c 3#32) S512x128.size (k0_off5_inb c 2)
  let v600 : Vec F S512x128 _ := blk (kB a) (k0_off6 c 3#32) S512x128.size (k0_off6_inb c 2)
  let v602 : Vec F S512x128 _ := blk (vB a) (k0_off6 c 3#32) S512x128.size (k0_off6_inb c 2)
  let v616 : Vec F S512x128 _ := blk (kB a) (k0_off7 c 3#32) S512x128.size (k0_off7_inb c 2)
  let v618 : Vec F S512x128 _ := blk (vB a) (k0_off7 c 3#32) S512x128.size (k0_off7_inb c 2)
  let v632 : Vec F S512x128 _ := blk (kB a) (k0_off8 c 3#32) S512x128.size (k0_off8_inb c 2)
  let v634 : Vec F S512x128 _ := blk (vB a) (k0_off8 c 3#32) S512x128.size (k0_off8_inb c 2)
  let v648 : Vec F S512x128 _ := blk (kB a) (k0_off9 c 3#32) S512x128.size (k0_off9_inb c 2)
  let v650 : Vec F S512x128 _ := blk (vB a) (k0_off9 c 3#32) S512x128.size (k0_off9_inb c 2)
  let v516 := k0_pay37 v48 v511
  let v520 := k0_pay38 v48 v511 v518
  let v521 := k0_pay39 v48 v511
  let v533 := k0_pay40 v516 v520 v521 v523 v529
  let v549 := k0_pay41 v516 v520 v521 v523 v529 v536 v538
  let v565 := k0_pay42 v516 v520 v521 v523 v529 v552 v554
  let v566 := k0_pay43 v516 v520 v521 v523 v529
  let v581 := k0_pay44 v566 v568 v570
  let v597 := k0_pay45 v533 v584 v586
  let v606 := k0_pay47 v533 v600
  let v608 := k0_pay48 v533 v600 v602
  let v609 := k0_pay49 (F := F)
  let v613 := k0_pay50 v606 v608 v609
  let v629 := k0_pay51 v533 v616 v618
  let v645 := k0_pay52 v533 v632 v634
  let v652 := k0_pay53 v533 v648
  let v653 := k0_pay54 v533 v648
  k0_pay55 v51 v549 v565 v581 v597 v613 v629 v645 v650 v652 v653

/-- A device's partial output at its own row chunk, before rounding. -/
def chunk0 : Vec F S256x1024 .f32 :=
  let v48 := k0_pay2 a.wq
  let v51 := k0_pay3 a.wo
  let v698 : Vec F S256x1024 _ := blk a.x (k0_off11 c) S256x1024.size (k0_off11_inb c)
  let v705 : Vec F S256x1024 _ := blk a.cs (k0_off11 c) S256x1024.size (k0_off11_inb c)
  let v710 : Vec F S256x1024 _ := blk a.sa (k0_off11 c) S256x1024.size (k0_off11_inb c)
  let v716 : Vec F S256x1024 _ := blk a.sb (k0_off11 c) S256x1024.size (k0_off11_inb c)
  let v723 : Vec F S512x128 _ := blk (kB a) (k0_off12 c) S512x128.size (k0_off12_inb c)
  let v725 : Vec F S512x128 _ := blk (vB a) (k0_off12 c) S512x128.size (k0_off12_inb c)
  let v739 : Vec F S512x128 _ := blk (kB a) (k0_off13 c) S512x128.size (k0_off13_inb c)
  let v741 : Vec F S512x128 _ := blk (vB a) (k0_off13 c) S512x128.size (k0_off13_inb c)
  let v755 : Vec F S512x128 _ := blk (kB a) (k0_off14 c) S512x128.size (k0_off14_inb c)
  let v757 : Vec F S512x128 _ := blk (vB a) (k0_off14 c) S512x128.size (k0_off14_inb c)
  let v771 : Vec F S512x128 _ := blk (kB a) (k0_off15 c) S512x128.size (k0_off15_inb c)
  let v773 : Vec F S512x128 _ := blk (vB a) (k0_off15 c) S512x128.size (k0_off15_inb c)
  let v787 : Vec F S512x128 _ := blk (kB a) (k0_off16 c) S512x128.size (k0_off16_inb c)
  let v789 : Vec F S512x128 _ := blk (vB a) (k0_off16 c) S512x128.size (k0_off16_inb c)
  let v803 : Vec F S512x128 _ := blk (kB a) (k0_off17 c) S512x128.size (k0_off17_inb c)
  let v805 : Vec F S512x128 _ := blk (vB a) (k0_off17 c) S512x128.size (k0_off17_inb c)
  let v819 : Vec F S512x128 _ := blk (kB a) (k0_off18 c) S512x128.size (k0_off18_inb c)
  let v821 : Vec F S512x128 _ := blk (vB a) (k0_off18 c) S512x128.size (k0_off18_inb c)
  let v835 : Vec F S512x128 _ := blk (kB a) (k0_off19 c) S512x128.size (k0_off19_inb c)
  let v837 : Vec F S512x128 _ := blk (vB a) (k0_off19 c) S512x128.size (k0_off19_inb c)
  let v720 := k0_pay56 v48 v698 v705 v710 v716
  let v736 := k0_pay57 v48 v698 v705 v710 v716 v723 v725
  let v752 := k0_pay58 v720 v739 v741
  let v768 := k0_pay59 v720 v755 v757
  let v777 := k0_pay61 v720 v771
  let v779 := k0_pay62 v720 v771 v773
  let v784 := k0_pay63 v777 v779
  let v800 := k0_pay64 v720 v787 v789
  let v816 := k0_pay65 v720 v803 v805
  let v823 := k0_pay66 v720 v819
  k0_pay67 v51 v720 v736 v752 v768 v784 v800 v816 v821 v823 v835 v837

/-- The partial output a device sends `d` places on (`d` is 1, 2 or 3). -/
def chunk (d : Fin 3) : Vec F S256x1024 .bf16 :=
  match d with
  | 0 => chunk1 a c
  | 1 => chunk2 a c
  | 2 => chunk3 a c

/-! ## The exchanged buffers -/

variable (A : Dev nD → Ins F)

/-- The row, and the column, of an index of a matrix. -/
abbrev row {n k : Nat} (i : (⟨2, ![n, k]⟩ : Shape).Idx) : Nat := (i 0).val
abbrev col {n k : Nat} (i : (⟨2, ![n, k]⟩ : Shape).Idx) : Nat := (i 1).val

/-- An index of a 256-row block, from its row and column. -/
def ix256 (i : Nat) (j : Nat) (hi : i < 256) (hj : j < 1024) : S256x1024.Idx := fun b =>
  match b with
  | 0 => ⟨i, hi⟩
  | 1 => ⟨j, hj⟩
/-- An index of a 128-row block, from its row and column. -/
def ix128 (i : Nat) (j : Nat) (hi : i < 128) (hj : j < 1024) : S128x1024.Idx := fun b =>
  match b with
  | 0 => ⟨i, hi⟩
  | 1 => ⟨j, hj⟩

/-- What device `c`'s partial-output buffer holds in the three chunks it sends: the rows of chunk `c + d` are the
    partial output for the device `d` places on. (The own chunk is never written: it stands at the first one's.) -/
def p16 : Vec F S1024x1024 .bf16 := fun i =>
  let d : Nat := ((i 0).val / 256 + 4 - c.val) % 4
  let y : S256x1024.Idx := ix256 ((i 0).val % 256) (i 1).val (Nat.mod_lt _ (by decide)) (i 1).isLt
  if d = 1 then chunk (A c) c 0 y else if d = 2 then chunk (A c) c 1 y else chunk (A c) c 2 y

/-- What device `c`'s receive buffer holds: slot `s` is the partial output of the device `s + 1` places on, for `c`'s
    rows. -/
def rsB : Vec F S3x256x1024 .bf16 := fun i =>
  let y : S256x1024.Idx := ix256 (i 1).val (i 2).val (i 1).isLt (i 2).isLt
  if (i 0).val = 0 then chunk (A (pr 1 c)) (pr 1 c) 2 y
  else if (i 0).val = 1 then chunk (A (pr 2 c)) (pr 2 c) 1 y
  else chunk (A (pr 3 c)) (pr 3 c) 0 y

theorem rs_inb (s : Fin 3) (h : Fin 2) : ∀ b, (![s.val, 128 * h.val, 0] : Fin 3 → Nat) b + S1x128x1024.size b ≤ S3x256x1024.size b := by
  revert s h; decide

/-- Half `h` of slot `s` of device `c`'s receive buffer. -/
def rsV (s : Fin 3) (h : Fin 2) : Vec F S1x128x1024 .bf16 :=
  blk (rsB c A) ![s.val, 128 * h.val, 0] S1x128x1024.size (rs_inb s h)

/-- Half `h` of device `c`'s reduced rows: in the sum's own format, and rounded for the exchange. -/
def redF (h : Fin 2) : Vec F S128x1024 .f32 :=
  match h with
  | 0 => k0_pay68 (chunk0 (A c) c) (rsV c A 0 0) (rsV c A 1 0) (rsV c A 2 0)
  | 1 => k0_pay71 (k0_pay70 (chunk0 (A c) c) (rsV c A 0 1) (rsV c A 1 1)) (rsV c A 2 1)
def redB (h : Fin 2) : Vec F S128x1024 .bf16 :=
  match h with
  | 0 => k0_pay69 (chunk0 (A c) c) (rsV c A 0 0) (rsV c A 1 0) (rsV c A 2 0)
  | 1 => k0_pay72 (k0_pay70 (chunk0 (A c) c) (rsV c A 0 1) (rsV c A 1 1)) (rsV c A 2 1)

/-- What every device's gather buffer holds at the end: device `j`'s rounded halves at `j`'s rows. -/
def agB : Vec F S1024x1024 .bf16 := fun i =>
  redB ⟨(i 0).val / 256, Nat.div_lt_of_lt_mul (i 0).isLt⟩ A ⟨(i 0).val % 256 / 128, Nat.div_lt_of_lt_mul (Nat.mod_lt _ (by decide))⟩
    (ix128 ((i 0).val % 128) (i 1).val (Nat.mod_lt _ (by decide)) (i 1).isLt)

end Cert.KernelIdeal.Att
-- ==== Proof.Protocol.lean ====
/-
  The exchange between the four devices, as a schedule of payments to semaphore cells. Every cell serves one round.

  Device `c`'s barrier cell is paid once by each other device `p`, who hands over the slot of its receive buffer and the
  two half-chunks of its gather buffer that `c` will write, and the news that the receive cells `c` will pay are open.
  A send cell is paid by the device's own copy, with the source back. A receive cell is paid by the other device's copy,
  with the destination at its contents.
-/
module

public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk
public import proofs.«01_k».proof.Proof.Values

@[expose] public section

set_option maxRecDepth 16384
set_option synthInstance.maxSize 4096

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The exchange's eighteen DMA semaphores: three reduce sends, three reduce receives, six gather sends, six gather
    receives. -/
def dsem (k : Fin 18) : DmaSem sig := ⟨9 + k.val, by have := k.isLt; show 9 + k.val < 27; omega⟩
abbrev bCell (c : Dev nD) : GSem nD τ sig := ((c : Thread nD τ), .reg barrier0)
abbrev dCell (c : Dev nD) (k : Fin 18) : GSem nD τ sig := ((c : Thread nD τ), .dma (dsem k))

/-- Send and receive cells by transfer: the copy to the device `d + 1` places on. -/
def rsS (d : Fin 3) : Fin 18 := ⟨d.val, by omega⟩
def rsR (s : Fin 3) : Fin 18 := ⟨3 + s.val, by omega⟩
def agS (d : Fin 3) (h : Fin 2) : Fin 18 := ⟨6 + (2 * d.val + h.val), by omega⟩
def agR (e : Fin 3) (h : Fin 2) : Fin 18 := ⟨12 + (2 * e.val + h.val), by omega⟩

/-- One device on, two, three. -/
def up (d : Fin 3) : Fin 4 := ⟨d.val + 1, by omega⟩
/-- The way back. -/
def op (d : Fin 3) : Fin 3 := ⟨2 - d.val, by omega⟩

theorem op_op (d : Fin 3) : op (op d) = d := by revert d; decide
theorem pr_up_op (d : Fin 3) (c : Dev nD) : pr (up d) (pr (up (op d)) c) = c := by revert d c; decide
theorem pr_op_up (d : Fin 3) (c : Dev nD) : pr (up (op d)) (pr (up d) c) = c := by revert d c; decide

/-! ## The pieces of the exchanged buffers -/

theorem ch_inb (j : Dev nD) : ∀ b, (![256 * j.val, 0] : Fin 2 → Nat) b + S256x1024.size b ≤ S1024x1024.size b := by
  revert j; decide
theorem hf_inb (j : Dev nD) (h : Fin 2) : ∀ b, (![256 * j.val + 128 * h.val, 0] : Fin 2 → Nat) b + S128x1024.size b ≤ S1024x1024.size b := by
  revert j h; decide
theorem sl_inb (s : Fin 3) : ∀ b, (![s.val, 0, 0] : Fin 3 → Nat) b + S1x256x1024.size b ≤ S3x256x1024.size b := by
  revert s; decide

/-- The rows of chunk `j` of the partial-output buffer. -/
def chM (j : Dev nD) : Memref sig .tc .vmem S256x1024 .bf16 :=
  (Memref.whole cc0_scratch2).slice (Rect.unit (s := S1024x1024) ![256 * j.val, 0] S256x1024.size (ch_inb j)) (fun _ => rfl)
/-- The rows of half `h` of chunk `j` of the gather buffer. -/
def hfM (j : Dev nD) (h : Fin 2) : Memref sig .tc .vmem S128x1024 .bf16 :=
  (Memref.whole cc0_scratch3).slice (Rect.unit (s := S1024x1024) ![256 * j.val + 128 * h.val, 0] S128x1024.size (hf_inb j h)) (fun _ => rfl)
/-- Slot `s` of the receive buffer. -/
def slM (s : Fin 3) : Memref sig .tc .vmem S256x1024 .bf16 :=
  ((Memref.whole cc0_scratch4).slice (Rect.unit (s := S3x256x1024) ![s.val, 0, 0] S1x256x1024.size (sl_inb s)) (fun _ => rfl)).squeeze
    S256x1024 squeezes_S1x256x1024_S256x1024

def chPts (c j : Dev nD) (f : Vec F S1024x1024 .bf16) : sProp 𝕄 :=
  (chM j).view.loc (c : Thread nD τ) ↦[(chM j).view.set]{fullShare} f
def hfPts (c j : Dev nD) (h : Fin 2) (q : PosShare TreeShare) (f : Vec F S1024x1024 .bf16) : sProp 𝕄 :=
  (hfM j h).view.loc (c : Thread nD τ) ↦[(hfM j h).view.set]{q} f
def slPts (c : Dev nD) (s : Fin 3) (f : Vec F S3x256x1024 .bf16) : sProp 𝕄 :=
  (slM s).view.loc (c : Thread nD τ) ↦[(slM s).view.set]{fullShare} f

instance chPts_storable (c j : Dev nD) (f : Vec F S1024x1024 .bf16) : BI.Storable (upEmb : UEmb _ 𝕄) (chPts c j f) := by
  unfold chPts chM; infer_instance
instance hfPts_storable (c j : Dev nD) (h : Fin 2) (q : PosShare TreeShare) (f : Vec F S1024x1024 .bf16) :
    BI.Storable (upEmb : UEmb _ 𝕄) (hfPts c j h q f) := by
  unfold hfPts hfM; infer_instance
instance slPts_storable (c : Dev nD) (s : Fin 3) (f : Vec F S3x256x1024 .bf16) : BI.Storable (upEmb : UEmb _ 𝕄) (slPts c s f) := by
  unfold slPts slM; infer_instance

/-- The three shares at which the three copies of one half-chunk read it. -/
def shr (d : Fin 3) : PosShare TreeShare :=
  match d with
  | 0 => fullShare.left
  | 1 => fullShare.right.left
  | 2 => fullShare.right.right

/-! ## The schedule -/

variable (A : Dev nD → Ins F)

/-- Paid to `c`'s barrier cell by the device `d + 1` places on. -/
def barPay (c : Dev nD) (d : Fin 3) : sProp 𝕄 :=
  iprop((∃ f, slPts (pr (up d) c) (op d) f) ∗ (∃ f, hfPts (pr (up d) c) c 0 fullShare f) ∗ (∃ f, hfPts (pr (up d) c) c 1 fullShare f)
    ∗ reached ER (dCell (pr (up d) c) (rsR (op d))) 0
    ∗ reached ER (dCell (pr (up d) c) (agR (op d) 0)) 0 ∗ reached ER (dCell (pr (up d) c) (agR (op d) 1)) 0)

/-- Paid to `c`'s DMA cell `k`. -/
def dmaPay (c : Dev nD) (k : Nat) : sProp 𝕄 :=
  if k < 3 then chPts c (pr (up (Fin.ofNat 3 k)) c) (p16 c A)
  else if k < 6 then slPts c (Fin.ofNat 3 (k - 3)) (rsB c A)
  else if k < 12 then hfPts c c (Fin.ofNat 2 (k - 6)) (shr (Fin.ofNat 3 ((k - 6) / 2))) (agB A)
  else hfPts c (pr (up (Fin.ofNat 3 ((k - 12) / 2))) c) (Fin.ofNat 2 (k - 12)) fullShare (agB A)

abbrev Nrs : ℕ := (slM 0).view.dmaCredit
abbrev Nag : ℕ := (hfM 0 0).view.dmaCredit
theorem Nrs_pos : 0 < Nrs := View.dmaCredit_pos _ (by decide)
theorem Nag_pos : 0 < Nag := View.dmaCredit_pos _ (by decide)

/-- Which cells take part. -/
def isCell (g : GSem nD τ sig) : Prop :=
  g.1.2 = .tc ∧ match g.2 with
    | .reg s => s = barrier0
    | .dma s => 9 ≤ s.val

instance (g : GSem nD τ sig) : Decidable (isCell g) := by unfold isCell; split <;> infer_instance

def dutiesOf (l : SemLoc sig) : Finset (Fin 3) :=
  match l with
  | .reg _ => Finset.univ
  | .dma _ => {0}

def rd : Rounds.Schedule (GSem nD τ sig) (Fin 3) 𝕄 where
  duties g r := if r = 0 ∧ isCell g then dutiesOf g.2 else ∅
  unitless _ := False
  amount g _ _ := match g.2 with
    | .reg _ => 1
    | .dma s => if s.val < 15 then Nrs else Nag
  payload g _ d := match g.2 with
    | .reg _ => barPay g.1.1 d
    | .dma s => dmaPay A g.1.1 (s.val - 9)
  amount_pos g _ _ _ := by
    cases g.2 with
    | reg _ => exact Nat.one_pos
    | dma s => dsimp only; split; exacts [Nrs_pos, Nag_pos]

instance rd_payload_storable (g : GSem nD τ sig) (r : ℕ) (d : Fin 3) :
    BI.Storable (upEmb : UEmb _ 𝕄) ((rd (F := F) A).payload g r d) := by
  obtain ⟨g1, g2⟩ := g
  cases g2 with
  | reg s => show BI.Storable upEmb (barPay g1.1 d); unfold barPay; infer_instance
  | dma s =>
    show BI.Storable upEmb (dmaPay A g1.1 (s.val - 9))
    unfold dmaPay
    (repeat' split) <;> infer_instance

section Tables

variable (c : Dev nD)

theorem isCell_bar : isCell (bCell c) := ⟨rfl, rfl⟩
theorem isCell_dma (k : Fin 18) : isCell (dCell c k) := ⟨rfl, Nat.le_add_right 9 _⟩

theorem duties_bar : (rd (F := F) A).duties (bCell c) 0 = Finset.univ := by
  dsimp only [rd]; rw [if_pos ⟨rfl, isCell_bar c⟩]; rfl
theorem duties_dma (k : Fin 18) : (rd (F := F) A).duties (dCell c k) 0 = {0} := by
  dsimp only [rd]; rw [if_pos ⟨rfl, isCell_dma c k⟩]; rfl
theorem duties_later (g : GSem nD τ sig) : ∀ r, 1 ≤ r → (rd (F := F) A).duties g r = ∅ :=
  fun r hr => if_neg fun h => by omega

theorem amount_bar (d : Fin 3) : (rd (F := F) A).amount (bCell c) 0 d = 1 := rfl
theorem amount_rsS (d : Fin 3) (u : Fin 3) : (rd (F := F) A).amount (dCell c (rsS d)) 0 u = Nrs :=
  if_pos (show 9 + d.val < 15 by omega)
theorem amount_rsR (d : Fin 3) (u : Fin 3) : (rd (F := F) A).amount (dCell c (rsR d)) 0 u = Nrs :=
  if_pos (show 9 + (3 + d.val) < 15 by omega)
theorem amount_agS (d : Fin 3) (h : Fin 2) (u : Fin 3) : (rd (F := F) A).amount (dCell c (agS d h)) 0 u = Nag :=
  if_neg (show ¬ 9 + (6 + (2 * d.val + h.val)) < 15 by omega)
theorem amount_agR (d : Fin 3) (h : Fin 2) (u : Fin 3) : (rd (F := F) A).amount (dCell c (agR d h)) 0 u = Nag :=
  if_neg (show ¬ 9 + (12 + (2 * d.val + h.val)) < 15 by omega)

theorem payload_bar (d : Fin 3) : (rd (F := F) A).payload (bCell c) 0 d = barPay c d := rfl
theorem payload_rsS (d u : Fin 3) : (rd (F := F) A).payload (dCell c (rsS d)) 0 u = chPts c (pr (up d) c) (p16 c A) := by
  revert d; intro d; fin_cases d <;> rfl
theorem payload_rsR (s u : Fin 3) : (rd (F := F) A).payload (dCell c (rsR s)) 0 u = slPts c s (rsB c A) := by
  fin_cases s <;> rfl
theorem payload_agS (d : Fin 3) (h : Fin 2) (u : Fin 3) :
    (rd (F := F) A).payload (dCell c (agS d h)) 0 u = hfPts c c h (shr d) (agB A) := by
  fin_cases d <;> fin_cases h <;> rfl
theorem payload_agR (e : Fin 3) (h : Fin 2) (u : Fin 3) :
    (rd (F := F) A).payload (dCell c (agR e h)) 0 u = hfPts c (pr (up e) c) h fullShare (agB A) := by
  fin_cases e <;> fin_cases h <;> rfl

theorem expect_bar : (rd (F := F) A).expect (bCell c) 0 = 3 := by
  unfold Schedule.expect Schedule.amountOf; rw [duties_bar]; rfl
theorem expect_one (k : Fin 18) (n : ℕ) (h : (rd (F := F) A).amount (dCell c k) 0 0 = n) : (rd (F := F) A).expect (dCell c k) 0 = n := by
  unfold Schedule.expect Schedule.amountOf; rw [duties_dma, Finset.sum_singleton, h]

theorem rest_one (k : Fin 18) :
    bigSep ((rd (F := F) A).duties (dCell c k) 0 \ ∅) (fun u => (rd (F := F) A).payload (dCell c k) 0 u)
      = (rd (F := F) A).payload (dCell c k) 0 0 := by
  rw [Finset.sdiff_empty, duties_dma, bigSep_singleton]
theorem rest_bar :
    bigSep ((rd (F := F) A).duties (bCell c) 0 \ ∅) (fun u => (rd (F := F) A).payload (bCell c) 0 u)
      = iprop(barPay c 0 ∗ barPay c 1 ∗ barPay c 2) := by
  rw [Finset.sdiff_empty, duties_bar, show (Finset.univ : Finset (Fin 3)) = {0, 1, 2} from rfl, bigSep_insert (by decide),
    bigSep_insert (by decide), bigSep_singleton]
  rfl

end Tables

/-! ## Levels -/

/-- What `c` owes at the start: a barrier unit to each other device, and the credit of every copy it sends. -/
def owRs (c : Dev nD) (d : Fin 3) : CellTallies nD τ sig Unit := tallyAt (dCell (pr (up d) c) (rsR (op d))) () Nrs
def owAg (c : Dev nD) (d : Fin 3) (h : Fin 2) : CellTallies nD τ sig Unit := tallyAt (dCell (pr (up d) c) (agR (op d) h)) () Nag
def owBar (c : Dev nD) (d : Fin 3) : CellTallies nD τ sig Unit := tallyAt (bCell (pr (up d) c)) () 1
/-- The gather credits, in the order opposite to the order of the sends. -/
def owG (c : Dev nD) : CellTallies nD τ sig Unit :=
  owAg c 2 1 + owAg c 1 1 + owAg c 0 1 + owAg c 2 0 + owAg c 1 0 + owAg c 0 0
def owR (c : Dev nD) : CellTallies nD τ sig Unit := owG c + owRs c 2 + owRs c 1 + owRs c 0
def O₀ (c : Dev nD) : CellTallies nD τ sig Unit := owR c + owBar c 2 + owBar c 1 + owBar c 0

def L (g : GSem nD τ sig) : Finset Unit := if g.1.2 = .tc then {()} else ∅
/-- Barrier cells at 1, reduce receives at 2, gather receives at 3, everything else at 0. -/
def lv (g : GSem nD τ sig) (_ : Unit) : ℕ :=
  match g.2 with
  | .reg _ => 1
  | .dma s => if 12 ≤ s.val ∧ s.val < 15 then 2 else if 21 ≤ s.val then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_rs (c : Dev nD) (s : Fin 3) (u : Unit) : lv (dCell c (rsR s)) u = 2 := by fin_cases s <;> rfl
theorem lv_ag (c : Dev nD) (s : Fin 3) (h : Fin 2) (u : Unit) : lv (dCell c (agR s h)) u = 3 := by
  fin_cases s <;> fin_cases h <;> rfl

/-- A tally owed only at TensorCore cells above level `n`. -/
def Above (n : ℕ) (O : CellTallies nD τ sig Unit) : Prop := ∀ g u, 0 < O g u → u ∈ L g ∧ n < lv g u

theorem above_at (n : ℕ) (c : Dev nD) (sm : SemLoc sig) (k : ℕ) (h : n < lv ((c : Thread nD τ), sm) ()) :
    Above n (tallyAt ((c : Thread nD τ), sm) () k) := fun g u hg => by
  rw [tallyAt_apply] at hg
  by_cases h' : g = ((c : Thread nD τ), sm) ∧ u = ()
  · rw [h'.1]; exact ⟨by rw [L_tc]; exact Finset.mem_singleton_self _, h⟩
  · rw [if_neg h'] at hg; exact absurd hg (Nat.lt_irrefl 0)
theorem above_add {n : ℕ} {O O' : CellTallies nD τ sig Unit} (h : Above n O) (h' : Above n O') : Above n (O + O') := fun g u hg => by
  by_cases h0 : 0 < O g u
  · exact h g u h0
  · refine h' g u ?_
    have : (O + O') g u = O g u + O' g u := rfl
    omega
theorem above_mono {n k : ℕ} {O : CellTallies nD τ sig Unit} (hk : k ≤ n) (h : Above n O) : Above k O :=
  fun g u hg => ⟨(h g u hg).1, lt_of_le_of_lt hk (h g u hg).2⟩

theorem above_owAg (c : Dev nD) (d : Fin 3) (h : Fin 2) : Above 2 (owAg c d h) :=
  above_at 2 _ _ _ (by rw [lv_ag]; decide)
theorem above_owRs (c : Dev nD) (d : Fin 3) : Above 1 (owRs c d) := above_at 1 _ _ _ (by rw [lv_rs]; decide)
theorem above_owBar (c : Dev nD) (d : Fin 3) : Above 0 (owBar c d) := above_at 0 _ _ _ Nat.one_pos
theorem above_owG (c : Dev nD) : Above 2 (owG c) := by
  unfold owG; repeat' first | exact above_owAg _ _ _ | apply above_add
theorem above_owR (c : Dev nD) : Above 1 (owR c) := by
  unfold owR
  repeat' first | exact above_owRs _ _ | exact above_mono (by decide) (above_owG c) | apply above_add
theorem above_O₀ (c : Dev nD) : Above 0 (O₀ c) := by
  unfold O₀
  repeat' first | exact above_owBar _ _ | exact above_mono (by decide) (above_owR c) | apply above_add

theorem mayWait (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => (h g u hg).1)
    (fun p hp => by rw [Finset.mem_singleton.mp hp])
    (fun g u hg => (h g u hg).2)

end Cert.KernelIdeal.Att
-- ==== Proof.Pieces.lean ====
/-
  The pieces of the exchanged buffers: where their elements lie, what a store or a copy leaves in them, and how the
  buffers split into them.
-/
module

public import proofs.«01_k».proof.Proof.Protocol

@[expose] public section

set_option maxRecDepth 16384
set_option synthInstance.maxSize 4096

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → Ins F) (c : Dev nD)

/-! ## The program's offsets and devices -/

theorem off1_eq : ∀ c : Dev nD, ∀ d : Fin 3, k0_off1 c (BitVec.ofNat 32 (1 + d.val)) = ![256 * (pr (up d) c).val, 0] := by decide +kernel
theorem off10_eq : ∀ c : Dev nD, ∀ d : Fin 3, k0_off10 c (BitVec.ofNat 32 (1 + d.val)) = ![256 * (pr (up d) c).val, 0] := by decide +kernel
theorem off20_eq : ∀ c : Dev nD, ∀ h : Fin 2, k0_off20 c (BitVec.ofNat 32 (128 * h.val)) = ![256 * c.val + 128 * h.val, 0] := by decide +kernel
theorem off21_eq : ∀ c : Dev nD, ∀ h : Fin 2, k0_off21 c (BitVec.ofNat 32 (128 * h.val)) = ![256 * c.val + 128 * h.val, 0] := by decide +kernel
theorem off22_eq : ∀ c : Dev nD, ∀ h : Fin 2, k0_off22 c (BitVec.ofNat 32 (128 * h.val)) = ![c.val / 2, 256 * (c.val % 2) + 128 * h.val, 0] := by decide +kernel
theorem off23_eq : ∀ c : Dev nD, ∀ d : Fin 3, ∀ h : Fin 2, k0_off23 c (BitVec.ofNat 32 (1 + d.val)) (BitVec.ofNat 32 (128 * h.val))
    = ![256 * (pr (up d) c).val + 128 * h.val, 0] := by decide +kernel
theorem off24_eq : ∀ c : Dev nD, ∀ d : Fin 3, ∀ h : Fin 2, k0_off24 c (BitVec.ofNat 32 (1 + d.val)) (BitVec.ofNat 32 (128 * h.val))
    = ![(pr (up d) c).val / 2, 256 * ((pr (up d) c).val % 2) + 128 * h.val, 0] := by decide +kernel

theorem dev1_eq : ∀ c : Dev nD, k0_dev1 c = (pr 1 c).val := by decide +kernel
theorem dev2_eq : ∀ c : Dev nD, k0_dev2 c = (pr 2 c).val := by decide +kernel
theorem dev3_eq : ∀ c : Dev nD, k0_dev3 c = (pr 3 c).val := by decide +kernel
theorem dev4_eq : ∀ c : Dev nD, k0_dev4 c = (pr 1 c).val := by decide +kernel
theorem dev5_eq : ∀ c : Dev nD, k0_dev5 c = (pr 2 c).val := by decide +kernel
theorem dev6_eq : ∀ c : Dev nD, k0_dev6 c = (pr 3 c).val := by decide +kernel
theorem dev7_eq : ∀ c : Dev nD, k0_dev7 c = (pr 1 c).val := by decide +kernel
theorem dev8_eq : ∀ c : Dev nD, k0_dev8 c = (pr 2 c).val := by decide +kernel
theorem dev9_eq : ∀ c : Dev nD, k0_dev9 c = (pr 3 c).val := by decide +kernel
theorem dev10_eq : ∀ c : Dev nD, k0_dev10 c = (pr 1 c).val := by decide +kernel
theorem dev11_eq : ∀ c : Dev nD, k0_dev11 c = (pr 2 c).val := by decide +kernel
theorem dev12_eq : ∀ c : Dev nD, k0_dev12 c = (pr 3 c).val := by decide +kernel

/-! ## Elements -/

/-- An index of a piece as one of its buffer. -/
def chE (j : Dev nD) (x : S256x1024.Idx) : S1024x1024.Idx := (chM j).view.emb x
def hfE (j : Dev nD) (h : Fin 2) (x : S128x1024.Idx) : S1024x1024.Idx := (hfM j h).view.emb x
def slE (s : Fin 3) (x : S256x1024.Idx) : S3x256x1024.Idx := (slM s).view.emb x
/-- The elements of a piece. -/
def chS (j : Dev nD) : Finset S1024x1024.Idx := (chM j).view.set
def hfS (j : Dev nD) (h : Fin 2) : Finset S1024x1024.Idx := (hfM j h).view.set
def slS (s : Fin 3) : Finset S3x256x1024.Idx := (slM s).view.set

theorem chM_emb (j : Dev nD) (x : S256x1024.Idx) :
    (chE j x 0).val = 256 * j.val + (x 0).val ∧ (chE j x 1).val = (x 1).val :=
  ⟨by show 256 * j.val + 1 * (x 0).val = _; omega, by show 0 + 1 * (x 1).val = _; omega⟩
theorem hfM_emb (j : Dev nD) (h : Fin 2) (x : S128x1024.Idx) :
    (hfE j h x 0).val = 256 * j.val + 128 * h.val + (x 0).val
      ∧ (hfE j h x 1).val = (x 1).val :=
  ⟨by show 256 * j.val + 128 * h.val + 1 * (x 0).val = _; omega, by show 0 + 1 * (x 1).val = _; omega⟩
theorem slM_emb (s : Fin 3) (x : S256x1024.Idx) :
    (slE s x 0).val = s.val ∧ (slE s x 1).val = (x 0).val
      ∧ (slE s x 2).val = (x 1).val := by
  have e : slE s x = (Rect.unit (s := S3x256x1024) ![s.val, 0, 0] S1x256x1024.size (sl_inb s)).emb
      (Fin.cons ⟨0, Nat.one_pos⟩ x) := by
    show (Rect.unit (s := S3x256x1024) ![s.val, 0, 0] S1x256x1024.size (sl_inb s)).emb (Shape.reshapeEquiv _ x) = _
    rw [Shape.reshapeEquiv_cons_one]
  rw [e]
  refine ⟨?_, ?_, ?_⟩
  · show s.val + 1 * 0 = _; omega
  · show 0 + 1 * (x 0).val = _; omega
  · show 0 + 1 * (x 1).val = _; omega

theorem mem_chM (j : Dev nD) (i : S1024x1024.Idx) : i ∈ chS j ↔ 256 * j.val ≤ (i 0).val ∧ (i 0).val < 256 * j.val + 256 := by
  have e : chS j = (Rect.unit (s := S1024x1024) ![256 * j.val, 0] S256x1024.size (ch_inb j)).set := View.set_slice_whole _ _
  rw [e]
  refine Rect.mem_set_unit.trans ⟨fun h => h 0, fun h a => ?_⟩
  fin_cases a
  · exact h
  · exact ⟨Nat.zero_le _, by have := (i 1).isLt; exact lt_of_lt_of_le this (Nat.le_add_left _ _)⟩
theorem mem_hfM (j : Dev nD) (h : Fin 2) (i : S1024x1024.Idx) :
    i ∈ hfS j h ↔ 256 * j.val + 128 * h.val ≤ (i 0).val ∧ (i 0).val < 256 * j.val + 128 * h.val + 128 := by
  have e : hfS j h = (Rect.unit (s := S1024x1024) ![256 * j.val + 128 * h.val, 0] S128x1024.size (hf_inb j h)).set := View.set_slice_whole _ _
  rw [e]
  refine Rect.mem_set_unit.trans ⟨fun h => h 0, fun h a => ?_⟩
  fin_cases a
  · exact h
  · exact ⟨Nat.zero_le _, by have := (i 1).isLt; exact lt_of_lt_of_le this (Nat.le_add_left _ _)⟩
theorem mem_slM (s : Fin 3) (i : S3x256x1024.Idx) : i ∈ slS s ↔ (i 0).val = s.val := by
  have e : slS s = (Rect.unit (s := S3x256x1024) ![s.val, 0, 0] S1x256x1024.size (sl_inb s)).set :=
    (View.set_reshape _ _).trans (View.set_slice_whole _ _)
  rw [e]
  refine Rect.mem_set_unit.trans ⟨fun h => ?_, fun h a => ?_⟩
  · have := h 0
    have h1 : s.val ≤ (i 0).val := this.1
    have h2 : (i 0).val < s.val + 1 := this.2
    omega
  · fin_cases a
    · exact ⟨le_of_eq h.symm, by show (i 0).val < s.val + 1; omega⟩
    · exact ⟨Nat.zero_le _, by have := (i 1).isLt; exact lt_of_lt_of_le this (Nat.le_add_left _ _)⟩
    · exact ⟨Nat.zero_le _, by have := (i 2).isLt; exact lt_of_lt_of_le this (Nat.le_add_left _ _)⟩

/-! ## Contents -/

theorem ix256_eq (x : S256x1024.Idx) {i j : Nat} (hi : i < 256) (hj : j < 1024) (h0 : i = (x 0).val) (h1 : j = (x 1).val) :
    ix256 i j hi hj = x := by
  subst h0 h1; funext b; fin_cases b <;> rfl
theorem ix128_eq (x : S128x1024.Idx) {i j : Nat} (hi : i < 128) (hj : j < 1024) (h0 : i = (x 0).val) (h1 : j = (x 1).val) :
    ix128 i j hi hj = x := by
  subst h0 h1; funext b; fin_cases b <;> rfl

theorem p16_at (d : Fin 3) (x : S256x1024.Idx) (i : S1024x1024.Idx) (h0 : (i 0).val = 256 * (pr (up d) c).val + (x 0).val)
    (h1 : (i 1).val = (x 1).val) : p16 c A i = chunk (A c) c d x := by
  have hx : (x 0).val < 256 := (x 0).isLt
  have hd : (i 0).val / 256 = (pr (up d) c).val := by rw [h0]; omega
  have e : ((i 0).val / 256 + 4 - c.val) % 4 = d.val + 1 := by
    rw [hd]; clear h0 h1 hd; revert d c; decide
  have ey : ix256 ((i 0).val % 256) (i 1).val (Nat.mod_lt _ (by decide)) (i 1).isLt = x := ix256_eq x _ _ (by rw [h0]; omega) h1
  unfold p16
  dsimp only
  rw [e, ey]
  fin_cases d <;> rfl
theorem p16_emb (d : Fin 3) (x : S256x1024.Idx) : p16 c A ((chM (pr (up d) c)).view.emb x) = chunk (A c) c d x :=
  p16_at A c d x _ (chM_emb _ x).1 (chM_emb _ x).2

theorem rsB_at (s : Fin 3) (x : S256x1024.Idx) (i : S3x256x1024.Idx) (h0 : (i 0).val = s.val) (h1 : (i 1).val = (x 0).val)
    (h2 : (i 2).val = (x 1).val) : rsB c A i = chunk (A (pr (up s) c)) (pr (up s) c) (op s) x := by
  have ey : ix256 (i 1).val (i 2).val (i 1).isLt (i 2).isLt = x := ix256_eq x _ _ h1 h2
  unfold rsB
  dsimp only
  rw [ey, h0]
  fin_cases s <;> rfl
theorem rsB_emb (s : Fin 3) (x : S256x1024.Idx) : rsB c A ((slM s).view.emb x) = chunk (A (pr (up s) c)) (pr (up s) c) (op s) x :=
  rsB_at A c s x _ (slM_emb s x).1 (slM_emb s x).2.1 (slM_emb s x).2.2

theorem agB_at (j : Dev nD) (h : Fin 2) (x : S128x1024.Idx) (i : S1024x1024.Idx)
    (h0 : (i 0).val = 256 * j.val + 128 * h.val + (x 0).val) (h1 : (i 1).val = (x 1).val) : agB A i = redB j A h x := by
  have hx : (x 0).val < 128 := (x 0).isLt
  have hj : (⟨(i 0).val / 256, Nat.div_lt_of_lt_mul (i 0).isLt⟩ : Dev nD) = j :=
    Fin.ext (by show _ / 256 = _; rw [h0]; omega)
  have hh : (⟨(i 0).val % 256 / 128, Nat.div_lt_of_lt_mul (Nat.mod_lt _ (by decide))⟩ : Fin 2) = h :=
    Fin.ext (by show _ % 256 / 128 = _; rw [h0]; omega)
  have ey : ix128 ((i 0).val % 128) (i 1).val (Nat.mod_lt _ (by decide)) (i 1).isLt = x := ix128_eq x _ _ (by rw [h0]; omega) h1
  unfold agB
  rw [hj, hh, ey]
theorem agB_emb (j : Dev nD) (h : Fin 2) (x : S128x1024.Idx) : agB A ((hfM j h).view.emb x) = redB j A h x :=
  agB_at A j h x _ (hfM_emb j h x).1 (hfM_emb j h x).2

/-- A write through a view agrees on it with contents that read as what was written. -/
theorem write_agree {sp : Space} {s : Shape} {e : EltTy} (v : View sig .tc sp s e) (f g : v.ty.Contents (Elt F)) (w : s.Idx → Elt F e)
    (h : ∀ x, v.read (Elt F) g x = w x) : ∀ i ∈ v.set, v.write (Elt F) f w Finset.univ i = g i := fun i hi => by
  obtain ⟨x, -, rfl⟩ := Finset.mem_map.mp hi
  rw [View.write_emb_of_mem _ _ (Finset.mem_univ x), ← h x, View.read_apply, cast_cast, cast_eq]

/-! ## Splitting -/

section Split

variable {ℓ : Loc nD τ sig} {I J S : Finset (Idx ℓ)} {q : PosShare TreeShare}

theorem pts_split (hS : ∀ i, i ∈ S ↔ i ∈ I ∨ i ∈ J) (hd : Disjoint I J) (f : Buf (Elt F) ℓ) :
    (ℓ ↦[S]{q} f : sProp 𝕄) ⊢ iprop((ℓ ↦[I]{q} f) ∗ ℓ ↦[J]{q} f) := by
  have e : S = I ∪ J := by ext i; rw [hS, Finset.mem_union]
  subst e; exact (pointsTo_union hd).1
theorem pts_join (hS : ∀ i, i ∈ S ↔ i ∈ I ∨ i ∈ J) (hd : Disjoint I J) :
    iprop((∃ f, ℓ ↦[I]{q} f) ∗ (∃ f, ℓ ↦[J]{q} f)) ⊢ (∃ f, ℓ ↦[S]{q} f : sProp 𝕄) := by
  have e : S = I ∪ J := by ext i; rw [hS, Finset.mem_union]
  subst e
  iintro ⟨⟨%f, Hf⟩, ⟨%g, Hg⟩⟩
  iexists (J.piecewise g f)
  iapply (pointsTo_join hd)
  isplitl [Hf]; · iexact Hf
  iexact Hg

end Split

theorem chS_disj {j k : Dev nD} (h : j ≠ k) : Disjoint (chS j) (chS k) := Finset.disjoint_left.mpr fun i hi hk => by
  rw [mem_chM] at hi hk; exact h (Fin.ext (by omega))
theorem hfS_disj {j k : Dev nD} {h h' : Fin 2} (hn : (j, h) ≠ (k, h')) : Disjoint (hfS j h) (hfS k h') :=
  Finset.disjoint_left.mpr fun i hi hk => by
    rw [mem_hfM] at hi hk
    exact hn (Prod.ext (Fin.ext (by show j.val = k.val; omega)) (Fin.ext (by show h.val = h'.val; omega)))
theorem slS_disj {s t : Fin 3} (h : s ≠ t) : Disjoint (slS s) (slS t) := Finset.disjoint_left.mpr fun i hi hk => by
  rw [mem_slM] at hi hk; exact h (Fin.ext (by omega))
theorem hfS_union (j : Dev nD) (i : S1024x1024.Idx) : i ∈ chS j ↔ i ∈ hfS j 0 ∨ i ∈ hfS j 1 := by
  rw [mem_hfM, mem_hfM, mem_chM]
  have h0 : ((0 : Fin 2) : Nat) = 0 := rfl
  have h1 : ((1 : Fin 2) : Nat) = 1 := rfl
  omega
/-- The rows of the last two, and of the last three, chunks in the order of the exchange. -/
def chT (c : Dev nD) : Finset S1024x1024.Idx := chS (pr 2 c) ∪ chS (pr 3 c)
def chU (c : Dev nD) : Finset S1024x1024.Idx := chS (pr 1 c) ∪ chT c
theorem mem_chT (i : S1024x1024.Idx) : i ∈ chT c ↔ i ∈ chS (pr (up 1) c) ∨ i ∈ chS (pr (up 2) c) := Finset.mem_union
theorem mem_chU (i : S1024x1024.Idx) : i ∈ chU c ↔ i ∈ chS (pr (up 0) c) ∨ i ∈ chT c := Finset.mem_union
theorem ch_cover (i : S1024x1024.Idx) : i ∈ chS c ∨ i ∈ chU c := by
  rw [mem_chU, mem_chT]
  simp only [mem_chM]
  have hi : (i 0).val < 1024 := (i 0).isLt
  have h0 : c.val < 4 := c.isLt
  have h1 : (pr (up 0) c).val = (c.val + 1) % 4 := rfl
  have h2 : (pr (up 1) c).val = (c.val + 2) % 4 := rfl
  have h3 : (pr (up 2) c).val = (c.val + 3) % 4 := rfl
  omega
theorem disjT : Disjoint (chS (pr (up 1) c)) (chS (pr (up 2) c)) := chS_disj (by revert c; decide)
theorem disjU : Disjoint (chS (pr (up 0) c)) (chT c) :=
  Finset.disjoint_union_right.mpr ⟨chS_disj (by revert c; decide), chS_disj (by revert c; decide)⟩
theorem disjC : Disjoint (chS c) (chU c) :=
  Finset.disjoint_union_right.mpr ⟨chS_disj (by revert c; decide), Finset.disjoint_union_right.mpr ⟨chS_disj (by revert c; decide),
    chS_disj (by revert c; decide)⟩⟩
def slT : Finset S3x256x1024.Idx := slS 1 ∪ slS 2
theorem mem_slT (i : S3x256x1024.Idx) : i ∈ slT ↔ i ∈ slS 1 ∨ i ∈ slS 2 := Finset.mem_union
theorem sl_cover (i : S3x256x1024.Idx) : i ∈ slS 0 ∨ i ∈ slT := by
  rw [mem_slT]
  simp only [mem_slM]
  have hi : (i 0).val < 3 := (i 0).isLt
  show _ = 0 ∨ _ = 1 ∨ _ = 2
  omega
theorem slS_disjT : Disjoint (slS 0) slT := Finset.disjoint_union_right.mpr ⟨slS_disj (by decide), slS_disj (by decide)⟩

/-- Elements of the three exchanged buffers, held full. -/
def chAt (c : Dev nD) (S : Finset S1024x1024.Idx) (f : Vec F S1024x1024 .bf16) : sProp 𝕄 :=
  (c : Thread nD τ).loc cc0_scratch2 ↦[S]{fullShare} f
def hfAt (c : Dev nD) (S : Finset S1024x1024.Idx) (f : Vec F S1024x1024 .bf16) : sProp 𝕄 :=
  (c : Thread nD τ).loc cc0_scratch3 ↦[S]{fullShare} f
def slAt (c : Dev nD) (S : Finset S3x256x1024.Idx) (f : Vec F S3x256x1024 .bf16) : sProp 𝕄 :=
  (c : Thread nD τ).loc cc0_scratch4 ↦[S]{fullShare} f

section At
variable {I J S : Finset S1024x1024.Idx} {I' J' S' : Finset S3x256x1024.Idx}

theorem chAt_split (hS : ∀ i, i ∈ S ↔ i ∈ I ∨ i ∈ J) (hd : Disjoint I J) (f : Vec F S1024x1024 .bf16) :
    (chAt c S f : sProp 𝕄) ⊢ iprop(chAt c I f ∗ chAt c J f) := pts_split (ℓ := (c : Thread nD τ).loc cc0_scratch2) hS hd f
theorem chAt_join (hS : ∀ i, i ∈ S ↔ i ∈ I ∨ i ∈ J) (hd : Disjoint I J) :
    iprop((∃ f, chAt (F := F) c I f) ∗ (∃ f, chAt c J f)) ⊢ (∃ f, chAt c S f : sProp 𝕄) :=
  pts_join (ℓ := (c : Thread nD τ).loc cc0_scratch2) hS hd
theorem hfAt_split (hS : ∀ i, i ∈ S ↔ i ∈ I ∨ i ∈ J) (hd : Disjoint I J) (f : Vec F S1024x1024 .bf16) :
    (hfAt c S f : sProp 𝕄) ⊢ iprop(hfAt c I f ∗ hfAt c J f) := pts_split (ℓ := (c : Thread nD τ).loc cc0_scratch3) hS hd f
theorem hfAt_join (hS : ∀ i, i ∈ S ↔ i ∈ I ∨ i ∈ J) (hd : Disjoint I J) :
    iprop((∃ f, hfAt (F := F) c I f) ∗ (∃ f, hfAt c J f)) ⊢ (∃ f, hfAt c S f : sProp 𝕄) :=
  pts_join (ℓ := (c : Thread nD τ).loc cc0_scratch3) hS hd
theorem slAt_split (hS : ∀ i, i ∈ S' ↔ i ∈ I' ∨ i ∈ J') (hd : Disjoint I' J') (f : Vec F S3x256x1024 .bf16) :
    (slAt c S' f : sProp 𝕄) ⊢ iprop(slAt c I' f ∗ slAt c J' f) := pts_split (ℓ := (c : Thread nD τ).loc cc0_scratch4) hS hd f
theorem slAt_join (hS : ∀ i, i ∈ S' ↔ i ∈ I' ∨ i ∈ J') (hd : Disjoint I' J') :
    iprop((∃ f, slAt (F := F) c I' f) ∗ (∃ f, slAt c J' f)) ⊢ (∃ f, slAt c S' f : sProp 𝕄) :=
  pts_join (ℓ := (c : Thread nD τ).loc cc0_scratch4) hS hd
end At

theorem chAt_chS (j : Dev nD) (f : Vec F S1024x1024 .bf16) : (chAt c (chS j) f : sProp 𝕄) = chPts c j f := rfl
theorem hfAt_hfS (j : Dev nD) (h : Fin 2) (f : Vec F S1024x1024 .bf16) : (hfAt c (hfS j h) f : sProp 𝕄) = hfPts c j h fullShare f := rfl
theorem slAt_slS (s : Fin 3) (f : Vec F S3x256x1024 .bf16) : (slAt c (slS s) f : sProp 𝕄) = slPts c s f := rfl

theorem univ_iff {I J : Finset S1024x1024.Idx} (h : ∀ i, i ∈ I ∨ i ∈ J) (i : S1024x1024.Idx) : i ∈ (Finset.univ : Finset S1024x1024.Idx) ↔ i ∈ I ∨ i ∈ J :=
  ⟨fun _ => h i, fun _ => Finset.mem_univ i⟩
theorem univ_iff3 {I J : Finset S3x256x1024.Idx} (h : ∀ i, i ∈ I ∨ i ∈ J) (i : S3x256x1024.Idx) :
    i ∈ (Finset.univ : Finset S3x256x1024.Idx) ↔ i ∈ I ∨ i ∈ J :=
  ⟨fun _ => h i, fun _ => Finset.mem_univ i⟩

/-- The partial-output buffer is its four chunks. -/
theorem ch_split (f : Vec F S1024x1024 .bf16) : (chAt c Finset.univ f : sProp 𝕄) ⊢ iprop(chPts c c f ∗ chPts c (pr (up 0) c) f
      ∗ chPts c (pr (up 1) c) f ∗ chPts c (pr (up 2) c) f) := by
  simp only [← chAt_chS]
  iintro H
  ihave H := (chAt_split c (univ_iff (ch_cover c)) (disjC c) f) $$ H
  icases H with ⟨H0, H⟩
  ihave H := (chAt_split c (mem_chU c) (disjU c) f) $$ H
  icases H with ⟨H1, H⟩
  ihave H := (chAt_split c (mem_chT c) (disjT c) f) $$ H
  isplitl [H0]; · iexact H0
  isplitl [H1]; · iexact H1
  iexact H
theorem ch_join : iprop((∃ f, chPts (F := F) c c f) ∗ (∃ f, chPts c (pr (up 0) c) f) ∗ (∃ f, chPts c (pr (up 1) c) f) ∗ (∃ f, chPts c (pr (up 2) c) f))
    ⊢ (∃ f, chAt c Finset.univ f : sProp 𝕄) := by
  simp only [← chAt_chS]
  iintro ⟨H0, H1, H⟩
  ihave H := (chAt_join c (mem_chT c) (disjT c)) $$ H
  ihave H := (chAt_join c (mem_chU c) (disjU c)) $$ [H1 H]
  · isplitl [H1]; · iexact H1
    iexact H
  iapply (chAt_join c (univ_iff (ch_cover c)) (disjC c))
  isplitl [H0]; · iexact H0
  iexact H

/-- The receive buffer is its three slots. -/
theorem sl_split (f : Vec F S3x256x1024 .bf16) : (slAt c Finset.univ f : sProp 𝕄) ⊢ iprop(slPts c 0 f ∗ slPts c 1 f ∗ slPts c 2 f) := by
  simp only [← slAt_slS]
  iintro H
  ihave H := (slAt_split c (univ_iff3 sl_cover) slS_disjT f) $$ H
  icases H with ⟨H0, H⟩
  ihave H := (slAt_split c mem_slT (slS_disj (by decide)) f) $$ H
  isplitl [H0]; · iexact H0
  iexact H
theorem sl_join : iprop((∃ f, slPts (F := F) c 0 f) ∗ (∃ f, slPts c 1 f) ∗ (∃ f, slPts c 2 f)) ⊢ (∃ f, slAt c Finset.univ f : sProp 𝕄) := by
  simp only [← slAt_slS]
  iintro ⟨H0, H⟩
  ihave H := (slAt_join c mem_slT (slS_disj (by decide))) $$ H
  iapply (slAt_join c (univ_iff3 sl_cover) slS_disjT)
  isplitl [H0]; · iexact H0
  iexact H

/-- Two halves of one chunk of the gather buffer. -/
def hf2 (c j : Dev nD) (f : Vec F S1024x1024 .bf16) : sProp 𝕄 := iprop(hfPts c j 0 fullShare f ∗ hfPts c j 1 fullShare f)
def hf2E (c j : Dev nD) : sProp 𝕄 := iprop((∃ f, hfPts (F := F) c j 0 fullShare f) ∗ (∃ f, hfPts c j 1 fullShare f))

theorem hf2_split (j : Dev nD) (f : Vec F S1024x1024 .bf16) : (hfAt c (chS j) f : sProp 𝕄) ⊢ hf2 c j f := by
  unfold hf2; simp only [← hfAt_hfS]; exact hfAt_split c (hfS_union j) (hfS_disj (by simp)) f
theorem hf2_join (j : Dev nD) : hf2E (F := F) c j ⊢ (∃ f, hfAt c (chS j) f : sProp 𝕄) := by
  unfold hf2E; simp only [← hfAt_hfS]; exact hfAt_join c (hfS_union j) (hfS_disj (by simp))
/-- The gather buffer is its eight halves. -/
theorem hf_split (f : Vec F S1024x1024 .bf16) : (hfAt c Finset.univ f : sProp 𝕄) ⊢ iprop(hf2 c c f ∗ hf2 c (pr (up 0) c) f
      ∗ hf2 c (pr (up 1) c) f ∗ hf2 c (pr (up 2) c) f) := by
  iintro H
  ihave H := (hfAt_split c (univ_iff (ch_cover c)) (disjC c) f) $$ H
  icases H with ⟨H0, H⟩
  ihave H := (hfAt_split c (mem_chU c) (disjU c) f) $$ H
  icases H with ⟨H1, H⟩
  ihave H := (hfAt_split c (mem_chT c) (disjT c) f) $$ H
  icases H with ⟨H2, H3⟩
  isplitl [H0]; · iapply (hf2_split c c f); iexact H0
  isplitl [H1]; · iapply (hf2_split c (pr (up 0) c) f); iexact H1
  isplitl [H2]; · iapply (hf2_split c (pr (up 1) c) f); iexact H2
  iapply (hf2_split c (pr (up 2) c) f); iexact H3
theorem hf_join : iprop(hf2E (F := F) c c ∗ hf2E c (pr (up 0) c) ∗ hf2E c (pr (up 1) c) ∗ hf2E c (pr (up 2) c))
    ⊢ (∃ f, hfAt c Finset.univ f : sProp 𝕄) := by
  iintro ⟨H0, H1, H2, H3⟩
  ihave H0 := (hf2_join c c) $$ H0
  ihave H1 := (hf2_join c (pr (up 0) c)) $$ H1
  ihave H2 := (hf2_join c (pr (up 1) c)) $$ H2
  ihave H3 := (hf2_join c (pr (up 2) c)) $$ H3
  ihave H := (hfAt_join c (mem_chT c) (disjT c)) $$ [H2 H3]
  · isplitl [H2]; · iexact H2
    iexact H3
  ihave H := (hfAt_join c (mem_chU c) (disjU c)) $$ [H1 H]
  · isplitl [H1]; · iexact H1
    iexact H
  iapply (hfAt_join c (univ_iff (ch_cover c)) (disjC c))
  isplitl [H0]; · iexact H0
  iexact H

/-- A half-chunk at full share is its three shares. -/
theorem hf_shares (j : Dev nD) (h : Fin 2) (f : Vec F S1024x1024 .bf16) :
    (hfPts c j h fullShare f : sProp 𝕄) ⊣⊢ iprop(hfPts c j h (shr 0) f ∗ hfPts c j h (shr 1) f ∗ hfPts c j h (shr 2) f) := by
  have a := pointsTo_share (Ix := Unit) (Name := ℕ) (U := UU) (Lvl := ℕ) (Val := Elt F) (ℓ := (hfM j h).view.loc (c : Thread nD τ))
    (I := (hfM j h).view.set) (f := f) (PosShare.mem_left_op_right fullShare)
  have b := pointsTo_share (Ix := Unit) (Name := ℕ) (U := UU) (Lvl := ℕ) (Val := Elt F) (ℓ := (hfM j h).view.loc (c : Thread nD τ))
    (I := (hfM j h).view.set) (f := f) (PosShare.mem_left_op_right fullShare.right)
  exact ⟨a.1.trans (sep_mono .rfl b.1), (sep_mono .rfl b.2).trans a.2⟩

/-! ## The amounts -/

theorem credit_ch (j : Dev nD) : (chM j).view.dmaCredit = Nrs := rfl
theorem credit_sl (s : Fin 3) : (slM s).view.dmaCredit = Nrs := rfl
theorem credit_hf (j : Dev nD) (h : Fin 2) : (hfM j h).view.dmaCredit = Nag := rfl

end Cert.KernelIdeal.Att
-- ==== Proof.Rules.lean ====
/-
  One rule for each kind of step the kernel's body takes, over the protocol's pieces.
-/
module

public import proofs.«01_k».proof.Proof.Pieces

@[expose] public section

set_option maxRecDepth 16384
set_option synthInstance.maxSize 4096

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (A : Dev nD → Ins F) (K : GSem nD τ sig → ℕ) (c : Dev nD)

/-! ## What every device knows -/

/-- Every device's cells are under their invariants. -/
def invs : sProp 𝕄 :=
  iprop(bigSep Finset.univ (fun q : Dev nD => cellInv ER (rd A) (K (bCell q)) (bCell q))
    ∗ bigSep Finset.univ (fun p : Dev nD × Fin 18 => cellInv ER (rd A) (K (dCell p.1 p.2)) (dCell p.1 p.2)))
/-- Round 0 of every barrier cell and of device `c`'s own cells is reached. -/
def reaches : sProp 𝕄 :=
  iprop(bigSep Finset.univ (fun q : Dev nD => reached ER (bCell q) 0) ∗ bigSep Finset.univ (fun k : Fin 18 => reached ER (dCell c k) 0))
def known : sProp 𝕄 := iprop(invs A K ∗ reaches (F := F) c ∗ levAts L lv)

instance invs_persistent : BI.Persistent (invs A K) := by unfold invs; infer_instance
instance reaches_persistent : BI.Persistent (reaches (F := F) c) := by unfold reaches; infer_instance
instance known_persistent : BI.Persistent (known A K c) := by unfold known; infer_instance

theorem bigSep_one {I : Type} [DecidableEq I] {s : Finset I} {i : I} (hi : i ∈ s) (Φ : I → sProp 𝕄) : bigSep s Φ ⊢ Φ i := by
  have e : bigSep s Φ = iprop(Φ i ∗ bigSep (s.erase i) Φ) := BI.bigSep_erase hi
  rw [e]
  iintro ⟨H, -⟩; iexact H
theorem known_inv_bar (q : Dev nD) : known A K c ⊢ cellInv ER (rd A) (K (bCell q)) (bCell q) := by
  unfold known invs
  iintro ⟨⟨H, -⟩, -⟩
  ihave H := (bigSep_one (Finset.mem_univ q) _) $$ H
  iexact H
theorem known_inv_dma (q : Dev nD) (k : Fin 18) : known A K c ⊢ cellInv ER (rd A) (K (dCell q k)) (dCell q k) := by
  unfold known invs
  iintro ⟨⟨-, H⟩, -⟩
  ihave H := (bigSep_one (Finset.mem_univ (q, k)) _) $$ H
  iexact H
theorem known_reached_bar (q : Dev nD) : known A K c ⊢ reached ER (bCell q) 0 := by
  unfold known reaches
  iintro ⟨-, ⟨H, -⟩, -⟩
  ihave H := (bigSep_one (Finset.mem_univ q) _) $$ H
  iexact H
theorem known_reached_dma (k : Fin 18) : known A K c ⊢ reached ER (dCell c k) 0 := by
  unfold known reaches
  iintro ⟨-, ⟨-, H⟩, -⟩
  ihave H := (bigSep_one (Finset.mem_univ k) _) $$ H
  iexact H
theorem known_levels : known A K c ⊢ levAts L lv := by
  unfold known
  iintro ⟨-, -, H⟩; iexact H

theorem slice_eq {κ : Kind} {sp : Space} {s : Shape} {e : EltTy} (M : Memref sig κ sp s e) {off off' size : Fin s.rank → Nat}
    (h : off = off') (i : ∀ a, off a + size a ≤ s.size a) (i' : ∀ a, off' a + size a ≤ s.size a)
    (p : ∀ a, (Rect.unit off size i).stride a = 1) (p' : ∀ a, (Rect.unit off' size i').stride a = 1) :
    M.slice (Rect.unit off size i) p = M.slice (Rect.unit off' size i') p' := by
  subst h; rfl

/-! ## The barrier -/

theorem wp_barSig (d : Fin 3) {q : Dev nD} (hq : q = pr (up d) c) {s : Sem sig} (hs : s = barrier0) {n : ℕ} (hn : n = 1)
    {O : CellTallies nD τ sig Unit} {W : Waits sig Unit} {k : PUnit → Prog (TpuEff nD τ sig (Elt F) Λ₀ .tc) PUnit} {Q : PUnit → sProp 𝕄} :
    iprop(known A K c ∗ owes (c : Thread nD τ) (O + owBar c d) W ∗ dutyTok ER (bCell (pr (up d) c)) 0 (op d)
        ∗ (∃ f, slPts c d f) ∗ (∃ f, hfPts c (pr (up d) c) 0 fullShare f) ∗ (∃ f, hfPts c (pr (up d) c) 1 fullShare f))
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (q, .tc) s n) k) Q) := by
  subst hq hs hn
  iintro ⟨#HK, HO, Ht, H0, H1, H2⟩
  iapply (Rounds.wp_signal 𝒱₀ ER (rd A) (c : Thread nD τ) none (dst := (pr (up d) c : Thread nD τ)) (sem := barrier0) (r := 0) (d := op d)
    (κ := K (bCell (pr (up d) c))) (by rw [duties_bar]; exact Finset.mem_univ _) (amount_bar A (pr (up d) c) (op d)) () O rfl)
  isplitr; · iapply (known_inv_bar A K c (pr (up d) c)); iexact HK
  isplitl [HO]; · iexact HO
  isplitl [Ht]; · iexact Ht
  isplitl [H0 H1 H2]
  · rw [payload_bar]; unfold barPay; rw [pr_op_up, op_op]
    isplitl [H0]; · iexact H0
    isplitl [H1]; · iexact H1
    isplitl [H2]; · iexact H2
    isplitr; · iapply (known_reached_dma A K c); iexact HK
    isplitr; · iapply (known_reached_dma A K c); iexact HK
    iapply (known_reached_dma A K c); iexact HK
  · iapply (known_reached_bar A K c (pr (up d) c)); iexact HK

theorem wp_barWait {s : Sem sig} (hs : s = barrier0) {n : ℕ} (hn : n = 3) {k : PUnit → Prog (TpuEff nD τ sig (Elt F) Λ₀ .tc) PUnit}
    {Q : PUnit → sProp 𝕄} :
    iprop(known A K c ∗ (∃ W, owes (c : Thread nD τ) (owR c) W) ∗ cred (tallyAt (bCell c) () 3) ∗ atPos ER (bCell c) 0 ∅ 0)
      ⊢ iprop((((∃ W, owes (c : Thread nD τ) (owR c) W) ∗ atPos ER (bCell c) (0 + 1) ∅ 0 ∗ barPay c 0 ∗ barPay c 1 ∗ barPay c 2)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait s n) k) Q) := by
  subst hs hn
  iintro ⟨#HK, ⟨%W, HO⟩, Hc, Ha⟩ Hk
  iapply (Rounds.wp_wait_rest_token 𝒱₀ ER (rd A) (c : Thread nD τ) none (κ := K (bCell c))
    (wpE_semWait_eq 𝒱₀ (c : Thread nD τ) none Set.univ) (Set.mem_univ _) () (O := owR c) (W := W) (R := 0) (m := 0) (T := ∅)
    ((Nat.zero_add 3).trans (expect_bar A c).symm)) $$ [HO Hc Ha]
  · isplitr; · iapply (known_inv_bar A K c c); iexact HK
    isplitl [Hc]; · iexact Hc
    isplitl [HO]; · iexact HO
    isplitr
    · iapply (mayWait c (.reg barrier0) (owR c) (above_owR c)); iapply (known_levels A K c); iexact HK
    iexact Ha
  iintro ⟨HO, Ha, -, Hp⟩
  ihave Hp := (Entails.of_eq (rest_bar A c)) $$ Hp
  iapply Hk
  isplitl [HO]; · iexists _; iexact HO
  isplitl [Ha]; · iexact Ha
  iexact Hp

/-! ## The copies -/

theorem wp_sendRs (d : Fin 3) {src dst : Memref sig .tc .vmem S256x1024 .bf16} {q : Dev nD} {sS sR : DmaSem sig} (hq : q = pr (up d) c)
    (hs : src = chM (pr (up d) c)) (hd : dst = slM (op d)) (hS : sS = dsem (rsS d)) (hR : sR = dsem (rsR (op d)))
    {O : CellTallies nD τ sig Unit} {h4 : dst.view.ref.isScScratch = false} {h1 : src.view.WordExact} {h2 : dst.view.WordExact}
    {h3 : DmaTarget.Typed .vmem (.dma sR) (.remote (Dev.tc q) dst (.dma sS) h4)} {k : PUnit → Prog (TpuEff nD τ sig (Elt F) Λ₀ .tc) PUnit} {Q : PUnit → sProp 𝕄} :
    iprop(known A K c ∗ (∃ W, owes (c : Thread nD τ) (O + owRs c d) W) ∗ chPts c (pr (up d) c) (p16 c A) ∗ (∃ f, slPts (pr (up d) c) (op d) f)
        ∗ dutyTok ER (dCell c (rsS d)) 0 0 ∗ dutyTok ER (dCell (pr (up d) c) (rsR (op d))) 0 0 ∗ reached ER (dCell (pr (up d) c) (rsR (op d))) 0)
      ⊢ iprop(((cred (tallyAt (dCell c (rsS d)) () Nrs) ∗ (∃ W, owes (c : Thread nD τ) O W))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc q) dst (.dma sS) h4) (.dma sR) h1 h2 h3) k) Q) := by
  subst hq hs hd hS hR
  unfold chPts slPts
  iintro ⟨#HK, ⟨%W, HO⟩, Hs, ⟨%fd, Hd⟩, Ht, Ht', #Hr⟩ Hk
  iapply (Rounds.wp_send_pointsTo 𝒱₀ ER (rd A) (c : Thread nD τ) none (c' := (pr (up d) c : Thread nD τ)) (src := chM (pr (up d) c)) (dst := slM (op d))
      (sS := .dma (dsem (rsS d))) (sem := .dma (dsem (rsR (op d)))) (q := fullShare) (fs := p16 c A) (κ₁ := K (dCell c (rsS d)))
      (κ₂ := K (dCell (pr (up d) c) (rsR (op d)))) (r₁ := 0) (r₂ := 0) (d₁ := 0) (d₂ := 0) (fd := fd)
      (by rw [duties_dma]; exact Finset.mem_singleton_self _) (by rw [duties_dma]; exact Finset.mem_singleton_self _)
      () () Nrs rfl (amount_rsS A c d 0) (amount_rsR A (pr (up d) c) (op d) 0) O rfl (W := W)
      (by rw [payload_rsS]; exact BI.Entails.refl _)
      (by
        rw [payload_rsR]; unfold slPts
        refine Entails.of_eq (pointsTo_congr (write_agree (F := F) (slM (op d)).view fd (rsB (pr (up d) c) A) _ fun x => ?_))
        show rsB (pr (up d) c) A (slE (op d) x) = p16 c A (chE (pr (up d) c) x)
        rw [show rsB (pr (up d) c) A (slE (op d) x) = _ from rsB_emb A (pr (up d) c) (op d) x,
          show p16 c A (chE (pr (up d) c) x) = _ from p16_emb A c d x, pr_op_up, op_op])) $$ [HO Hs Hd Ht Ht']
  · isplitr; · iapply (known_inv_dma A K c c (rsS d)); iexact HK
    isplitr; · iapply (known_inv_dma A K c (pr (up d) c) (rsR (op d))); iexact HK
    isplitl [Hs]; · iexact Hs
    isplitl [Hd]; · iexact Hd
    isplitl [HO]; · iexact HO
    isplitl [Ht]; · iexact Ht
    isplitr; · iapply (known_reached_dma A K c (rsS d)); iexact HK
    isplitl [Ht']; · iexact Ht'
    iexact Hr
  iintro ⟨Hc, HO⟩
  iapply Hk
  isplitl [Hc]; · iexact Hc
  iexists _; iexact HO

theorem wp_sendAg (d : Fin 3) (h : Fin 2) {src dst : Memref sig .tc .vmem S128x1024 .bf16} {q : Dev nD} {sS sR : DmaSem sig}
    (hq : q = pr (up d) c) (hs : src = hfM c h) (hd : dst = hfM c h) (hS : sS = dsem (agS d h)) (hR : sR = dsem (agR (op d) h))
    {O : CellTallies nD τ sig Unit} {h4 : dst.view.ref.isScScratch = false} {h1 : src.view.WordExact} {h2 : dst.view.WordExact}
    {h3 : DmaTarget.Typed .vmem (.dma sR) (.remote (Dev.tc q) dst (.dma sS) h4)} {k : PUnit → Prog (TpuEff nD τ sig (Elt F) Λ₀ .tc) PUnit} {Q : PUnit → sProp 𝕄} :
    iprop(known A K c ∗ (∃ W, owes (c : Thread nD τ) (O + owAg c d h) W) ∗ hfPts c c h (shr d) (agB A)
        ∗ (∃ f, hfPts (pr (up d) c) c h fullShare f)
        ∗ dutyTok ER (dCell c (agS d h)) 0 0 ∗ dutyTok ER (dCell (pr (up d) c) (agR (op d) h)) 0 0
        ∗ reached ER (dCell (pr (up d) c) (agR (op d) h)) 0)
      ⊢ iprop(((cred (tallyAt (dCell c (agS d h)) () Nag) ∗ (∃ W, owes (c : Thread nD τ) O W))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc q) dst (.dma sS) h4) (.dma sR) h1 h2 h3) k) Q) := by
  subst hq hs hd hS hR
  unfold hfPts
  iintro ⟨#HK, ⟨%W, HO⟩, Hs, ⟨%fd, Hd⟩, Ht, Ht', #Hr⟩ Hk
  iapply (Rounds.wp_send_pointsTo 𝒱₀ ER (rd A) (c : Thread nD τ) none (c' := (pr (up d) c : Thread nD τ)) (src := hfM c h) (dst := hfM c h)
      (sS := .dma (dsem (agS d h))) (sem := .dma (dsem (agR (op d) h))) (q := shr d) (fs := agB A) (κ₁ := K (dCell c (agS d h)))
      (κ₂ := K (dCell (pr (up d) c) (agR (op d) h))) (r₁ := 0) (r₂ := 0) (d₁ := 0) (d₂ := 0) (fd := fd)
      (by rw [duties_dma]; exact Finset.mem_singleton_self _) (by rw [duties_dma]; exact Finset.mem_singleton_self _)
      () () Nag rfl (amount_agS A c d h 0) (amount_agR A (pr (up d) c) (op d) h 0) O rfl (W := W)
      (by rw [payload_agS]; exact BI.Entails.refl _)
      (by
        rw [payload_agR, pr_op_up]; unfold hfPts
        exact Entails.of_eq (pointsTo_congr (write_agree (F := F) (hfM c h).view fd (agB A) _ fun x => rfl)))) $$ [HO Hs Hd Ht Ht']
  · isplitr; · iapply (known_inv_dma A K c c (agS d h)); iexact HK
    isplitr; · iapply (known_inv_dma A K c (pr (up d) c) (agR (op d) h)); iexact HK
    isplitl [Hs]; · iexact Hs
    isplitl [Hd]; · iexact Hd
    isplitl [HO]; · iexact HO
    isplitl [Ht]; · iexact Ht
    isplitr; · iapply (known_reached_dma A K c (agS d h)); iexact HK
    isplitl [Ht']; · iexact Ht'
    iexact Hr
  iintro ⟨Hc, HO⟩
  iapply Hk
  isplitl [Hc]; · iexact Hc
  iexists _; iexact HO

/-- A wait on one of the device's own copy cells, for all of its one round. -/
theorem wp_waitD {s : Shape} {e : EltTy} (i : Fin 18) (N : ℕ) {src dst : Memref sig .tc .vmem s e} {sm : DmaSem sig} (hs : sm = dsem i)
    (hN : dst.view.dmaCredit = N) (hA : (rd A).amount (dCell c i) 0 0 = N) {O : CellTallies nD τ sig Unit}
    (hO : Above (lv (dCell c i) ()) O) {P : sProp 𝕄} (hP : (rd A).payload (dCell c i) 0 0 = P)
    {h1 h2} {k : PUnit → Prog (TpuEff nD τ sig (Elt F) Λ₀ .tc) PUnit} {Q : PUnit → sProp 𝕄} :
    iprop(known A K c ∗ (∃ W, owes (c : Thread nD τ) O W) ∗ cred (tallyAt (dCell c i) () N) ∗ atPos ER (dCell c i) 0 ∅ 0)
      ⊢ iprop((((∃ W, owes (c : Thread nD τ) O W) ∗ atPos ER (dCell c i) (0 + 1) ∅ 0 ∗ P)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst h1 h2) k) Q) := by
  subst hs hP hN
  iintro ⟨#HK, ⟨%W, HO⟩, Hc, Ha⟩ Hk
  iapply (Rounds.wp_wait_rest_token 𝒱₀ ER (rd A) (c : Thread nD τ) none (κ := K (dCell c i))
    (wpE_waitDma2_eq 𝒱₀ (c : Thread nD τ) none Set.univ) (Set.mem_univ _) () (O := O) (W := W) (R := 0) (m := 0) (T := ∅)
    ((Nat.zero_add _).trans (expect_one A c i _ hA).symm)) $$ [HO Hc Ha]
  · isplitr; · iapply (known_inv_dma A K c c i); iexact HK
    isplitl [Hc]; · iexact Hc
    isplitl [HO]; · iexact HO
    isplitr
    · iapply (mayWait c (.dma (dsem i)) O hO); iapply (known_levels A K c); iexact HK
    iexact Ha
  iintro ⟨HO, Ha, -, Hp⟩
  ihave Hp := (Entails.of_eq (rest_one A c i)) $$ Hp
  iapply Hk
  isplitl [HO]; · iexists _; iexact HO
  isplitl [Ha]; · iexact Ha
  iexact Hp

theorem above_zero (n : ℕ) : Above n (0 : CellTallies nD τ sig Unit) := fun g u h => absurd h (Nat.lt_irrefl 0)

end Cert.KernelIdeal.Att
-- ==== Proof.Steps.lean ====
/-
  The steps that read and write the device's own buffers, and what the result buffer holds as they go.
-/
module

public import proofs.«01_k».proof.Proof.Rules

@[expose] public section

set_option maxRecDepth 16384
set_option synthInstance.maxSize 4096

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → Ins F) (c : Dev nD)

theorem pts_conv {ℓ : Loc nD τ sig} {I : Finset (Idx ℓ)} {q : PosShare TreeShare} {f g : Buf (Elt F) ℓ} (h : ∀ i ∈ I, f i = g i) :
    (ℓ ↦[I]{q} f : sProp 𝕄) ⊢ ℓ ↦[I]{q} g := Entails.of_eq (pointsTo_congr h)

/-- A buffer of the device held whole. -/
def full (c : Dev nD) (b : Ref sig .tc) (f : Buf (Elt F) ((c : Thread nD τ).loc b)) : sProp 𝕄 := (c : Thread nD τ).loc b ↦{fullShare} f

theorem wp_ld {cs : CoreSpace} {i : Fin (sig.nNear .tc cs)} {hκ : sig.names .tc cs i = true}
    {r : Rect (sig.tyNear .tc cs i).shape} {hl : (Memref.whole ⟨cs, i, hκ⟩ : Memref sig .tc _ _ _).view.LoadsAt r.toLoadRect}
    {f : (sig.tyNear .tc cs i).Contents (Elt F)} {k : (r.shape.Idx → Elt F (sig.tyNear .tc cs i).elt) → Prog (TpuEff nD τ sig (Elt F) Λ₀ .tc) PUnit}
    {Q : PUnit → sProp 𝕄} :
    full c ⟨cs, i, hκ⟩ f
      ⊢ iprop((full c ⟨cs, i, hκ⟩ f -∗ wp frame (wpE (defs₀ (F := F)) 𝒱₀ (c : Thread nD τ) none) Set.univ (k fun x => f (r.emb x)) Q)
        -∗ wp frame (wpE (defs₀ (F := F)) 𝒱₀ (c : Thread nD τ) none) Set.univ (.op (.load (Memref.whole ⟨cs, i, hκ⟩) r.toLoadRect hl) k) Q) :=
  wp_load (defs := defs₀ (F := F)) 𝒱₀ (c : Thread nD τ) none Set.univ (m := Memref.whole ⟨cs, i, hκ⟩) (r := r.toLoadRect) (hl := hl) (k := k)
    (S := Finset.univ) (f := f) (Finset.subset_univ _)

theorem ld_x {off size : Fin 2 → Nat} {h : ∀ a, off a + size a ≤ S1024x1024.size a}
    {hl : (Memref.whole cc0_stg0_0 : Memref sig .tc .vmem S1024x1024 .f32).view.LoadsAt (Rect.unit (s := S1024x1024) off size h).toLoadRect}
    {f : Vec F S1024x1024 .f32} {k : Vec F ⟨2, size⟩ .f32 → Prog (TpuEff nD τ sig (Elt F) Λ₀ .tc) PUnit} {Q : PUnit → sProp 𝕄} :
    full c cc0_stg0_0 f
      ⊢ iprop((full c cc0_stg0_0 f -∗ wp frame (wpE (defs₀ (F := F)) 𝒱₀ (c : Thread nD τ) none) Set.univ (k (blk f off size h)) Q)
        -∗ wp frame (wpE (defs₀ (F := F)) 𝒱₀ (c : Thread nD τ) none) Set.univ
          (.op (.load (Memref.whole cc0_stg0_0 : Memref sig .tc .vmem S1024x1024 .f32) (Rect.unit (s := S1024x1024) off size h).toLoadRect hl) k) Q) :=
  wp_load (defs := defs₀ (F := F)) 𝒱₀ (c : Thread nD τ) none Set.univ (m := (Memref.whole cc0_stg0_0 : Memref sig .tc .vmem S1024x1024 .f32))
    (r := (Rect.unit (s := S1024x1024) off size h).toLoadRect) (hl := hl) (k := k) (S := Finset.univ) (f := f) (Finset.subset_univ _)
theorem ld_wq {off size : Fin 2 → Nat} {h : ∀ a, off a + size a ≤ S1024x1024.size a}
    {hl : (Memref.whole cc0_stg1_0 : Memref sig .tc .vmem S1024x1024 .f32).view.LoadsAt (Rect.unit (s := S1024x1024) off size h).toLoadRect}
    {f : Vec F S1024x1024 .f32} {k : Vec F ⟨2, size⟩ .f32 → Prog (TpuEff nD τ sig (Elt F) Λ₀ .tc) PUnit} {Q : PUnit → sProp 𝕄} :
    full c cc0_stg1_0 f
      ⊢ iprop((full c cc0_stg1_0 f -∗ wp frame (wpE (defs₀ (F := F)) 𝒱₀ (c : Thread nD τ) none) Set.univ (k (blk f off size h)) Q)
        -∗ wp frame (wpE (defs₀ (F := F)) 𝒱₀ (c : Thread nD τ) none) Set.univ
          (.op (.load (Memref.whole cc0_stg1_0 : Memref sig .tc .vmem S1024x1024 .f32) (Rect.unit (s := S1024x1024) off size h).toLoadRect hl) k) Q) :=
  wp_load (defs := defs₀ (F := F)) 𝒱₀ (c : Thread nD τ) none Set.univ (m := (Memref.whole cc0_stg1_0 : Memref sig .tc .vmem S1024x1024 .f32))
    (r := (Rect.unit (s := S1024x1024) off size h).toLoadRect) (hl := hl) (k := k) (S := Finset.univ) (f := f) (Finset.subset_univ _)
theorem ld_wk {off size : Fin 2 → Nat} {h : ∀ a, off a + size a ≤ S1024x1024.size a}
    {hl : (Memref.whole cc0_stg2_0 : Memref sig .tc .vmem S1024x1024 .f32).view.LoadsAt (Rect.unit (s := S1024x1024) off size h).toLoadRect}
    {f : Vec F S1024x1024 .f32} {k : Vec F ⟨2, size⟩ .f32 → Prog (TpuEff nD τ sig (Elt F) Λ₀ .tc) PUnit} {Q : PUnit → sProp 𝕄} :
    full c cc0_stg2_0 f
      ⊢ iprop((full c cc0_stg2_0 f -∗ wp frame (wpE (defs₀ (F := F)) 𝒱₀ (c : Thread nD τ) none) Set.univ (k (blk f off size h)) Q)
        -∗ wp frame (wpE (defs₀ (F := F)) 𝒱₀ (c : Thread nD τ) none) Set.univ
          (.op (.load (Memref.whole cc0_stg2_0 : Memref sig .tc .vmem S1024x1024 .f32) (Rect.unit (s := S1024x1024) off size h).toLoadRect hl) k) Q) :=
  wp_load (defs := defs₀ (F := F)) 𝒱₀ (c : Thread nD τ) none Set.univ (m := (Memref.whole cc0_stg2_0 : Memref sig .tc .vmem S1024x1024 .f32))
    (r := (Rect.unit (s := S1024x1024) off size h).toLoadRect) (hl := hl) (k := k) (S := Finset.univ) (f := f) (Finset.subset_univ _)
theorem ld_wv {off size : Fin 2 → Nat} {h : ∀ a, off a + size a ≤ S1024x1024.size a}
    {hl : (Memref.whole cc0_stg3_0 : Memref sig .tc .vmem S1024x1024 .f32).view.LoadsAt (Rect.unit (s := S1024x1024) off size h).toLoadRect}
    {f : Vec F S1024x1024 .f32} {k : Vec F ⟨2, size⟩ .f32 → Prog (TpuEff nD τ sig (Elt F) Λ₀ .tc) PUnit} {Q : PUnit → sProp 𝕄} :
    full c cc0_stg3_0 f
      ⊢ iprop((full c cc0_stg3_0 f -∗ wp frame (wpE (defs₀ (F := F)) 𝒱₀ (c : Thread nD τ) none) Set.univ (k (blk f off size h)) Q)
        -∗ wp frame (wpE (defs₀ (F := F)) 𝒱₀ (c : Thread nD τ) none) Set.univ
          (.op (.load (Memref.whole cc0_stg3_0 : Memref sig .tc .vmem S1024x1024 .f32) (Rect.unit (s := S1024x1024) off size h).toLoadRect hl) k) Q) :=
  wp_load (defs := defs₀ (F := F)) 𝒱₀ (c : Thread nD τ) none Set.univ (m := (Memref.whole cc0_stg3_0 : Memref sig .tc .vmem S1024x1024 .f32))
    (r := (Rect.unit (s := S1024x1024) off size h).toLoadRect) (hl := hl) (k := k) (S := Finset.univ) (f := f) (Finset.subset_univ _)
theorem ld_wo {off size : Fin 2 → Nat} {h : ∀ a, off a + size a ≤ S1024x1024.size a}
    {hl : (Memref.whole cc0_stg4_0 : Memref sig .tc .vmem S1024x1024 .f32).view.LoadsAt (Rect.unit (s := S1024x1024) off size h).toLoadRect}
    {f : Vec F S1024x1024 .f32} {k : Vec F ⟨2, size⟩ .f32 → Prog (TpuEff nD τ sig (Elt F) Λ₀ .tc) PUnit} {Q : PUnit → sProp 𝕄} :
    full c cc0_stg4_0 f
      ⊢ iprop((full c cc0_stg4_0 f -∗ wp frame (wpE (defs₀ (F := F)) 𝒱₀ (c : Thread nD τ) none) Set.univ (k (blk f off size h)) Q)
        -∗ wp frame (wpE (defs₀ (F := F)) 𝒱₀ (c : Thread nD τ) none) Set.univ
          (.op (.load (Memref.whole cc0_stg4_0 : Memref sig .tc .vmem S1024x1024 .f32) (Rect.unit (s := S1024x1024) off size h).toLoadRect hl) k) Q) :=
  wp_load (defs := defs₀ (F := F)) 𝒱₀ (c : Thread nD τ) none Set.univ (m := (Memref.whole cc0_stg4_0 : Memref sig .tc .vmem S1024x1024 .f32))
    (r := (Rect.unit (s := S1024x1024) off size h).toLoadRect) (hl := hl) (k := k) (S := Finset.univ) (f := f) (Finset.subset_univ _)
theorem ld_cs {off size : Fin 2 → Nat} {h : ∀ a, off a + size a ≤ S1024x1024.size a}
    {hl : (Memref.whole cc0_stg5_0 : Memref sig .tc .vmem S1024x1024 .f32).view.LoadsAt (Rect.unit (s := S1024x1024) off size h).toLoadRect}
    {f : Vec F S1024x1024 .f32} {k : Vec F ⟨2, size⟩ .f32 → Prog (TpuEff nD τ sig (Elt F) Λ₀ .tc) PUnit} {Q : PUnit → sProp 𝕄} :
    full c cc0_stg5_0 f
      ⊢ iprop((full c cc0_stg5_0 f -∗ wp frame (wpE (defs₀ (F := F)) 𝒱₀ (c : Thread nD τ) none) Set.univ (k (blk f off size h)) Q)
        -∗ wp frame (wpE (defs₀ (F := F)) 𝒱₀ (c : Thread nD τ) none) Set.univ
          (.op (.load (Memref.whole cc0_stg5_0 : Memref sig .tc .vmem S1024x1024 .f32) (Rect.unit (s := S1024x1024) off size h).toLoadRect hl) k) Q) :=
  wp_load (defs := defs₀ (F := F)) 𝒱₀ (c : Thread nD τ) none Set.univ (m := (Memref.whole cc0_stg5_0 : Memref sig .tc .vmem S1024x1024 .f32))
    (r := (Rect.unit (s := S1024x1024) off size h).toLoadRect) (hl := hl) (k := k) (S := Finset.univ) (f := f) (Finset.subset_univ _)
theorem ld_sa {off size : Fin 2 → Nat} {h : ∀ a, off a + size a ≤ S1024x1024.size a}
    {hl : (Memref.whole cc0_stg6_0 : Memref sig .tc .vmem S1024x1024 .f32).view.LoadsAt (Rect.unit (s := S1024x1024) off size h).toLoadRect}
    {f : Vec F S1024x1024 .f32} {k : Vec F ⟨2, size⟩ .f32 → Prog (TpuEff nD τ sig (Elt F) Λ₀ .tc) PUnit} {Q : PUnit → sProp 𝕄} :
    full c cc0_stg6_0 f
      ⊢ iprop((full c cc0_stg6_0 f -∗ wp frame (wpE (defs₀ (F := F)) 𝒱₀ (c : Thread nD τ) none) Set.univ (k (blk f off size h)) Q)
        -∗ wp frame (wpE (defs₀ (F := F)) 𝒱₀ (c : Thread nD τ) none) Set.univ
          (.op (.load (Memref.whole cc0_stg6_0 : Memref sig .tc .vmem S1024x1024 .f32) (Rect.unit (s := S1024x1024) off size h).toLoadRect hl) k) Q) :=
  wp_load (defs := defs₀ (F := F)) 𝒱₀ (c : Thread nD τ) none Set.univ (m := (Memref.whole cc0_stg6_0 : Memref sig .tc .vmem S1024x1024 .f32))
    (r := (Rect.unit (s := S1024x1024) off size h).toLoadRect) (hl := hl) (k := k) (S := Finset.univ) (f := f) (Finset.subset_univ _)
theorem ld_sb {off size : Fin 2 → Nat} {h : ∀ a, off a + size a ≤ S1024x1024.size a}
    {hl : (Memref.whole cc0_stg7_0 : Memref sig .tc .vmem S1024x1024 .f32).view.LoadsAt (Rect.unit (s := S1024x1024) off size h).toLoadRect}
    {f : Vec F S1024x1024 .f32} {k : Vec F ⟨2, size⟩ .f32 → Prog (TpuEff nD τ sig (Elt F) Λ₀ .tc) PUnit} {Q : PUnit → sProp 𝕄} :
    full c cc0_stg7_0 f
      ⊢ iprop((full c cc0_stg7_0 f -∗ wp frame (wpE (defs₀ (F := F)) 𝒱₀ (c : Thread nD τ) none) Set.univ (k (blk f off size h)) Q)
        -∗ wp frame (wpE (defs₀ (F := F)) 𝒱₀ (c : Thread nD τ) none) Set.univ
          (.op (.load (Memref.whole cc0_stg7_0 : Memref sig .tc .vmem S1024x1024 .f32) (Rect.unit (s := S1024x1024) off size h).toLoadRect hl) k) Q) :=
  wp_load (defs := defs₀ (F := F)) 𝒱₀ (c : Thread nD τ) none Set.univ (m := (Memref.whole cc0_stg7_0 : Memref sig .tc .vmem S1024x1024 .f32))
    (r := (Rect.unit (s := S1024x1024) off size h).toLoadRect) (hl := hl) (k := k) (S := Finset.univ) (f := f) (Finset.subset_univ _)
theorem ld_kk {off size : Fin 2 → Nat} {h : ∀ a, off a + size a ≤ S1024x1024.size a}
    {hl : (Memref.whole cc0_scratch0 : Memref sig .tc .vmem S1024x1024 .bf16).view.LoadsAt (Rect.unit (s := S1024x1024) off size h).toLoadRect}
    {f : Vec F S1024x1024 .bf16} {k : Vec F ⟨2, size⟩ .bf16 → Prog (TpuEff nD τ sig (Elt F) Λ₀ .tc) PUnit} {Q : PUnit → sProp 𝕄} :
    full c cc0_scratch0 f
      ⊢ iprop((full c cc0_scratch0 f -∗ wp frame (wpE (defs₀ (F := F)) 𝒱₀ (c : Thread nD τ) none) Set.univ (k (blk f off size h)) Q)
        -∗ wp frame (wpE (defs₀ (F := F)) 𝒱₀ (c : Thread nD τ) none) Set.univ
          (.op (.load (Memref.whole cc0_scratch0 : Memref sig .tc .vmem S1024x1024 .bf16) (Rect.unit (s := S1024x1024) off size h).toLoadRect hl) k) Q) :=
  wp_load (defs := defs₀ (F := F)) 𝒱₀ (c : Thread nD τ) none Set.univ (m := (Memref.whole cc0_scratch0 : Memref sig .tc .vmem S1024x1024 .bf16))
    (r := (Rect.unit (s := S1024x1024) off size h).toLoadRect) (hl := hl) (k := k) (S := Finset.univ) (f := f) (Finset.subset_univ _)
theorem ld_vv {off size : Fin 2 → Nat} {h : ∀ a, off a + size a ≤ S1024x1024.size a}
    {hl : (Memref.whole cc0_scratch1 : Memref sig .tc .vmem S1024x1024 .bf16).view.LoadsAt (Rect.unit (s := S1024x1024) off size h).toLoadRect}
    {f : Vec F S1024x1024 .bf16} {k : Vec F ⟨2, size⟩ .bf16 → Prog (TpuEff nD τ sig (Elt F) Λ₀ .tc) PUnit} {Q : PUnit → sProp 𝕄} :
    full c cc0_scratch1 f
      ⊢ iprop((full c cc0_scratch1 f -∗ wp frame (wpE (defs₀ (F := F)) 𝒱₀ (c : Thread nD τ) none) Set.univ (k (blk f off size h)) Q)
        -∗ wp frame (wpE (defs₀ (F := F)) 𝒱₀ (c : Thread nD τ) none) Set.univ
          (.op (.load (Memref.whole cc0_scratch1 : Memref sig .tc .vmem S1024x1024 .bf16) (Rect.unit (s := S1024x1024) off size h).toLoadRect hl) k) Q) :=
  wp_load (defs := defs₀ (F := F)) 𝒱₀ (c : Thread nD τ) none Set.univ (m := (Memref.whole cc0_scratch1 : Memref sig .tc .vmem S1024x1024 .bf16))
    (r := (Rect.unit (s := S1024x1024) off size h).toLoadRect) (hl := hl) (k := k) (S := Finset.univ) (f := f) (Finset.subset_univ _)

/-- The whole array as its own block. -/
theorem emb_all (h) (x : S1024x1024.Idx) : (Rect.unit (s := S1024x1024) ![0, 0] S1024x1024.size h).emb x = x := by
  funext a; apply Fin.ext
  rw [Rect.emb_apply]
  fin_cases a
  · show 0 + 1 * (x 0).val = (x 0).val; omega
  · show 0 + 1 * (x 1).val = (x 1).val; omega
theorem blk_all {e : EltTy} (f : Vec F S1024x1024 e) (h) : blk f ![0, 0] S1024x1024.size h = f := funext fun x => congrArg f (emb_all h x)

theorem st_kk {h} {w f : Vec F S1024x1024 .bf16} {hx hm} {k : PUnit → Prog (TpuEff nD τ sig (Elt F) Λ₀ .tc) PUnit} {Q : PUnit → sProp 𝕄} :
    full c cc0_scratch0 f
      ⊢ iprop((full c cc0_scratch0 w -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole cc0_scratch0 : Memref sig .tc .vmem S1024x1024 .bf16) (Rect.unit (s := S1024x1024) ![0, 0] S1024x1024.size h) w Finset.univ hx hm) k) Q) := by
  have e : ((Memref.whole cc0_scratch0 : Memref sig .tc .vmem S1024x1024 .bf16).access (Rect.unit (s := S1024x1024) ![0, 0] S1024x1024.size h)).write (Elt F) f w Finset.univ = w := by
    funext i
    refine (congrArg _ (emb_all h i).symm).trans ((View.write_emb_of_mem _ _ (Finset.mem_univ i)).trans ?_)
    rfl
  unfold full
  iintro H Hk
  iapply (wp_store (defs := defs₀ (F := F)) 𝒱₀ (c : Thread nD τ) none Set.univ (Q := Q) (m := (Memref.whole cc0_scratch0 : Memref sig .tc .vmem S1024x1024 .bf16))
    (r := Rect.unit (s := S1024x1024) ![0, 0] S1024x1024.size h) (w := w) (Mk := Finset.univ) (hx := hx) (hm := hm) (k := k) (f := f)
    (S := Finset.univ) (Finset.subset_univ _)) $$ [H]
  · iexact H
  iintro H
  iapply Hk
  rw [e]
  iexact H
theorem st_vv {h} {w f : Vec F S1024x1024 .bf16} {hx hm} {k : PUnit → Prog (TpuEff nD τ sig (Elt F) Λ₀ .tc) PUnit} {Q : PUnit → sProp 𝕄} :
    full c cc0_scratch1 f
      ⊢ iprop((full c cc0_scratch1 w -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole cc0_scratch1 : Memref sig .tc .vmem S1024x1024 .bf16) (Rect.unit (s := S1024x1024) ![0, 0] S1024x1024.size h) w Finset.univ hx hm) k) Q) := by
  have e : ((Memref.whole cc0_scratch1 : Memref sig .tc .vmem S1024x1024 .bf16).access (Rect.unit (s := S1024x1024) ![0, 0] S1024x1024.size h)).write (Elt F) f w Finset.univ = w := by
    funext i
    refine (congrArg _ (emb_all h i).symm).trans ((View.write_emb_of_mem _ _ (Finset.mem_univ i)).trans ?_)
    rfl
  unfold full
  iintro H Hk
  iapply (wp_store (defs := defs₀ (F := F)) 𝒱₀ (c : Thread nD τ) none Set.univ (Q := Q) (m := (Memref.whole cc0_scratch1 : Memref sig .tc .vmem S1024x1024 .bf16))
    (r := Rect.unit (s := S1024x1024) ![0, 0] S1024x1024.size h) (w := w) (Mk := Finset.univ) (hx := hx) (hm := hm) (k := k) (f := f)
    (S := Finset.univ) (Finset.subset_univ _)) $$ [H]
  · iexact H
  iintro H
  iapply Hk
  rw [e]
  iexact H

/-! ## The partial-output buffer -/

theorem ld_ch (j : Dev nD) {off : Fin 2 → Nat} (ho : off = ![256 * j.val, 0]) {h hl} {f : Vec F S1024x1024 .bf16}
    {k : Vec F S256x1024 .bf16 → Prog (TpuEff nD τ sig (Elt F) Λ₀ .tc) PUnit} {Q : PUnit → sProp 𝕄} :
    chPts c j f
      ⊢ iprop((∀ v, chPts c j f -∗ wp frame (wpE (defs₀ (F := F)) 𝒱₀ (c : Thread nD τ) none) Set.univ (k v) Q)
        -∗ wp frame (wpE (defs₀ (F := F)) 𝒱₀ (c : Thread nD τ) none) Set.univ
          (.op (.load (Memref.whole cc0_scratch2 : Memref sig .tc .vmem S1024x1024 .bf16) (Rect.unit (s := S1024x1024) off S256x1024.size h).toLoadRect hl) k) Q) := by
  subst ho
  unfold chPts
  iintro H Hk
  iapply (wp_load_rect (defs := defs₀ (F := F)) 𝒱₀ (c : Thread nD τ) none Set.univ (m := (Memref.whole cc0_scratch2 : Memref sig .tc .vmem S1024x1024 .bf16))
    (r := Rect.unit (s := S1024x1024) ![256 * j.val, 0] S256x1024.size h) (hl := hl) (k := k) (S := (chM j).view.set) (f := f) (subset_of_eq rfl)) $$ [H]
  · iexact H
  iintro H
  iapply Hk; iexact H

theorem st_ch (d : Fin 3) {off : Fin 2 → Nat} (ho : off = ![256 * (pr (up d) c).val, 0]) {h} {f : Vec F S1024x1024 .bf16}
    {w : Vec F S256x1024 .bf16} (hw : w = chunk (A c) c d) {hx hm} {k : PUnit → Prog (TpuEff nD τ sig (Elt F) Λ₀ .tc) PUnit} {Q : PUnit → sProp 𝕄} :
    chPts c (pr (up d) c) f
      ⊢ iprop((chPts c (pr (up d) c) (p16 c A) -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole cc0_scratch2 : Memref sig .tc .vmem S1024x1024 .bf16) (Rect.unit (s := S1024x1024) off S256x1024.size h) w Finset.univ hx hm) k) Q) := by
  subst ho
  unfold chPts
  iintro H Hk
  iapply (wp_store (defs := defs₀ (F := F)) 𝒱₀ (c : Thread nD τ) none Set.univ (m := (Memref.whole cc0_scratch2 : Memref sig .tc .vmem S1024x1024 .bf16))
    (r := Rect.unit (s := S1024x1024) ![256 * (pr (up d) c).val, 0] S256x1024.size h) (w := w) (Mk := Finset.univ) (hx := hx) (hm := hm) (k := k) (f := f)
    (S := (chM (pr (up d) c)).view.set) (subset_of_eq rfl)) $$ [H]
  · iexact H
  iintro H
  iapply Hk
  iapply (pts_conv (F := F) (ℓ := (chM (pr (up d) c)).view.loc (c : Thread nD τ)) (write_agree (F := F) (chM (pr (up d) c)).view f (p16 c A) w fun x => by
    rw [hw]; exact p16_emb A c d x))
  iexact H

/-! ## The gather buffer -/

theorem ld_hf (j : Dev nD) (u : Fin 2) {off : Fin 2 → Nat} (ho : off = ![256 * j.val + 128 * u.val, 0]) {h hl} {f : Vec F S1024x1024 .bf16}
    {k : Vec F S128x1024 .bf16 → Prog (TpuEff nD τ sig (Elt F) Λ₀ .tc) PUnit} {Q : PUnit → sProp 𝕄} :
    hfPts c j u fullShare f
      ⊢ iprop((hfPts c j u fullShare f -∗ wp frame (wpE (defs₀ (F := F)) 𝒱₀ (c : Thread nD τ) none) Set.univ (k fun x => f (hfE j u x)) Q)
        -∗ wp frame (wpE (defs₀ (F := F)) 𝒱₀ (c : Thread nD τ) none) Set.univ
          (.op (.load (Memref.whole cc0_scratch3 : Memref sig .tc .vmem S1024x1024 .bf16) (Rect.unit (s := S1024x1024) off S128x1024.size h).toLoadRect hl) k) Q) := by
  subst ho
  exact wp_load_rect (defs := defs₀ (F := F)) 𝒱₀ (c : Thread nD τ) none Set.univ (m := (Memref.whole cc0_scratch3 : Memref sig .tc .vmem S1024x1024 .bf16))
    (r := Rect.unit (s := S1024x1024) ![256 * j.val + 128 * u.val, 0] S128x1024.size h) (hl := hl) (k := k) (S := (hfM j u).view.set) (f := f) (subset_of_eq rfl)

/-- A load of what the gather left. -/
theorem ld_ag (j : Dev nD) (u : Fin 2) {off : Fin 2 → Nat} (ho : off = ![256 * j.val + 128 * u.val, 0]) {h hl}
    {k : Vec F S128x1024 .bf16 → Prog (TpuEff nD τ sig (Elt F) Λ₀ .tc) PUnit} {Q : PUnit → sProp 𝕄} :
    hfPts c j u fullShare (agB A)
      ⊢ iprop((hfPts c j u fullShare (agB A) -∗ wp frame (wpE (defs₀ (F := F)) 𝒱₀ (c : Thread nD τ) none) Set.univ (k (redB j A u)) Q)
        -∗ wp frame (wpE (defs₀ (F := F)) 𝒱₀ (c : Thread nD τ) none) Set.univ
          (.op (.load (Memref.whole cc0_scratch3 : Memref sig .tc .vmem S1024x1024 .bf16) (Rect.unit (s := S1024x1024) off S128x1024.size h).toLoadRect hl) k) Q) := by
  have e : (fun x => agB A (hfE j u x)) = redB j A u := funext fun x => agB_emb A j u x
  have := ld_hf c j u ho (h := h) (hl := hl) (f := agB A) (k := k) (Q := Q)
  rw [e] at this
  exact this

theorem st_hf (u : Fin 2) {off : Fin 2 → Nat} (ho : off = ![256 * c.val + 128 * u.val, 0]) {h} {f : Vec F S1024x1024 .bf16}
    {w : Vec F S128x1024 .bf16} (hw : w = redB c A u) {hx hm} {k : PUnit → Prog (TpuEff nD τ sig (Elt F) Λ₀ .tc) PUnit} {Q : PUnit → sProp 𝕄} :
    hfPts c c u fullShare f
      ⊢ iprop((iprop(hfPts c c u (shr 0) (agB A) ∗ hfPts c c u (shr 1) (agB A) ∗ hfPts c c u (shr 2) (agB A))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole cc0_scratch3 : Memref sig .tc .vmem S1024x1024 .bf16) (Rect.unit (s := S1024x1024) off S128x1024.size h) w Finset.univ hx hm) k) Q) := by
  subst ho
  iintro H Hk
  iapply (wp_store (defs := defs₀ (F := F)) 𝒱₀ (c : Thread nD τ) none Set.univ (m := (Memref.whole cc0_scratch3 : Memref sig .tc .vmem S1024x1024 .bf16))
    (r := Rect.unit (s := S1024x1024) ![256 * c.val + 128 * u.val, 0] S128x1024.size h) (w := w) (Mk := Finset.univ) (hx := hx) (hm := hm) (k := k) (f := f)
    (S := (hfM c u).view.set) (subset_of_eq rfl)) $$ [H]
  · unfold hfPts; iexact H
  iintro H
  iapply Hk
  iapply (hf_shares c c u (agB A)).1
  unfold hfPts
  iapply (pts_conv (F := F) (ℓ := (hfM c u).view.loc (c : Thread nD τ)) (write_agree (F := F) (hfM c u).view f (agB A) w fun x => by
    rw [hw]; exact agB_emb A c u x))
  iexact H

/-! ## The receive buffer -/

theorem ld_sl (s : Fin 3) (u : Fin 2) {off : Fin 3 → Nat} (ho : off = ![s.val, 128 * u.val, 0]) {h hl}
    {k : Vec F S1x128x1024 .bf16 → Prog (TpuEff nD τ sig (Elt F) Λ₀ .tc) PUnit} {Q : PUnit → sProp 𝕄} :
    slPts c s (rsB c A)
      ⊢ iprop((slPts c s (rsB c A) -∗ wp frame (wpE (defs₀ (F := F)) 𝒱₀ (c : Thread nD τ) none) Set.univ (k (rsV c A s u)) Q)
        -∗ wp frame (wpE (defs₀ (F := F)) 𝒱₀ (c : Thread nD τ) none) Set.univ
          (.op (.load (Memref.whole cc0_scratch4 : Memref sig .tc .vmem S3x256x1024 .bf16) (Rect.unit (s := S3x256x1024) off S1x128x1024.size h).toLoadRect hl) k) Q) := by
  subst ho
  refine wp_load_rect (defs := defs₀ (F := F)) 𝒱₀ (c : Thread nD τ) none Set.univ (m := (Memref.whole cc0_scratch4 : Memref sig .tc .vmem S3x256x1024 .bf16))
    (r := Rect.unit (s := S3x256x1024) ![s.val, 128 * u.val, 0] S1x128x1024.size h) (hl := hl) (k := k) (S := (slM s).view.set) (f := rsB c A) ?_
  have e : ((Memref.whole cc0_scratch4 : Memref sig .tc .vmem S3x256x1024 .bf16).access (Rect.unit (s := S3x256x1024) ![s.val, 128 * u.val, 0] S1x128x1024.size h)).set
      = (Rect.unit (s := S3x256x1024) ![s.val, 128 * u.val, 0] S1x128x1024.size h).set := View.set_slice_whole _ _
  rw [e]
  intro i hi
  have hi0 := (Rect.mem_set_unit.mp hi) 0
  have h1 : s.val ≤ (i 0).val := hi0.1
  have h2 : (i 0).val < s.val + 1 := hi0.2
  exact (mem_slM s i).mpr (by omega)

/-! ## The result buffer -/

/-- The row of the flattened result an entry lies in. -/
def rowOf (i : S2x512x1024.Idx) : Nat := 512 * (i 0).val + (i 1).val
theorem rowOf_lt (i : S2x512x1024.Idx) : rowOf i < 1024 := by
  have h0 : (i 0).val < 2 := (i 0).isLt
  have h1 : (i 1).val < 512 := (i 1).isLt
  unfold rowOf; omega
/-- The device and the half whose rows an entry's are. -/
def blkIx (i : S2x512x1024.Idx) : Dev nD × Fin 2 :=
  (⟨rowOf i / 256, Nat.div_lt_of_lt_mul (rowOf_lt i)⟩, ⟨rowOf i % 256 / 128, Nat.div_lt_of_lt_mul (Nat.mod_lt _ (by decide))⟩)

/-- What device `c` stores in the rows of half `h` of device `j`. -/
def outB (j : Dev nD) (h : Fin 2) : Vec F S128x1024 .f32 := if j = c then redF c A h else k0_pay75 (redB j A h)
/-- Device `c`'s result. -/
def outV : Vec F S2x512x1024 .f32 := fun i =>
  outB A c (blkIx i).1 (blkIx i).2 (ix128 (rowOf i % 128) (i 2).val (Nat.mod_lt _ (by decide)) (i 2).isLt)

/-- The result buffer agrees with the result on the rows of the named halves. -/
def Agr (S : List (Dev nD × Fin 2)) (f : Vec F S2x512x1024 .f32) : Prop := ∀ i, blkIx i ∈ S → f i = outV A c i
theorem agr_nil (f : Vec F S2x512x1024 .f32) : Agr A c [] f := fun _ h => absurd h List.not_mem_nil

theorem cast_row (v : Vec F S128x1024 .f32) (h : S128x1024.ShapeCasts S1x128x1024) (x : S1x128x1024.Idx) :
    shapeCast S1x128x1024 v h x = v (ix128 (x 1).val (x 2).val (x 1).isLt (x 2).isLt) := by
  have e : ∀ y : S128x1024.Idx, x = Shape.reshapeEquiv h.symm y → Shape.reshapeEquiv h x = y := fun y hy => by
    rw [hy, Shape.reshapeEquiv_reshapeEquiv, Shape.reshapeEquiv_self]
  have e := e (ix128 (x 1).val (x 2).val (x 1).isLt (x 2).isLt) (by
    rw [Shape.reshapeEquiv_cons_one]
    funext a; fin_cases a
    · exact Subsingleton.elim (α := Fin 1) _ _
    · rfl
    · rfl)
  exact congrArg v e

theorem ld_out {r : Rect S2x512x1024} {hl} {f : Vec F S2x512x1024 .f32}
    {k : (r.shape.Idx → Elt F .f32) → Prog (TpuEff nD τ sig (Elt F) Λ₀ .tc) PUnit} {Q : PUnit → sProp 𝕄} :
    full c cc0_stg8_0 f
      ⊢ iprop((full c cc0_stg8_0 f -∗ wp frame (wpE (defs₀ (F := F)) 𝒱₀ (c : Thread nD τ) none) Set.univ (k fun x => f (r.emb x)) Q)
        -∗ wp frame (wpE (defs₀ (F := F)) 𝒱₀ (c : Thread nD τ) none) Set.univ
          (.op (.load (Memref.whole cc0_stg8_0 : Memref sig .tc .vmem S2x512x1024 .f32) r.toLoadRect hl) k) Q) :=
  wp_ld c

/-- Half `u` of device `j` lies in the result. -/
abbrev OutIn (j : Dev nD) (u : Fin 2) : Prop :=
  ∀ a, (![j.val / 2, 256 * (j.val % 2) + 128 * u.val, 0] : Fin 3 → Nat) a + S1x128x1024.size a ≤ S2x512x1024.size a
/-- The rectangle of half `u` of device `j` in the result. -/
abbrev outR (j : Dev nD) (u : Fin 2) (h : OutIn j u) : Rect S2x512x1024 :=
  Rect.unit (s := S2x512x1024) ![j.val / 2, 256 * (j.val % 2) + 128 * u.val, 0] S1x128x1024.size h
/-- The entries of that rectangle. -/
def outE (j : Dev nD) (u : Fin 2) (h : OutIn j u) (x : S1x128x1024.Idx) : S2x512x1024.Idx := (outR j u h).emb x
/-- The buffer after a store in that rectangle. -/
def outW (j : Dev nD) (u : Fin 2) (h : OutIn j u) (f : Vec F S2x512x1024 .f32) (w : Vec F S1x128x1024 .f32) : Vec F S2x512x1024 .f32 :=
  ((Memref.whole cc0_stg8_0 : Memref sig .tc .vmem S2x512x1024 .f32).access (outR j u h)).write (Elt F) f w Finset.univ

theorem outW_emb (j : Dev nD) (u : Fin 2) (h : OutIn j u) (f : Vec F S2x512x1024 .f32) (w : Vec F S1x128x1024 .f32) (x : S1x128x1024.Idx) :
    outW j u h f w (outE j u h x) = w x :=
  (View.write_emb_of_mem (v := (Memref.whole cc0_stg8_0 : Memref sig .tc .vmem S2x512x1024 .f32).access (outR j u h)) f w (Finset.mem_univ x)).trans rfl
theorem outW_off (j : Dev nD) (u : Fin 2) (h : OutIn j u) (f : Vec F S2x512x1024 .f32) (w : Vec F S1x128x1024 .f32) (i : S2x512x1024.Idx)
    (hi : ∀ x, outE j u h x ≠ i) : outW j u h f w i = f i := by
  refine View.write_of_not_mem (v := (Memref.whole cc0_stg8_0 : Memref sig .tc .vmem S2x512x1024 .f32).access (outR j u h)) f w Finset.univ ?_
  intro hm
  obtain ⟨x, -, hx⟩ := Finset.mem_map.mp hm
  exact hi x hx

theorem outE_val (j : Dev nD) (u : Fin 2) (h : OutIn j u) (x : S1x128x1024.Idx) :
    (outE j u h x 0).val = j.val / 2 + 1 * (x 0).val ∧ (outE j u h x 1).val = 256 * (j.val % 2) + 128 * u.val + 1 * (x 1).val
      ∧ (outE j u h x 2).val = 0 + 1 * (x 2).val := ⟨rfl, rfl, rfl⟩

theorem blkIx_outE (j : Dev nD) (u : Fin 2) (h : OutIn j u) (x : S1x128x1024.Idx) : blkIx (outE j u h x) = (j, u) ∧ rowOf (outE j u h x) % 128 = (x 1).val := by
  obtain ⟨e0, e1, -⟩ := outE_val j u h x
  have x0 : (x 0).val < 1 := (x 0).isLt
  have x1 : (x 1).val < 128 := (x 1).isLt
  have hj : j.val < 4 := j.isLt
  have hu : u.val < 2 := u.isLt
  have hr : rowOf (outE j u h x) = 256 * j.val + 128 * u.val + (x 1).val := by unfold rowOf; omega
  refine ⟨Prod.ext (Fin.ext ?_) (Fin.ext ?_), ?_⟩
  · show rowOf (outE j u h x) / 256 = j.val; omega
  · show rowOf (outE j u h x) % 256 / 128 = u.val; omega
  · omega

theorem outE_onto (j : Dev nD) (u : Fin 2) (h : OutIn j u) (i : S2x512x1024.Idx) (hi : blkIx i = (j, u)) :
    outE j u h (Fin.cons (⟨0, Nat.one_pos⟩ : Fin 1) (ix128 (rowOf i % 128) (i 2).val (Nat.mod_lt _ (by decide)) (i 2).isLt)) = i := by
  have e1 : rowOf i / 256 = j.val := congrArg (fun p : Dev nD × Fin 2 => p.1.val) hi
  have e2 : rowOf i % 256 / 128 = u.val := congrArg (fun p : Dev nD × Fin 2 => p.2.val) hi
  have h0 : (i 0).val < 2 := (i 0).isLt
  have h1 : (i 1).val < 512 := (i 1).isLt
  have hr : rowOf i = 512 * (i 0).val + (i 1).val := rfl
  funext a; apply Fin.ext; fin_cases a
  · show j.val / 2 + 1 * 0 = (i 0).val; omega
  · show 256 * (j.val % 2) + 128 * u.val + 1 * (rowOf i % 128) = (i 1).val; omega
  · show 0 + 1 * (i 2).val = (i 2).val; omega

theorem agr_write (j : Dev nD) (u : Fin 2) (h : OutIn j u) (S : List (Dev nD × Fin 2)) (f : Vec F S2x512x1024 .f32) (hf : Agr A c S f) :
    Agr A c ((j, u) :: S) (outW j u h f (shapeCast S1x128x1024 (outB A c j u) shapeCasts_S128x1024_S1x128x1024)) := by
  intro i hi
  by_cases hb : blkIx i = (j, u)
  · rw [← outE_onto j u h i hb, outW_emb, cast_row, outE_onto j u h i hb]
    unfold outV
    rw [hb]
    rfl
  · rw [outW_off j u h f _ i fun x hx => hb (hx ▸ (blkIx_outE j u h x).1)]
    exact hf i ((List.mem_cons.mp hi).resolve_left hb)

theorem st_out (j : Dev nD) (u : Fin 2) {off : Fin 3 → Nat} (ho : off = ![j.val / 2, 256 * (j.val % 2) + 128 * u.val, 0]) {h}
    {w : Vec F S1x128x1024 .f32} (hw : w = shapeCast S1x128x1024 (outB A c j u) shapeCasts_S128x1024_S1x128x1024) {hx hm}
    (S : List (Dev nD × Fin 2)) {k : PUnit → Prog (TpuEff nD τ sig (Elt F) Λ₀ .tc) PUnit} {Q : PUnit → sProp 𝕄} :
    iprop(∃ f : Vec F S2x512x1024 .f32, ⌜Agr A c S f⌝ ∗ full c cc0_stg8_0 f)
      ⊢ iprop((iprop(∃ f : Vec F S2x512x1024 .f32, ⌜Agr A c ((j, u) :: S) f⌝ ∗ full c cc0_stg8_0 f)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole cc0_stg8_0 : Memref sig .tc .vmem S2x512x1024 .f32) (Rect.unit (s := S2x512x1024) off S1x128x1024.size h) w Finset.univ hx hm) k) Q) := by
  subst ho hw
  unfold full
  iintro ⟨%f, %hf, H⟩ Hk
  iapply (wp_store (defs := defs₀ (F := F)) 𝒱₀ (c : Thread nD τ) none Set.univ (m := (Memref.whole cc0_stg8_0 : Memref sig .tc .vmem S2x512x1024 .f32))
    (r := Rect.unit (s := S2x512x1024) ![j.val / 2, 256 * (j.val % 2) + 128 * u.val, 0] S1x128x1024.size h)
    (w := shapeCast S1x128x1024 (outB A c j u) shapeCasts_S128x1024_S1x128x1024) (Mk := Finset.univ) (hx := hx) (hm := hm) (k := k) (f := f)
    (S := Finset.univ) (Finset.subset_univ _)) $$ [H]
  · iexact H
  iintro H
  iapply Hk
  iexists _
  isplitr
  · ipureintro
    exact agr_write A c j u h S f hf
  iexact H

theorem agr_all {S : List (Dev nD × Fin 2)} (hS : ∀ p, p ∈ S) {f : Vec F S2x512x1024 .f32} (h : Agr A c S f) : f = outV A c :=
  funext fun i => h i (hS _)

end Cert.KernelIdeal.Att
-- ==== Proof.Body.lean ====
/-
  One run of the kernel body on a device: from its positions, tokens and buffers to every cell closed and the result written.
-/
module

public import proofs.«01_k».proof.Proof.Steps

@[expose] public section

set_option maxRecDepth 16384
set_option synthInstance.maxSize 4096

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → Ins F) (K : GSem nD τ sig → ℕ) (c : Dev nD)

theorem ldW_x {h : ∀ a, (![0, 0] : Fin 2 → Nat) a + S1024x1024.size a ≤ S1024x1024.size a} {hl} {f : Vec F S1024x1024 .f32}
    {k : Vec F S1024x1024 .f32 → Prog (TpuEff nD τ sig (Elt F) Λ₀ .tc) PUnit} {Q : PUnit → sProp 𝕄} :
    full c cc0_stg0_0 f
      ⊢ iprop((full c cc0_stg0_0 f -∗ wp frame (wpE (defs₀ (F := F)) 𝒱₀ (c : Thread nD τ) none) Set.univ (k f) Q)
        -∗ wp frame (wpE (defs₀ (F := F)) 𝒱₀ (c : Thread nD τ) none) Set.univ
          (.op (.load (Memref.whole cc0_stg0_0 : Memref sig .tc .vmem S1024x1024 .f32) (Rect.unit (s := S1024x1024) ![0, 0] S1024x1024.size h).toLoadRect hl) k) Q) := by
  have e := ld_x c (h := h) (hl := hl) (f := f) (k := k) (Q := Q)
  rw [blk_all] at e
  exact e
theorem ldW_wq {h : ∀ a, (![0, 0] : Fin 2 → Nat) a + S1024x1024.size a ≤ S1024x1024.size a} {hl} {f : Vec F S1024x1024 .f32}
    {k : Vec F S1024x1024 .f32 → Prog (TpuEff nD τ sig (Elt F) Λ₀ .tc) PUnit} {Q : PUnit → sProp 𝕄} :
    full c cc0_stg1_0 f
      ⊢ iprop((full c cc0_stg1_0 f -∗ wp frame (wpE (defs₀ (F := F)) 𝒱₀ (c : Thread nD τ) none) Set.univ (k f) Q)
        -∗ wp frame (wpE (defs₀ (F := F)) 𝒱₀ (c : Thread nD τ) none) Set.univ
          (.op (.load (Memref.whole cc0_stg1_0 : Memref sig .tc .vmem S1024x1024 .f32) (Rect.unit (s := S1024x1024) ![0, 0] S1024x1024.size h).toLoadRect hl) k) Q) := by
  have e := ld_wq c (h := h) (hl := hl) (f := f) (k := k) (Q := Q)
  rw [blk_all] at e
  exact e
theorem ldW_wk {h : ∀ a, (![0, 0] : Fin 2 → Nat) a + S1024x1024.size a ≤ S1024x1024.size a} {hl} {f : Vec F S1024x1024 .f32}
    {k : Vec F S1024x1024 .f32 → Prog (TpuEff nD τ sig (Elt F) Λ₀ .tc) PUnit} {Q : PUnit → sProp 𝕄} :
    full c cc0_stg2_0 f
      ⊢ iprop((full c cc0_stg2_0 f -∗ wp frame (wpE (defs₀ (F := F)) 𝒱₀ (c : Thread nD τ) none) Set.univ (k f) Q)
        -∗ wp frame (wpE (defs₀ (F := F)) 𝒱₀ (c : Thread nD τ) none) Set.univ
          (.op (.load (Memref.whole cc0_stg2_0 : Memref sig .tc .vmem S1024x1024 .f32) (Rect.unit (s := S1024x1024) ![0, 0] S1024x1024.size h).toLoadRect hl) k) Q) := by
  have e := ld_wk c (h := h) (hl := hl) (f := f) (k := k) (Q := Q)
  rw [blk_all] at e
  exact e
theorem ldW_wv {h : ∀ a, (![0, 0] : Fin 2 → Nat) a + S1024x1024.size a ≤ S1024x1024.size a} {hl} {f : Vec F S1024x1024 .f32}
    {k : Vec F S1024x1024 .f32 → Prog (TpuEff nD τ sig (Elt F) Λ₀ .tc) PUnit} {Q : PUnit → sProp 𝕄} :
    full c cc0_stg3_0 f
      ⊢ iprop((full c cc0_stg3_0 f -∗ wp frame (wpE (defs₀ (F := F)) 𝒱₀ (c : Thread nD τ) none) Set.univ (k f) Q)
        -∗ wp frame (wpE (defs₀ (F := F)) 𝒱₀ (c : Thread nD τ) none) Set.univ
          (.op (.load (Memref.whole cc0_stg3_0 : Memref sig .tc .vmem S1024x1024 .f32) (Rect.unit (s := S1024x1024) ![0, 0] S1024x1024.size h).toLoadRect hl) k) Q) := by
  have e := ld_wv c (h := h) (hl := hl) (f := f) (k := k) (Q := Q)
  rw [blk_all] at e
  exact e
theorem ldW_wo {h : ∀ a, (![0, 0] : Fin 2 → Nat) a + S1024x1024.size a ≤ S1024x1024.size a} {hl} {f : Vec F S1024x1024 .f32}
    {k : Vec F S1024x1024 .f32 → Prog (TpuEff nD τ sig (Elt F) Λ₀ .tc) PUnit} {Q : PUnit → sProp 𝕄} :
    full c cc0_stg4_0 f
      ⊢ iprop((full c cc0_stg4_0 f -∗ wp frame (wpE (defs₀ (F := F)) 𝒱₀ (c : Thread nD τ) none) Set.univ (k f) Q)
        -∗ wp frame (wpE (defs₀ (F := F)) 𝒱₀ (c : Thread nD τ) none) Set.univ
          (.op (.load (Memref.whole cc0_stg4_0 : Memref sig .tc .vmem S1024x1024 .f32) (Rect.unit (s := S1024x1024) ![0, 0] S1024x1024.size h).toLoadRect hl) k) Q) := by
  have e := ld_wo c (h := h) (hl := hl) (f := f) (k := k) (Q := Q)
  rw [blk_all] at e
  exact e
theorem ldW_cs {h : ∀ a, (![0, 0] : Fin 2 → Nat) a + S1024x1024.size a ≤ S1024x1024.size a} {hl} {f : Vec F S1024x1024 .f32}
    {k : Vec F S1024x1024 .f32 → Prog (TpuEff nD τ sig (Elt F) Λ₀ .tc) PUnit} {Q : PUnit → sProp 𝕄} :
    full c cc0_stg5_0 f
      ⊢ iprop((full c cc0_stg5_0 f -∗ wp frame (wpE (defs₀ (F := F)) 𝒱₀ (c : Thread nD τ) none) Set.univ (k f) Q)
        -∗ wp frame (wpE (defs₀ (F := F)) 𝒱₀ (c : Thread nD τ) none) Set.univ
          (.op (.load (Memref.whole cc0_stg5_0 : Memref sig .tc .vmem S1024x1024 .f32) (Rect.unit (s := S1024x1024) ![0, 0] S1024x1024.size h).toLoadRect hl) k) Q) := by
  have e := ld_cs c (h := h) (hl := hl) (f := f) (k := k) (Q := Q)
  rw [blk_all] at e
  exact e
theorem ldW_sa {h : ∀ a, (![0, 0] : Fin 2 → Nat) a + S1024x1024.size a ≤ S1024x1024.size a} {hl} {f : Vec F S1024x1024 .f32}
    {k : Vec F S1024x1024 .f32 → Prog (TpuEff nD τ sig (Elt F) Λ₀ .tc) PUnit} {Q : PUnit → sProp 𝕄} :
    full c cc0_stg6_0 f
      ⊢ iprop((full c cc0_stg6_0 f -∗ wp frame (wpE (defs₀ (F := F)) 𝒱₀ (c : Thread nD τ) none) Set.univ (k f) Q)
        -∗ wp frame (wpE (defs₀ (F := F)) 𝒱₀ (c : Thread nD τ) none) Set.univ
          (.op (.load (Memref.whole cc0_stg6_0 : Memref sig .tc .vmem S1024x1024 .f32) (Rect.unit (s := S1024x1024) ![0, 0] S1024x1024.size h).toLoadRect hl) k) Q) := by
  have e := ld_sa c (h := h) (hl := hl) (f := f) (k := k) (Q := Q)
  rw [blk_all] at e
  exact e
theorem ldW_sb {h : ∀ a, (![0, 0] : Fin 2 → Nat) a + S1024x1024.size a ≤ S1024x1024.size a} {hl} {f : Vec F S1024x1024 .f32}
    {k : Vec F S1024x1024 .f32 → Prog (TpuEff nD τ sig (Elt F) Λ₀ .tc) PUnit} {Q : PUnit → sProp 𝕄} :
    full c cc0_stg7_0 f
      ⊢ iprop((full c cc0_stg7_0 f -∗ wp frame (wpE (defs₀ (F := F)) 𝒱₀ (c : Thread nD τ) none) Set.univ (k f) Q)
        -∗ wp frame (wpE (defs₀ (F := F)) 𝒱₀ (c : Thread nD τ) none) Set.univ
          (.op (.load (Memref.whole cc0_stg7_0 : Memref sig .tc .vmem S1024x1024 .f32) (Rect.unit (s := S1024x1024) ![0, 0] S1024x1024.size h).toLoadRect hl) k) Q) := by
  have e := ld_sb c (h := h) (hl := hl) (f := f) (k := k) (Q := Q)
  rw [blk_all] at e
  exact e

/-! ## What the run starts and ends with -/

/-- The operands in their staging buffers. -/
def ins : sProp 𝕄 :=
  iprop(full c cc0_stg0_0 (A c).x ∗ full c cc0_stg1_0 (A c).wq ∗ full c cc0_stg2_0 (A c).wk ∗ full c cc0_stg3_0 (A c).wv ∗ full c cc0_stg4_0 (A c).wo ∗ full c cc0_stg5_0 (A c).cs ∗ full c cc0_stg6_0 (A c).sa ∗ full c cc0_stg7_0 (A c).sb)
/-- The scratch buffers, at any contents. -/
def scr : sProp 𝕄 :=
  iprop((∃ f : Vec F S1024x1024 .bf16, full c cc0_scratch0 f) ∗ (∃ f : Vec F S1024x1024 .bf16, full c cc0_scratch1 f)
    ∗ (∃ f, chAt (F := F) c Finset.univ f) ∗ (∃ f, hfAt (F := F) c Finset.univ f) ∗ (∃ f, slAt (F := F) c Finset.univ f))
/-- The duties device `c` pays towards the device `up d` on, and the send duties of its own copies there. -/
def tokD (d : Fin 3) : sProp 𝕄 :=
  iprop(dutyTok ER (bCell (pr (up d) c)) 0 (op d)
    ∗ dutyTok ER (dCell c (rsS d)) 0 0 ∗ dutyTok ER (dCell (pr (up d) c) (rsR (op d))) 0 0
    ∗ dutyTok ER (dCell c (agS d 0)) 0 0 ∗ dutyTok ER (dCell (pr (up d) c) (agR (op d) 0)) 0 0
    ∗ dutyTok ER (dCell c (agS d 1)) 0 0 ∗ dutyTok ER (dCell (pr (up d) c) (agR (op d) 1)) 0 0)
/-- The credit of what it waits for from there. -/
def crD (d : Fin 3) : sProp 𝕄 :=
  iprop(cred (tallyAt (dCell c (rsR d)) () Nrs) ∗ cred (tallyAt (dCell c (agR d 0)) () Nag) ∗ cred (tallyAt (dCell c (agR d 1)) () Nag))
def toks : sProp 𝕄 := iprop(tokD (F := F) c 0 ∗ tokD (F := F) c 1 ∗ tokD (F := F) c 2)
def crs : sProp 𝕄 := iprop(cred (tallyAt (bCell c) () 3) ∗ crD (F := F) c 0 ∗ crD (F := F) c 1 ∗ crD (F := F) c 2)
/-- A family over the eighteen cells, one by one. -/
theorem fin18 (Φ : Fin 18 → sProp 𝕄) : bigSep Finset.univ Φ = iprop(Φ (rsS 0) ∗ Φ (rsS 1) ∗ Φ (rsS 2) ∗ Φ (rsR 0) ∗ Φ (rsR 1) ∗ Φ (rsR 2) ∗ Φ (agS 0 0) ∗ Φ (agS 0 1) ∗ Φ (agS 1 0) ∗ Φ (agS 1 1) ∗ Φ (agS 2 0) ∗ Φ (agS 2 1) ∗ Φ (agR 0 0) ∗ Φ (agR 0 1) ∗ Φ (agR 1 0) ∗ Φ (agR 1 1) ∗ Φ (agR 2 0) ∗ Φ (agR 2 1)) :=
  bigSep_univ_eq_bigSepL [rsS 0, rsS 1, rsS 2, rsR 0, rsR 1, rsR 2, agS 0 0, agS 0 1, agS 1 0, agS 1 1, agS 2 0, agS 2 1, agR 0 0, agR 0 1, agR 1 0, agR 1 1, agR 2 0, agR 2 1] (by decide) (by decide) Φ
/-- The device's positions in its own cells. -/
def posn (n : ℕ) : sProp 𝕄 :=
  iprop(atPos ER (bCell c) n (∅ : Finset (Fin 3)) 0 ∗ bigSep Finset.univ fun k : Fin 18 => atPos ER (dCell c k) n (∅ : Finset (Fin 3)) 0)
/-- Its own counters, all zero. -/
def zeros : sProp 𝕄 := iprop(semVal (bCell c) 0 ∗ bigSep Finset.univ fun k : Fin 18 => semVal (dCell c k) 0)

theorem close_bar : iprop(known A K c ∗ atPos ER (bCell c) (0 + 1) ∅ 0) ⊢ (|={Set.univ}=> semVal (bCell c) 0 : sProp 𝕄) := by
  iintro ⟨HK, H⟩
  iapply (Rounds.cell_close ER (rd A) (Set.mem_univ (K (bCell c))) id (duties_later A (bCell c)))
  isplitl [HK]; · iapply (known_inv_bar A K c c); iexact HK
  iexact H
theorem close_dma (i : Fin 18) : iprop(known A K c ∗ atPos ER (dCell c i) (0 + 1) ∅ 0) ⊢ (|={Set.univ}=> semVal (dCell c i) 0 : sProp 𝕄) := by
  iintro ⟨HK, H⟩
  iapply (Rounds.cell_close ER (rd A) (Set.mem_univ (K (dCell c i))) id (duties_later A (dCell c i)))
  isplitl [HK]; · iapply (known_inv_dma A K c c i); iexact HK
  iexact H

def bodyPre : sProp 𝕄 :=
  iprop(known A K c ∗ posn (F := F) c 0 ∗ toks (F := F) c ∗ crs (F := F) c ∗ (∃ W, owes (c : Thread nD τ) (O₀ c) W)
    ∗ ins A c ∗ (∃ f : Vec F S2x512x1024 .f32, full c cc0_stg8_0 f) ∗ scr (F := F) c)
def bodyPost : sProp 𝕄 :=
  iprop(zeros (F := F) c ∗ (∃ W, owes (c : Thread nD τ) (0 : CellTallies nD τ sig Unit) W) ∗ ins A c ∗ full c cc0_stg8_0 (outV A c) ∗ scr (F := F) c)

/-- The body at the buffers it is launched with. -/
abbrev theBody : Prog (TpuEff nD τ sig (Elt F) Λ₀ .tc) PUnit :=
  cc0__body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8

theorem out_pack {S : List (Dev nD × Fin 2)} {f : Vec F S2x512x1024 .f32} (h : Agr A c S f) :
    full c cc0_stg8_0 f ⊢ iprop(∃ f : Vec F S2x512x1024 .f32, ⌜Agr A c S f⌝ ∗ full c cc0_stg8_0 f) := by
  iintro H
  iexists f
  isplitr
  · ipureintro; exact h
  iexact H
theorem credit_Nrs (m : Memref sig .tc .vmem S256x1024 .bf16) : m.view.dmaCredit = Nrs := rfl
theorem credit_Nag (m : Memref sig .tc .vmem S128x1024 .bf16) : m.view.dmaCredit = Nag := rfl
/-- The eight stores fill the result. -/
theorem out_all (c : Dev nD) : ∀ p : Dev nD × Fin 2, p ∈ [(pr (up 2) c, (1 : Fin 2)), (pr (up 2) c, 0), (pr (up 1) c, 1), (pr (up 1) c, 0), (pr (up 0) c, 1), (pr (up 0) c, 0), (c, 1), (c, 0)] := by
  revert c; decide
theorem pr_up_ne (c : Dev nD) (d : Fin 3) : ¬ pr (up d) c = c := by revert c d; decide
theorem out_own (u : Fin 2) {w : Vec F S1x128x1024 .f32} (h : w = shapeCast S1x128x1024 (redF c A u) shapeCasts_S128x1024_S1x128x1024) :
    w = shapeCast S1x128x1024 (outB A c c u) shapeCasts_S128x1024_S1x128x1024 := by unfold outB; rw [if_pos rfl]; exact h
theorem out_other (d : Fin 3) (u : Fin 2) {w : Vec F S1x128x1024 .f32}
    (h : w = shapeCast S1x128x1024 (k0_pay75 (redB (pr (up d) c) A u)) shapeCasts_S128x1024_S1x128x1024) :
    w = shapeCast S1x128x1024 (outB A c (pr (up d) c) u) shapeCasts_S128x1024_S1x128x1024 := by
  unfold outB; rw [if_neg (pr_up_ne c d)]; exact h

set_option maxHeartbeats 4000000 in
theorem body_run (Q : PUnit → sProp 𝕄) :
    iprop(bodyPre A K c ∗ (bodyPost A c -∗ Q ⟨⟩)) ⊢ wp frame (wpE (defs₀ (F := F)) 𝒱₀ (c : Thread nD τ) none) Set.univ (theBody (F := F)) Q := by
  unfold bodyPre posn toks crs ins scr
  rw [fin18]
  unfold tokD crD
  iintro ⟨⟨#HK, ⟨Pb, PrsS0, PrsS1, PrsS2, PrsR0, PrsR1, PrsR2, PagS00, PagS01, PagS10, PagS11, PagS20, PagS21, PagR00, PagR01, PagR10, PagR11, PagR20, PagR21⟩, ⟨⟨Tb0, TsS0, TsR0, TaS00, TaR00, TaS01, TaR01⟩, ⟨Tb1, TsS1, TsR1, TaS10, TaR10, TaS11, TaR11⟩, ⟨Tb2, TsS2, TsR2, TaS20, TaR20, TaS21, TaR21⟩⟩, ⟨Cb, ⟨Cr0, Ca00, Ca01⟩, ⟨Cr1, Ca10, Ca11⟩, ⟨Cr2, Ca20, Ca21⟩⟩, HO, ⟨Bx, Bwq, Bwk, Bwv, Bwo, Bcs, Bsa, Bsb⟩, Bout, ⟨⟨%fk, Bkk⟩, ⟨%fv, Bvv⟩, ⟨%fc, Bch⟩, ⟨%fh, Bhf⟩, ⟨%fs, Bsl⟩⟩⟩, Hpost⟩
  icases HO with ⟨%W0, HO⟩
  icases Bout with ⟨%fo, Bout⟩
  ihave Bch := (ch_split c fc) $$ Bch
  icases Bch with ⟨Bch, Bch0, Bch1, Bch2⟩
  ihave Bhf := (hf_split c fh) $$ Bhf
  unfold hf2
  icases Bhf with ⟨⟨Bh0, Bh1⟩, ⟨Bh00, Bh01⟩, ⟨Bh10, Bh11⟩, ⟨Bh20, Bh21⟩⟩
  ihave Bsl := (sl_split c fs) $$ Bsl
  icases Bsl with ⟨Bs0, Bs1, Bs2⟩
  unfold O₀
  unfold theBody
  simp only [cc0__body_eq_skeleton, cc0__body_skel, k0_part39_eq_skeleton, k0_part39_skel, Prog.bind_lift, Prog.bind_op, Prog.bind_ret, Prog.pure_eq_ret, semSignalWord, semWaitWord, wp_deviceId, Prog.bind_assoc]
  -- k0_part1
  simp only [k0_part1_eq_skeleton, k0_part1_skel, Prog.bind_lift, Prog.bind_op, Prog.bind_ret, Prog.pure_eq_ret, semSignalWord, semWaitWord, wp_deviceId]
  iapply (wp_barSig A K c 0 (Fin.ext (dev1_eq c)) rfl rfl) $$ [HO Tb0 Bs0 Bh00 Bh01]
  · isplitr; · iexact HK
    isplitl [HO]; · iexact HO
    isplitl [Tb0]; · iexact Tb0
    isplitl [Bs0]; · iexists fs; iexact Bs0
    isplitl [Bh00]; · iexists fh; iexact Bh00
    iexists fh; iexact Bh01
  iintro HO
  iapply (wp_barSig A K c 1 (Fin.ext (dev2_eq c)) rfl rfl) $$ [HO Tb1 Bs1 Bh10 Bh11]
  · isplitr; · iexact HK
    isplitl [HO]; · iexact HO
    isplitl [Tb1]; · iexact Tb1
    isplitl [Bs1]; · iexists fs; iexact Bs1
    isplitl [Bh10]; · iexists fh; iexact Bh10
    iexists fh; iexact Bh11
  iintro HO
  -- k0_part2
  simp only [k0_part2_eq_skeleton, k0_part2_skel, Prog.bind_lift, Prog.bind_op, Prog.bind_ret, Prog.pure_eq_ret, semSignalWord, semWaitWord, wp_deviceId]
  iapply (wp_barSig A K c 2 (Fin.ext (dev3_eq c)) rfl rfl) $$ [HO Tb2 Bs2 Bh20 Bh21]
  · isplitr; · iexact HK
    isplitl [HO]; · iexact HO
    isplitl [Tb2]; · iexact Tb2
    isplitl [Bs2]; · iexists fs; iexact Bs2
    isplitl [Bh20]; · iexists fh; iexact Bh20
    iexists fh; iexact Bh21
  iintro HO
  iapply (ldW_x c) $$ [Bx]; · iexact Bx
  iintro Bx
  iapply (ldW_wq c) $$ [Bwq]; · iexact Bwq
  iintro Bwq
  iapply (ldW_wo c) $$ [Bwo]; · iexact Bwo
  iintro Bwo
  iapply (ldW_wk c) $$ [Bwk]; · iexact Bwk
  iintro Bwk
  iapply (ldW_cs c) $$ [Bcs]; · iexact Bcs
  iintro Bcs
  iapply (ldW_sa c) $$ [Bsa]; · iexact Bsa
  iintro Bsa
  iapply (ldW_sb c) $$ [Bsb]; · iexact Bsb
  iintro Bsb
  -- k0_part3
  simp only [k0_part3_eq_skeleton, k0_part3_skel, Prog.bind_lift, Prog.bind_op, Prog.bind_ret, Prog.pure_eq_ret, semSignalWord, semWaitWord, wp_deviceId]
  iapply (ld_kk c) $$ [Bkk]; · iexact Bkk
  iintro Bkk
  iapply (st_kk c (w := kB (A c))) $$ [Bkk]; · iexact Bkk
  iintro Bkk
  iapply (ldW_wv c) $$ [Bwv]; · iexact Bwv
  iintro Bwv
  iapply (ld_vv c) $$ [Bvv]; · iexact Bvv
  iintro Bvv
  iapply (st_vv c (w := vB (A c))) $$ [Bvv]; · iexact Bvv
  iintro Bvv
  -- k0_part4
  simp only [k0_part4_eq_skeleton, k0_part4_skel, Prog.bind_lift, Prog.bind_op, Prog.bind_ret, Prog.pure_eq_ret, semSignalWord, semWaitWord, wp_deviceId]
  iapply (ld_x c) $$ [Bx]; · iexact Bx
  iintro Bx
  iapply (ld_cs c) $$ [Bcs]; · iexact Bcs
  iintro Bcs
  iapply (ld_sa c) $$ [Bsa]; · iexact Bsa
  iintro Bsa
  iapply (ld_sb c) $$ [Bsb]; · iexact Bsb
  iintro Bsb
  iapply (ld_kk c) $$ [Bkk]; · iexact Bkk
  iintro Bkk
  iapply (ld_vv c) $$ [Bvv]; · iexact Bvv
  iintro Bvv
  -- k0_part5
  simp only [k0_part5_eq_skeleton, k0_part5_skel, Prog.bind_lift, Prog.bind_op, Prog.bind_ret, Prog.pure_eq_ret, semSignalWord, semWaitWord, wp_deviceId]
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  -- k0_part6
  simp only [k0_part6_eq_skeleton, k0_part6_skel, Prog.bind_lift, Prog.bind_op, Prog.bind_ret, Prog.pure_eq_ret, semSignalWord, semWaitWord, wp_deviceId]
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  iapply (ld_kk c) $$ [Bkk]; · iexact Bkk
  iintro Bkk
  -- k0_part7
  simp only [k0_part7_eq_skeleton, k0_part7_skel, Prog.bind_lift, Prog.bind_op, Prog.bind_ret, Prog.pure_eq_ret, semSignalWord, semWaitWord, wp_deviceId]
  iapply (ld_vv c) $$ [Bvv]; · iexact Bvv
  iintro Bvv
  iapply (ld_kk c) $$ [Bkk]; · iexact Bkk
  iintro Bkk
  iapply (ld_vv c) $$ [Bvv]; · iexact Bvv
  iintro Bvv
  iapply (ld_ch c (pr (up 0) c) (off1_eq c 0)) $$ [Bch0]; · iexact Bch0
  iintro %v Bch0
  iapply (st_ch A c 0 (off1_eq c 0) rfl) $$ [Bch0]; · iexact Bch0
  iintro Bch0
  iapply (wp_barWait A K c rfl rfl) $$ [HO Cb Pb]
  · isplitr; · iexact HK
    isplitl [HO]; · iexists W0; iexact HO
    isplitl [Cb]; · iexact Cb
    iexact Pb
  unfold barPay
  iintro ⟨HO, Pb, ⟨D0, E00, E01, #N0, #N00, #N01⟩, ⟨D1, E10, E11, #N1, #N10, #N11⟩, ⟨D2, E20, E21, #N2, #N20, #N21⟩⟩
  unfold owR
  -- k0_part8
  simp only [k0_part8_eq_skeleton, k0_part8_skel, Prog.bind_lift, Prog.bind_op, Prog.bind_ret, Prog.pure_eq_ret, semSignalWord, semWaitWord, wp_deviceId]
  iapply (wp_sendRs A K c 0 (Fin.ext (dev4_eq c)) (slice_eq _ (off10_eq c 0) _ _ _ (fun _ => rfl)) rfl rfl rfl) $$ [HO Bch0 D0 TsS0 TsR0]
  · isplitr; · iexact HK
    isplitl [HO]; · iexact HO
    isplitl [Bch0]; · iexact Bch0
    isplitl [D0]; · iexact D0
    isplitl [TsS0]; · iexact TsS0
    isplitl [TsR0]; · iexact TsR0
    iexact N0
  iintro ⟨Cs0, HO⟩
  -- k0_part9
  simp only [k0_part9_eq_skeleton, k0_part9_skel, Prog.bind_lift, Prog.bind_op, Prog.bind_ret, Prog.pure_eq_ret, semSignalWord, semWaitWord, wp_deviceId]
  iapply (ld_x c) $$ [Bx]; · iexact Bx
  iintro Bx
  iapply (ld_cs c) $$ [Bcs]; · iexact Bcs
  iintro Bcs
  iapply (ld_sa c) $$ [Bsa]; · iexact Bsa
  iintro Bsa
  iapply (ld_sb c) $$ [Bsb]; · iexact Bsb
  iintro Bsb
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  -- k0_part10
  simp only [k0_part10_eq_skeleton, k0_part10_skel, Prog.bind_lift, Prog.bind_op, Prog.bind_ret, Prog.pure_eq_ret, semSignalWord, semWaitWord, wp_deviceId]
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  -- k0_part11
  simp only [k0_part11_eq_skeleton, k0_part11_skel, Prog.bind_lift, Prog.bind_op, Prog.bind_ret, Prog.pure_eq_ret, semSignalWord, semWaitWord, wp_deviceId]
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  -- k0_part12
  simp only [k0_part12_eq_skeleton, k0_part12_skel, Prog.bind_lift, Prog.bind_op, Prog.bind_ret, Prog.pure_eq_ret, semSignalWord, semWaitWord, wp_deviceId]
  iapply (ld_kk c) $$ [Bkk]; · iexact Bkk
  iintro Bkk
  iapply (ld_vv c) $$ [Bvv]; · iexact Bvv
  iintro Bvv
  iapply (ld_ch c (pr (up 1) c) (off1_eq c 1)) $$ [Bch1]; · iexact Bch1
  iintro %v Bch1
  iapply (st_ch A c 1 (off1_eq c 1) rfl) $$ [Bch1]; · iexact Bch1
  iintro Bch1
  iapply (wp_sendRs A K c 1 (Fin.ext (dev5_eq c)) (slice_eq _ (off10_eq c 1) _ _ _ (fun _ => rfl)) rfl rfl rfl) $$ [HO Bch1 D1 TsS1 TsR1]
  · isplitr; · iexact HK
    isplitl [HO]; · iexact HO
    isplitl [Bch1]; · iexact Bch1
    isplitl [D1]; · iexact D1
    isplitl [TsS1]; · iexact TsS1
    isplitl [TsR1]; · iexact TsR1
    iexact N1
  iintro ⟨Cs1, HO⟩
  -- k0_part13
  simp only [k0_part13_eq_skeleton, k0_part13_skel, Prog.bind_lift, Prog.bind_op, Prog.bind_ret, Prog.pure_eq_ret, semSignalWord, semWaitWord, wp_deviceId]
  iapply (ld_x c) $$ [Bx]; · iexact Bx
  iintro Bx
  iapply (ld_cs c) $$ [Bcs]; · iexact Bcs
  iintro Bcs
  -- k0_part14
  simp only [k0_part14_eq_skeleton, k0_part14_skel, Prog.bind_lift, Prog.bind_op, Prog.bind_ret, Prog.pure_eq_ret, semSignalWord, semWaitWord, wp_deviceId]
  iapply (ld_sa c) $$ [Bsa]; · iexact Bsa
  iintro Bsa
  iapply (ld_sb c) $$ [Bsb]; · iexact Bsb
  iintro Bsb
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  -- k0_part15
  simp only [k0_part15_eq_skeleton, k0_part15_skel, Prog.bind_lift, Prog.bind_op, Prog.bind_ret, Prog.pure_eq_ret, semSignalWord, semWaitWord, wp_deviceId]
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  -- k0_part16
  simp only [k0_part16_eq_skeleton, k0_part16_skel, Prog.bind_lift, Prog.bind_op, Prog.bind_ret, Prog.pure_eq_ret, semSignalWord, semWaitWord, wp_deviceId]
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  -- k0_part17
  simp only [k0_part17_eq_skeleton, k0_part17_skel, Prog.bind_lift, Prog.bind_op, Prog.bind_ret, Prog.pure_eq_ret, semSignalWord, semWaitWord, wp_deviceId]
  iapply (ld_ch c (pr (up 2) c) (off1_eq c 2)) $$ [Bch2]; · iexact Bch2
  iintro %v Bch2
  iapply (st_ch A c 2 (off1_eq c 2) rfl) $$ [Bch2]; · iexact Bch2
  iintro Bch2
  iapply (wp_sendRs A K c 2 (Fin.ext (dev6_eq c)) (slice_eq _ (off10_eq c 2) _ _ _ (fun _ => rfl)) rfl rfl rfl) $$ [HO Bch2 D2 TsS2 TsR2]
  · isplitr; · iexact HK
    isplitl [HO]; · iexact HO
    isplitl [Bch2]; · iexact Bch2
    isplitl [D2]; · iexact D2
    isplitl [TsS2]; · iexact TsS2
    isplitl [TsR2]; · iexact TsR2
    iexact N2
  iintro ⟨Cs2, HO⟩
  unfold owG
  -- k0_part18
  simp only [k0_part18_eq_skeleton, k0_part18_skel, Prog.bind_lift, Prog.bind_op, Prog.bind_ret, Prog.pure_eq_ret, semSignalWord, semWaitWord, wp_deviceId]
  iapply (ld_x c) $$ [Bx]; · iexact Bx
  iintro Bx
  iapply (ld_cs c) $$ [Bcs]; · iexact Bcs
  iintro Bcs
  iapply (ld_sa c) $$ [Bsa]; · iexact Bsa
  iintro Bsa
  iapply (ld_sb c) $$ [Bsb]; · iexact Bsb
  iintro Bsb
  iapply (ld_kk c) $$ [Bkk]; · iexact Bkk
  iintro Bkk
  iapply (ld_vv c) $$ [Bvv]; · iexact Bvv
  iintro Bvv
  -- k0_part19
  simp only [k0_part19_eq_skeleton, k0_part19_skel, Prog.bind_lift, Prog.bind_op, Prog.bind_ret, Prog.pure_eq_ret, semSignalWord, semWaitWord, wp_deviceId]
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  -- k0_part20
  simp only [k0_part20_eq_skeleton, k0_part20_skel, Prog.bind_lift, Prog.bind_op, Prog.bind_ret, Prog.pure_eq_ret, semSignalWord, semWaitWord, wp_deviceId]
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  iapply (ld_kk c) $$ [Bkk]; · iexact Bkk
  iintro Bkk
  iapply (ld_vv c) $$ [Bvv]; · iexact Bvv
  iintro Bvv
  -- k0_part21
  simp only [k0_part21_eq_skeleton, k0_part21_skel, Prog.bind_lift, Prog.bind_op, Prog.bind_ret, Prog.pure_eq_ret, semSignalWord, semWaitWord, wp_deviceId]
  iapply (ld_kk c) $$ [Bkk]; · iexact Bkk
  iintro Bkk
  iapply (ld_vv c) $$ [Bvv]; · iexact Bvv
  iintro Bvv
  iapply (wp_waitD A K c (rsR 0) Nrs rfl (credit_Nrs _) (amount_rsR A c 0 0) (above_owG c) (payload_rsR A c 0 0)) $$ [HO Cr0 PrsR0]
  · isplitr; · iexact HK
    isplitl [HO]; · iexact HO
    isplitl [Cr0]; · iexact Cr0
    iexact PrsR0
  iintro ⟨HO, PrsR0, S0⟩
  -- k0_part22
  simp only [k0_part22_eq_skeleton, k0_part22_skel, Prog.bind_lift, Prog.bind_op, Prog.bind_ret, Prog.pure_eq_ret, semSignalWord, semWaitWord, wp_deviceId]
  iapply (wp_waitD A K c (rsR 1) Nrs rfl (credit_Nrs _) (amount_rsR A c 1 0) (above_owG c) (payload_rsR A c 1 0)) $$ [HO Cr1 PrsR1]
  · isplitr; · iexact HK
    isplitl [HO]; · iexact HO
    isplitl [Cr1]; · iexact Cr1
    iexact PrsR1
  iintro ⟨HO, PrsR1, S1⟩
  iapply (wp_waitD A K c (rsR 2) Nrs rfl (credit_Nrs _) (amount_rsR A c 2 0) (above_owG c) (payload_rsR A c 2 0)) $$ [HO Cr2 PrsR2]
  · isplitr; · iexact HK
    isplitl [HO]; · iexact HO
    isplitl [Cr2]; · iexact Cr2
    iexact PrsR2
  iintro ⟨HO, PrsR2, S2⟩
  iapply (ld_sl A c 0 0 rfl) $$ [S0]; · iexact S0
  iintro S0
  iapply (ld_sl A c 1 0 rfl) $$ [S1]; · iexact S1
  iintro S1
  iapply (ld_sl A c 2 0 rfl) $$ [S2]; · iexact S2
  iintro S2
  iapply (ld_hf c c 0 (off20_eq c 0)) $$ [Bh0]; · iexact Bh0
  iintro Bh0
  -- k0_part23
  simp only [k0_part23_eq_skeleton, k0_part23_skel, Prog.bind_lift, Prog.bind_op, Prog.bind_ret, Prog.pure_eq_ret, semSignalWord, semWaitWord, wp_deviceId]
  iapply (st_hf A c 0 (off20_eq c 0) rfl) $$ [Bh0]; · iexact Bh0
  iintro ⟨G00, G10, G20⟩
  iapply (wp_sendAg A K c 0 0 (Fin.ext (dev7_eq c)) (slice_eq _ (off21_eq c 0) _ _ _ (fun _ => rfl)) (slice_eq _ (off21_eq c 0) _ _ _ (fun _ => rfl)) rfl rfl) $$ [HO G00 E00 TaS00 TaR00]
  · isplitr; · iexact HK
    isplitl [HO]; · iexact HO
    isplitl [G00]; · iexact G00
    isplitl [E00]; · iexact E00
    isplitl [TaS00]; · iexact TaS00
    isplitl [TaR00]; · iexact TaR00
    iexact N00
  iintro ⟨Cg00, HO⟩
  -- k0_part24
  simp only [k0_part24_eq_skeleton, k0_part24_skel, Prog.bind_lift, Prog.bind_op, Prog.bind_ret, Prog.pure_eq_ret, semSignalWord, semWaitWord, wp_deviceId]
  iapply (wp_sendAg A K c 1 0 (Fin.ext (dev8_eq c)) (slice_eq _ (off21_eq c 0) _ _ _ (fun _ => rfl)) (slice_eq _ (off21_eq c 0) _ _ _ (fun _ => rfl)) rfl rfl) $$ [HO G10 E10 TaS10 TaR10]
  · isplitr; · iexact HK
    isplitl [HO]; · iexact HO
    isplitl [G10]; · iexact G10
    isplitl [E10]; · iexact E10
    isplitl [TaS10]; · iexact TaS10
    isplitl [TaR10]; · iexact TaR10
    iexact N10
  iintro ⟨Cg10, HO⟩
  iapply (wp_sendAg A K c 2 0 (Fin.ext (dev9_eq c)) (slice_eq _ (off21_eq c 0) _ _ _ (fun _ => rfl)) (slice_eq _ (off21_eq c 0) _ _ _ (fun _ => rfl)) rfl rfl) $$ [HO G20 E20 TaS20 TaR20]
  · isplitr; · iexact HK
    isplitl [HO]; · iexact HO
    isplitl [G20]; · iexact G20
    isplitl [E20]; · iexact E20
    isplitl [TaS20]; · iexact TaS20
    isplitl [TaR20]; · iexact TaR20
    iexact N20
  iintro ⟨Cg20, HO⟩
  iapply (ld_sl A c 0 1 rfl) $$ [S0]; · iexact S0
  iintro S0
  iapply (ld_sl A c 1 1 rfl) $$ [S1]; · iexact S1
  iintro S1
  -- k0_part25
  simp only [k0_part25_eq_skeleton, k0_part25_skel, Prog.bind_lift, Prog.bind_op, Prog.bind_ret, Prog.pure_eq_ret, semSignalWord, semWaitWord, wp_deviceId]
  iapply (ld_sl A c 2 1 rfl) $$ [S2]; · iexact S2
  iintro S2
  iapply (ld_hf c c 1 (off20_eq c 1)) $$ [Bh1]; · iexact Bh1
  iintro Bh1
  iapply (st_hf A c 1 (off20_eq c 1) rfl) $$ [Bh1]; · iexact Bh1
  iintro ⟨G01, G11, G21⟩
  iapply (wp_sendAg A K c 0 1 (Fin.ext (dev10_eq c)) (slice_eq _ (off21_eq c 1) _ _ _ (fun _ => rfl)) (slice_eq _ (off21_eq c 1) _ _ _ (fun _ => rfl)) rfl rfl) $$ [HO G01 E01 TaS01 TaR01]
  · isplitr; · iexact HK
    isplitl [HO]; · iexact HO
    isplitl [G01]; · iexact G01
    isplitl [E01]; · iexact E01
    isplitl [TaS01]; · iexact TaS01
    isplitl [TaR01]; · iexact TaR01
    iexact N01
  iintro ⟨Cg01, HO⟩
  -- k0_part26
  simp only [k0_part26_eq_skeleton, k0_part26_skel, Prog.bind_lift, Prog.bind_op, Prog.bind_ret, Prog.pure_eq_ret, semSignalWord, semWaitWord, wp_deviceId]
  iapply (wp_sendAg A K c 1 1 (Fin.ext (dev11_eq c)) (slice_eq _ (off21_eq c 1) _ _ _ (fun _ => rfl)) (slice_eq _ (off21_eq c 1) _ _ _ (fun _ => rfl)) rfl rfl) $$ [HO G11 E11 TaS11 TaR11]
  · isplitr; · iexact HK
    isplitl [HO]; · iexact HO
    isplitl [G11]; · iexact G11
    isplitl [E11]; · iexact E11
    isplitl [TaS11]; · iexact TaS11
    isplitl [TaR11]; · iexact TaR11
    iexact N11
  iintro ⟨Cg11, HO⟩
  rw [(zero_add (owAg c 2 1)).symm]
  iapply (wp_sendAg A K c 2 1 (Fin.ext (dev12_eq c)) (slice_eq _ (off21_eq c 1) _ _ _ (fun _ => rfl)) (slice_eq _ (off21_eq c 1) _ _ _ (fun _ => rfl)) rfl rfl) $$ [HO G21 E21 TaS21 TaR21]
  · isplitr; · iexact HK
    isplitl [HO]; · iexact HO
    isplitl [G21]; · iexact G21
    isplitl [E21]; · iexact E21
    isplitl [TaS21]; · iexact TaS21
    isplitl [TaR21]; · iexact TaR21
    iexact N21
  iintro ⟨Cg21, HO⟩
  -- k0_part27
  simp only [k0_part27_eq_skeleton, k0_part27_skel, Prog.bind_lift, Prog.bind_op, Prog.bind_ret, Prog.pure_eq_ret, semSignalWord, semWaitWord, wp_deviceId]
  ihave Bout := (out_pack A c (agr_nil A c fo)) $$ Bout
  icases Bout with ⟨%fo, %ho, Bout⟩
  iapply (ld_out c) $$ [Bout]; · iexact Bout
  iintro Bout
  ihave Bout := (out_pack A c ho) $$ Bout
  iapply (st_out A c c 0 (off22_eq c 0) (out_own A c 0 rfl) _) $$ [Bout]; · iexact Bout
  iintro Bout
  -- k0_part28
  simp only [k0_part28_eq_skeleton, k0_part28_skel, Prog.bind_lift, Prog.bind_op, Prog.bind_ret, Prog.pure_eq_ret, semSignalWord, semWaitWord, wp_deviceId]
  icases Bout with ⟨%fo, %ho, Bout⟩
  iapply (ld_out c) $$ [Bout]; · iexact Bout
  iintro Bout
  ihave Bout := (out_pack A c ho) $$ Bout
  iapply (st_out A c c 1 (off22_eq c 1) (out_own A c 1 rfl) _) $$ [Bout]; · iexact Bout
  iintro Bout
  iapply (wp_waitD A K c (agR 0 0) Nag rfl (credit_Nag _) (amount_agR A c 0 0 0) (above_zero _) (payload_agR A c 0 0 0)) $$ [HO Ca00 PagR00]
  · isplitr; · iexact HK
    isplitl [HO]; · iexact HO
    isplitl [Ca00]; · iexact Ca00
    iexact PagR00
  iintro ⟨HO, PagR00, R00⟩
  -- k0_part29
  simp only [k0_part29_eq_skeleton, k0_part29_skel, Prog.bind_lift, Prog.bind_op, Prog.bind_ret, Prog.pure_eq_ret, semSignalWord, semWaitWord, wp_deviceId]
  iapply (ld_ag A c (pr (up 0) c) 0 (off23_eq c 0 0)) $$ [R00]; · iexact R00
  iintro R00
  -- k0_part30
  simp only [k0_part30_eq_skeleton, k0_part30_skel, Prog.bind_lift, Prog.bind_op, Prog.bind_ret, Prog.pure_eq_ret, semSignalWord, semWaitWord, wp_deviceId]
  icases Bout with ⟨%fo, %ho, Bout⟩
  iapply (ld_out c) $$ [Bout]; · iexact Bout
  iintro Bout
  ihave Bout := (out_pack A c ho) $$ Bout
  iapply (st_out A c (pr (up 0) c) 0 (off24_eq c 0 0) (out_other A c 0 0 rfl) _) $$ [Bout]; · iexact Bout
  iintro Bout
  iapply (wp_waitD A K c (agR 0 1) Nag rfl (credit_Nag _) (amount_agR A c 0 1 0) (above_zero _) (payload_agR A c 0 1 0)) $$ [HO Ca01 PagR01]
  · isplitr; · iexact HK
    isplitl [HO]; · iexact HO
    isplitl [Ca01]; · iexact Ca01
    iexact PagR01
  iintro ⟨HO, PagR01, R01⟩
  iapply (ld_ag A c (pr (up 0) c) 1 (off23_eq c 0 1)) $$ [R01]; · iexact R01
  iintro R01
  -- k0_part31
  simp only [k0_part31_eq_skeleton, k0_part31_skel, Prog.bind_lift, Prog.bind_op, Prog.bind_ret, Prog.pure_eq_ret, semSignalWord, semWaitWord, wp_deviceId]
  icases Bout with ⟨%fo, %ho, Bout⟩
  iapply (ld_out c) $$ [Bout]; · iexact Bout
  iintro Bout
  ihave Bout := (out_pack A c ho) $$ Bout
  iapply (st_out A c (pr (up 0) c) 1 (off24_eq c 0 1) (out_other A c 0 1 rfl) _) $$ [Bout]; · iexact Bout
  iintro Bout
  iapply (wp_waitD A K c (agR 1 0) Nag rfl (credit_Nag _) (amount_agR A c 1 0 0) (above_zero _) (payload_agR A c 1 0 0)) $$ [HO Ca10 PagR10]
  · isplitr; · iexact HK
    isplitl [HO]; · iexact HO
    isplitl [Ca10]; · iexact Ca10
    iexact PagR10
  iintro ⟨HO, PagR10, R10⟩
  -- k0_part32
  simp only [k0_part32_eq_skeleton, k0_part32_skel, Prog.bind_lift, Prog.bind_op, Prog.bind_ret, Prog.pure_eq_ret, semSignalWord, semWaitWord, wp_deviceId]
  iapply (ld_ag A c (pr (up 1) c) 0 (off23_eq c 1 0)) $$ [R10]; · iexact R10
  iintro R10
  -- k0_part33
  simp only [k0_part33_eq_skeleton, k0_part33_skel, Prog.bind_lift, Prog.bind_op, Prog.bind_ret, Prog.pure_eq_ret, semSignalWord, semWaitWord, wp_deviceId]
  icases Bout with ⟨%fo, %ho, Bout⟩
  iapply (ld_out c) $$ [Bout]; · iexact Bout
  iintro Bout
  ihave Bout := (out_pack A c ho) $$ Bout
  iapply (st_out A c (pr (up 1) c) 0 (off24_eq c 1 0) (out_other A c 1 0 rfl) _) $$ [Bout]; · iexact Bout
  iintro Bout
  iapply (wp_waitD A K c (agR 1 1) Nag rfl (credit_Nag _) (amount_agR A c 1 1 0) (above_zero _) (payload_agR A c 1 1 0)) $$ [HO Ca11 PagR11]
  · isplitr; · iexact HK
    isplitl [HO]; · iexact HO
    isplitl [Ca11]; · iexact Ca11
    iexact PagR11
  iintro ⟨HO, PagR11, R11⟩
  iapply (ld_ag A c (pr (up 1) c) 1 (off23_eq c 1 1)) $$ [R11]; · iexact R11
  iintro R11
  -- k0_part34
  simp only [k0_part34_eq_skeleton, k0_part34_skel, Prog.bind_lift, Prog.bind_op, Prog.bind_ret, Prog.pure_eq_ret, semSignalWord, semWaitWord, wp_deviceId]
  icases Bout with ⟨%fo, %ho, Bout⟩
  iapply (ld_out c) $$ [Bout]; · iexact Bout
  iintro Bout
  ihave Bout := (out_pack A c ho) $$ Bout
  iapply (st_out A c (pr (up 1) c) 1 (off24_eq c 1 1) (out_other A c 1 1 rfl) _) $$ [Bout]; · iexact Bout
  iintro Bout
  iapply (wp_waitD A K c (agR 2 0) Nag rfl (credit_Nag _) (amount_agR A c 2 0 0) (above_zero _) (payload_agR A c 2 0 0)) $$ [HO Ca20 PagR20]
  · isplitr; · iexact HK
    isplitl [HO]; · iexact HO
    isplitl [Ca20]; · iexact Ca20
    iexact PagR20
  iintro ⟨HO, PagR20, R20⟩
  -- k0_part35
  simp only [k0_part35_eq_skeleton, k0_part35_skel, Prog.bind_lift, Prog.bind_op, Prog.bind_ret, Prog.pure_eq_ret, semSignalWord, semWaitWord, wp_deviceId]
  iapply (ld_ag A c (pr (up 2) c) 0 (off23_eq c 2 0)) $$ [R20]; · iexact R20
  iintro R20
  -- k0_part36
  simp only [k0_part36_eq_skeleton, k0_part36_skel, Prog.bind_lift, Prog.bind_op, Prog.bind_ret, Prog.pure_eq_ret, semSignalWord, semWaitWord, wp_deviceId]
  icases Bout with ⟨%fo, %ho, Bout⟩
  iapply (ld_out c) $$ [Bout]; · iexact Bout
  iintro Bout
  ihave Bout := (out_pack A c ho) $$ Bout
  iapply (st_out A c (pr (up 2) c) 0 (off24_eq c 2 0) (out_other A c 2 0 rfl) _) $$ [Bout]; · iexact Bout
  iintro Bout
  iapply (wp_waitD A K c (agR 2 1) Nag rfl (credit_Nag _) (amount_agR A c 2 1 0) (above_zero _) (payload_agR A c 2 1 0)) $$ [HO Ca21 PagR21]
  · isplitr; · iexact HK
    isplitl [HO]; · iexact HO
    isplitl [Ca21]; · iexact Ca21
    iexact PagR21
  iintro ⟨HO, PagR21, R21⟩
  iapply (ld_ag A c (pr (up 2) c) 1 (off23_eq c 2 1)) $$ [R21]; · iexact R21
  iintro R21
  -- k0_part37
  simp only [k0_part37_eq_skeleton, k0_part37_skel, Prog.bind_lift, Prog.bind_op, Prog.bind_ret, Prog.pure_eq_ret, semSignalWord, semWaitWord, wp_deviceId]
  icases Bout with ⟨%fo, %ho, Bout⟩
  iapply (ld_out c) $$ [Bout]; · iexact Bout
  iintro Bout
  ihave Bout := (out_pack A c ho) $$ Bout
  iapply (st_out A c (pr (up 2) c) 1 (off24_eq c 2 1) (out_other A c 2 1 rfl) _) $$ [Bout]; · iexact Bout
  iintro Bout
  iapply (wp_waitD A K c (rsS 0) Nrs rfl (credit_Nrs _) (amount_rsS A c 0 0) (above_zero _) (payload_rsS A c 0 0)) $$ [HO Cs0 PrsS0]
  · isplitr; · iexact HK
    isplitl [HO]; · iexact HO
    isplitl [Cs0]; · iexact Cs0
    iexact PrsS0
  iintro ⟨HO, PrsS0, Bch0⟩
  -- k0_part38
  simp only [k0_part38_eq_skeleton, k0_part38_skel, Prog.bind_lift, Prog.bind_op, Prog.bind_ret, Prog.pure_eq_ret, semSignalWord, semWaitWord, wp_deviceId]
  iapply (wp_waitD A K c (rsS 1) Nrs rfl (credit_Nrs _) (amount_rsS A c 1 0) (above_zero _) (payload_rsS A c 1 0)) $$ [HO Cs1 PrsS1]
  · isplitr; · iexact HK
    isplitl [HO]; · iexact HO
    isplitl [Cs1]; · iexact Cs1
    iexact PrsS1
  iintro ⟨HO, PrsS1, Bch1⟩
  iapply (wp_waitD A K c (rsS 2) Nrs rfl (credit_Nrs _) (amount_rsS A c 2 0) (above_zero _) (payload_rsS A c 2 0)) $$ [HO Cs2 PrsS2]
  · isplitr; · iexact HK
    isplitl [HO]; · iexact HO
    isplitl [Cs2]; · iexact Cs2
    iexact PrsS2
  iintro ⟨HO, PrsS2, Bch2⟩
  iapply (wp_waitD A K c (agS 0 0) Nag rfl (credit_Nag _) (amount_agS A c 0 0 0) (above_zero _) (payload_agS A c 0 0 0)) $$ [HO Cg00 PagS00]
  · isplitr; · iexact HK
    isplitl [HO]; · iexact HO
    isplitl [Cg00]; · iexact Cg00
    iexact PagS00
  iintro ⟨HO, PagS00, G00⟩
  iapply (wp_waitD A K c (agS 1 0) Nag rfl (credit_Nag _) (amount_agS A c 1 0 0) (above_zero _) (payload_agS A c 1 0 0)) $$ [HO Cg10 PagS10]
  · isplitr; · iexact HK
    isplitl [HO]; · iexact HO
    isplitl [Cg10]; · iexact Cg10
    iexact PagS10
  iintro ⟨HO, PagS10, G10⟩
  iapply (wp_waitD A K c (agS 2 0) Nag rfl (credit_Nag _) (amount_agS A c 2 0 0) (above_zero _) (payload_agS A c 2 0 0)) $$ [HO Cg20 PagS20]
  · isplitr; · iexact HK
    isplitl [HO]; · iexact HO
    isplitl [Cg20]; · iexact Cg20
    iexact PagS20
  iintro ⟨HO, PagS20, G20⟩
  iapply (wp_waitD A K c (agS 0 1) Nag rfl (credit_Nag _) (amount_agS A c 0 1 0) (above_zero _) (payload_agS A c 0 1 0)) $$ [HO Cg01 PagS01]
  · isplitr; · iexact HK
    isplitl [HO]; · iexact HO
    isplitl [Cg01]; · iexact Cg01
    iexact PagS01
  iintro ⟨HO, PagS01, G01⟩
  iapply (wp_waitD A K c (agS 1 1) Nag rfl (credit_Nag _) (amount_agS A c 1 1 0) (above_zero _) (payload_agS A c 1 1 0)) $$ [HO Cg11 PagS11]
  · isplitr; · iexact HK
    isplitl [HO]; · iexact HO
    isplitl [Cg11]; · iexact Cg11
    iexact PagS11
  iintro ⟨HO, PagS11, G11⟩
  iapply (wp_waitD A K c (agS 2 1) Nag rfl (credit_Nag _) (amount_agS A c 2 1 0) (above_zero _) (payload_agS A c 2 1 0)) $$ [HO Cg21 PagS21]
  · isplitr; · iexact HK
    isplitl [HO]; · iexact HO
    isplitl [Cg21]; · iexact Cg21
    iexact PagS21
  iintro ⟨HO, PagS21, G21⟩
  rw [wp_ret]
  imod (close_bar A K c) $$ [Pb] with Pb
  · isplitr; · iexact HK
    iexact Pb
  imod (close_dma A K c (rsS 0)) $$ [PrsS0] with PrsS0
  · isplitr; · iexact HK
    iexact PrsS0
  imod (close_dma A K c (rsS 1)) $$ [PrsS1] with PrsS1
  · isplitr; · iexact HK
    iexact PrsS1
  imod (close_dma A K c (rsS 2)) $$ [PrsS2] with PrsS2
  · isplitr; · iexact HK
    iexact PrsS2
  imod (close_dma A K c (rsR 0)) $$ [PrsR0] with PrsR0
  · isplitr; · iexact HK
    iexact PrsR0
  imod (close_dma A K c (rsR 1)) $$ [PrsR1] with PrsR1
  · isplitr; · iexact HK
    iexact PrsR1
  imod (close_dma A K c (rsR 2)) $$ [PrsR2] with PrsR2
  · isplitr; · iexact HK
    iexact PrsR2
  imod (close_dma A K c (agS 0 0)) $$ [PagS00] with PagS00
  · isplitr; · iexact HK
    iexact PagS00
  imod (close_dma A K c (agS 0 1)) $$ [PagS01] with PagS01
  · isplitr; · iexact HK
    iexact PagS01
  imod (close_dma A K c (agS 1 0)) $$ [PagS10] with PagS10
  · isplitr; · iexact HK
    iexact PagS10
  imod (close_dma A K c (agS 1 1)) $$ [PagS11] with PagS11
  · isplitr; · iexact HK
    iexact PagS11
  imod (close_dma A K c (agS 2 0)) $$ [PagS20] with PagS20
  · isplitr; · iexact HK
    iexact PagS20
  imod (close_dma A K c (agS 2 1)) $$ [PagS21] with PagS21
  · isplitr; · iexact HK
    iexact PagS21
  imod (close_dma A K c (agR 0 0)) $$ [PagR00] with PagR00
  · isplitr; · iexact HK
    iexact PagR00
  imod (close_dma A K c (agR 0 1)) $$ [PagR01] with PagR01
  · isplitr; · iexact HK
    iexact PagR01
  imod (close_dma A K c (agR 1 0)) $$ [PagR10] with PagR10
  · isplitr; · iexact HK
    iexact PagR10
  imod (close_dma A K c (agR 1 1)) $$ [PagR11] with PagR11
  · isplitr; · iexact HK
    iexact PagR11
  imod (close_dma A K c (agR 2 0)) $$ [PagR20] with PagR20
  · isplitr; · iexact HK
    iexact PagR20
  imod (close_dma A K c (agR 2 1)) $$ [PagR21] with PagR21
  · isplitr; · iexact HK
    iexact PagR21
  imodintro
  iapply Hpost
  unfold bodyPost zeros ins scr
  rw [fin18]
  isplitl [Pb PrsS0 PrsS1 PrsS2 PrsR0 PrsR1 PrsR2 PagS00 PagS01 PagS10 PagS11 PagS20 PagS21 PagR00 PagR01 PagR10 PagR11 PagR20 PagR21]
  · isplitl [Pb]; · iexact Pb
    isplitl [PrsS0]; · iexact PrsS0
    isplitl [PrsS1]; · iexact PrsS1
    isplitl [PrsS2]; · iexact PrsS2
    isplitl [PrsR0]; · iexact PrsR0
    isplitl [PrsR1]; · iexact PrsR1
    isplitl [PrsR2]; · iexact PrsR2
    isplitl [PagS00]; · iexact PagS00
    isplitl [PagS01]; · iexact PagS01
    isplitl [PagS10]; · iexact PagS10
    isplitl [PagS11]; · iexact PagS11
    isplitl [PagS20]; · iexact PagS20
    isplitl [PagS21]; · iexact PagS21
    isplitl [PagR00]; · iexact PagR00
    isplitl [PagR01]; · iexact PagR01
    isplitl [PagR10]; · iexact PagR10
    isplitl [PagR11]; · iexact PagR11
    isplitl [PagR20]; · iexact PagR20
    iexact PagR21
  isplitl [HO]; · iexact HO
  isplitl [Bx Bwq Bwk Bwv Bwo Bcs Bsa Bsb]
  · isplitl [Bx]; · iexact Bx
    isplitl [Bwq]; · iexact Bwq
    isplitl [Bwk]; · iexact Bwk
    isplitl [Bwv]; · iexact Bwv
    isplitl [Bwo]; · iexact Bwo
    isplitl [Bcs]; · iexact Bcs
    isplitl [Bsa]; · iexact Bsa
    iexact Bsb
  isplitl [Bout]
  · icases Bout with ⟨%fo, %ho, Bout⟩
    rw [← agr_all A c (out_all c) ho]; iexact Bout
  isplitl [Bkk]; · iexists _; iexact Bkk
  isplitl [Bvv]; · iexists _; iexact Bvv
  isplitl [Bch Bch0 Bch1 Bch2]
  · iapply (ch_join c)
    isplitl [Bch]; · iexists _; iexact Bch
    isplitl [Bch0]; · iexists _; iexact Bch0
    isplitl [Bch1]; · iexists _; iexact Bch1
    iexists _; iexact Bch2
  isplitr [S0 S1 S2]
  · iapply (hf_join c)
    unfold hf2E
    isplitl [G00 G10 G20 G01 G11 G21]
    · isplitl [G00 G10 G20]
      · iexists _
        iapply (hf_shares c c 0 (agB A)).2
        isplitl [G00]; · iexact G00
        isplitl [G10]; · iexact G10
        iexact G20
      · iexists _
        iapply (hf_shares c c 1 (agB A)).2
        isplitl [G01]; · iexact G01
        isplitl [G11]; · iexact G11
        iexact G21
    isplitl [R00 R01]
    · isplitl [R00]; · iexists _; iexact R00
      iexists _; iexact R01
    isplitl [R10 R11]
    · isplitl [R10]; · iexists _; iexact R10
      iexists _; iexact R11
    isplitl [R20]; · iexists _; iexact R20
    iexists _; iexact R21
  iapply (sl_join c)
  isplitl [S0]; · iexists _; iexact S0
  isplitl [S1]; · iexists _; iexact S1
  iexists _; iexact S2

end Cert.KernelIdeal.Att
-- ==== Proof.Deal.lean ====
/-
  What the launch hands each device: the invariants of all cells, its place in its own cells, the tokens of the duties
  it pays and the credit of what the others owe it.
-/
module

public import proofs.«01_k».proof.Proof.Body
public import Idealize.ShloMosaic.Lib.Rounds.Family

@[expose] public section

set_option maxRecDepth 16384
set_option synthInstance.maxSize 4096

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → Ins F)

omit [FloatOps F] in
theorem fewer {I : Type} [DecidableEq I] {s t : Finset I} (h : t ⊆ s) (Φ : I → sProp 𝕄) : bigSep s Φ ⊢ bigSep t Φ := BI.bigSep_subset h
omit [FloatOps F] in
theorem pair_up {I : Type} [DecidableEq I] (s : Finset I) (Φ Ψ : I → sProp 𝕄) : iprop(bigSep s Φ ∗ bigSep s Ψ) ⊢ bigSep s fun i => iprop(Φ i ∗ Ψ i) :=
  Entails.of_eq (bigSep_sep' s Φ Ψ).symm
omit [FloatOps F] in
theorem pair_down {I : Type} [DecidableEq I] (s : Finset I) (Φ Ψ : I → sProp 𝕄) : (bigSep s fun i => iprop(Φ i ∗ Ψ i)) ⊢ iprop(bigSep s Φ ∗ bigSep s Ψ) :=
  Entails.of_eq (bigSep_sep' s Φ Ψ)

/-! ## The cells -/

/-- The exchange's own semaphores, in the order of the cells. -/
def osem (k : Fin 18) : SemLoc sig := .dma (dsem k)

theorem osem_inj : Function.Injective osem := by decide
theorem osem_ne_bar : ∀ k : Fin 18, osem k ≠ .reg barrier0 := by decide
theorem osem_facts : Pipeline.OwnSemFacts cfg0.spec osem := by decide

theorem dev_of_cell {a b : Dev nD} {k l : SemLoc sig} (h : (((a : Thread nD τ), k) : GSem nD τ sig) = ((b : Thread nD τ), l)) : a = b ∧ k = l :=
  ⟨congrArg (fun g : GSem nD τ sig => g.1.1) h, congrArg Prod.snd h⟩

def barEmb : Dev nD ↪ GSem nD τ sig := ⟨fun c => bCell c, fun _ _ h => (dev_of_cell h).1⟩
def dmaEmb : Dev nD × Fin 18 ↪ GSem nD τ sig :=
  ⟨fun p => dCell p.1 p.2, fun _ _ h => Prod.ext (dev_of_cell h).1 (osem_inj (dev_of_cell h).2)⟩
abbrev barCells : Finset (GSem nD τ sig) := Finset.univ.map barEmb
abbrev dmaCells : Finset (GSem nD τ sig) := Finset.univ.map dmaEmb

theorem cells_disjoint : Disjoint (barCells : Finset (GSem nD τ sig)) dmaCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- The duties of one device's cells: three of its barrier cell, one of each other cell. -/
def tokSem (k : Fin 21) : SemLoc sig := if h : k.val < 3 then .reg barrier0 else osem ⟨k.val - 3, by omega⟩
def tokDuty (k : Fin 21) : Fin 3 := if h : k.val < 3 then ⟨k.val, h⟩ else 0
theorem tok_inj : Function.Injective (fun k : Fin 21 => (tokSem k, tokDuty k)) := by decide
def tokEmb : Dev nD × Fin 21 ↪ GSem nD τ sig × ℕ × Fin 3 :=
  ⟨fun p => (((p.1 : Thread nD τ), tokSem p.2), 0, tokDuty p.2), fun _ _ h =>
    Prod.ext (congrArg (fun t : GSem nD τ sig × ℕ × Fin 3 => t.1.1.1) h)
      (tok_inj (Prod.ext (congrArg (fun t : GSem nD τ sig × ℕ × Fin 3 => t.1.2) h) (congrArg (fun t : GSem nD τ sig × ℕ × Fin 3 => t.2.2) h)))⟩
abbrev allToks : Finset (GSem nD τ sig × ℕ × Fin 3) := Finset.univ.map tokEmb

/-- The tokens of a device's own cells, three groups of seven. -/
def tokOwn (c : Dev nD) (d : Fin 3) : sProp 𝕄 :=
  iprop(dutyTok ER (bCell c) 0 (op d)
    ∗ dutyTok ER (dCell c (rsS d)) 0 0 ∗ dutyTok ER (dCell c (rsR (op d))) 0 0
    ∗ dutyTok ER (dCell c (agS d 0)) 0 0 ∗ dutyTok ER (dCell c (agR (op d) 0)) 0 0
    ∗ dutyTok ER (dCell c (agS d 1)) 0 0 ∗ dutyTok ER (dCell c (agR (op d) 1)) 0 0)

omit [FloatOps F] in
theorem toks_own : bigSep allToks (fun x => (dutyTok ER x.1 x.2.1 x.2.2 : sProp 𝕄))
    ⊢ bigSep Finset.univ fun c : Dev nD => iprop(tokOwn (F := F) c 0 ∗ tokOwn c 1 ∗ tokOwn c 2) := by
  rw [bigSep_map, bigSep_univ_prod]
  refine bigSep_mono fun c _ => ?_
  rw [bigSep_univ_eq_bigSepL [0, 1, 2, 3, 4, 5, 6, 7, 8, 9, 10, 11, 12, 13, 14, 15, 16, 17, 18, 19, 20] (by decide) (by decide)]
  show iprop(dutyTok ER (bCell c) 0 0 ∗ dutyTok ER (bCell c) 0 1 ∗ dutyTok ER (bCell c) 0 2
    ∗ dutyTok ER (dCell c (rsS 0)) 0 0 ∗ dutyTok ER (dCell c (rsS 1)) 0 0 ∗ dutyTok ER (dCell c (rsS 2)) 0 0
    ∗ dutyTok ER (dCell c (rsR 0)) 0 0 ∗ dutyTok ER (dCell c (rsR 1)) 0 0 ∗ dutyTok ER (dCell c (rsR 2)) 0 0
    ∗ dutyTok ER (dCell c (agS 0 0)) 0 0 ∗ dutyTok ER (dCell c (agS 0 1)) 0 0 ∗ dutyTok ER (dCell c (agS 1 0)) 0 0
    ∗ dutyTok ER (dCell c (agS 1 1)) 0 0 ∗ dutyTok ER (dCell c (agS 2 0)) 0 0 ∗ dutyTok ER (dCell c (agS 2 1)) 0 0
    ∗ dutyTok ER (dCell c (agR 0 0)) 0 0 ∗ dutyTok ER (dCell c (agR 0 1)) 0 0 ∗ dutyTok ER (dCell c (agR 1 0)) 0 0
    ∗ dutyTok ER (dCell c (agR 1 1)) 0 0 ∗ dutyTok ER (dCell c (agR 2 0)) 0 0 ∗ dutyTok ER (dCell c (agR 2 1)) 0 0) ⊢ _
  unfold tokOwn
  rw [show op 0 = 2 from rfl, show op 1 = 1 from rfl, show op 2 = 0 from rfl]
  iintro ⟨B0, B1, B2, S0, S1, S2, R0, R1, R2, G00, G01, G10, G11, G20, G21, H00, H01, H10, H11, H20, H21⟩
  isplitl [B2 S0 R2 G00 H20 G01 H21]
  · isplitl [B2]; · iexact B2
    isplitl [S0]; · iexact S0
    isplitl [R2]; · iexact R2
    isplitl [G00]; · iexact G00
    isplitl [H20]; · iexact H20
    isplitl [G01] <;> iassumption
  isplitl [B1 S1 R1 G10 H10 G11 H11]
  · isplitl [B1]; · iexact B1
    isplitl [S1]; · iexact S1
    isplitl [R1]; · iexact R1
    isplitl [G10]; · iexact G10
    isplitl [H10]; · iexact H10
    isplitl [G11] <;> iassumption
  isplitl [B0]; · iexact B0
  isplitl [S2]; · iexact S2
  isplitl [R0]; · iexact R0
  isplitl [G20]; · iexact G20
  isplitl [H00]; · iexact H00
  isplitl [G21] <;> iassumption

/-- The devices, each moved on by `d + 1` places. -/
def turn (d : Fin 3) : Dev nD ≃ Dev nD :=
  ⟨fun c => pr (up d) c, fun c => pr (up (op d)) c, fun c => pr_op_up d c, fun c => pr_up_op d c⟩

omit [FloatOps F] in
theorem deal (d : Fin 3) (Φ : Dev nD → sProp 𝕄) : bigSep Finset.univ Φ = bigSep Finset.univ fun c : Dev nD => Φ (pr (up d) c) :=
  bigSep_univ_equiv (turn d) Φ

omit [FloatOps F] in
theorem tok_around (d : Fin 3) : (bigSep Finset.univ fun c : Dev nD => (tokOwn c d : sProp 𝕄)) ⊢ bigSep Finset.univ fun c : Dev nD => tokD (F := F) c d := by
  unfold tokOwn tokD
  simp only [bigSep_sep']
  rw [deal d (fun c : Dev nD => (dutyTok ER (bCell c) 0 (op d) : sProp 𝕄)), deal d (fun c : Dev nD => (dutyTok ER (dCell c (rsR (op d))) 0 0 : sProp 𝕄)),
    deal d (fun c : Dev nD => (dutyTok ER (dCell c (agR (op d) 0)) 0 0 : sProp 𝕄)), deal d (fun c : Dev nD => (dutyTok ER (dCell c (agR (op d) 1)) 0 0 : sProp 𝕄))]

omit [FloatOps F] in
theorem toks_deal : bigSep allToks (fun x => (dutyTok ER x.1 x.2.1 x.2.2 : sProp 𝕄)) ⊢ bigSep Finset.univ fun c : Dev nD => toks (F := F) c := by
  iintro H
  ihave H := (toks_own (F := F)) $$ H
  unfold toks
  simp only [bigSep_sep']
  icases H with ⟨H0, H1, H2⟩
  isplitl [H0]; · iapply (tok_around (F := F) 0); iexact H0
  isplitl [H1]; · iapply (tok_around (F := F) 1); iexact H1
  iapply (tok_around (F := F) 2); iexact H2

/-! ## The credit -/

theorem meet_rs : ∀ (c d : Dev nD) (s e : Fin 3), (c = pr (up e) d ∧ rsR s = rsR (op e)) ↔ (d = pr (up s) c ∧ e = op s) := by decide
theorem meet_ag : ∀ (c d : Dev nD) (s e : Fin 3) (h k : Fin 2), (c = pr (up e) d ∧ agR s h = agR (op e) k) ↔ (d = pr (up s) c ∧ e = op s ∧ k = h) := by decide
theorem meet_bar : ∀ (c d : Dev nD) (e : Fin 3), c = pr (up e) d ↔ d = pr (up (op e)) c := by decide
theorem rs_ne_ag : ∀ (s e : Fin 3) (h : Fin 2), rsR s ≠ agR e h := by decide

theorem at_dma (a b : Dev nD) (k l : Fin 18) (n : ℕ) : (tallyAt (dCell b l) () n : CellTallies nD τ sig Unit) (dCell a k) () = if a = b ∧ k = l then n else 0 := by
  rw [tallyAt_apply]
  refine if_congr ⟨fun h => ⟨(dev_of_cell h.1).1, osem_inj (dev_of_cell h.1).2⟩, fun h => ⟨by rw [h.1, h.2], rfl⟩⟩ rfl rfl
theorem at_bar (a b : Dev nD) (n : ℕ) : (tallyAt (bCell b) () n : CellTallies nD τ sig Unit) (bCell a) () = if a = b then n else 0 := by
  rw [tallyAt_apply]
  refine if_congr ⟨fun h => (dev_of_cell h.1).1, fun h => ⟨by rw [h], rfl⟩⟩ rfl rfl
theorem at_dma_bar (a b : Dev nD) (k : Fin 18) (n : ℕ) : (tallyAt (dCell b k) () n : CellTallies nD τ sig Unit) (bCell a) () = 0 := by
  rw [tallyAt_ne_cell (fun h => osem_ne_bar k (congrArg Prod.snd h).symm)]; rfl
theorem at_bar_dma (a b : Dev nD) (k : Fin 18) (n : ℕ) : (tallyAt (bCell b) () n : CellTallies nD τ sig Unit) (dCell a k) () = 0 := by
  rw [tallyAt_ne_cell (fun h => osem_ne_bar k (congrArg Prod.snd h))]; rfl

theorem owed_bar (c d : Dev nD) : O₀ d (bCell c) () = (if d = pr (up 0) c then 1 else 0) + (if d = pr (up 1) c then 1 else 0) + (if d = pr (up 2) c then 1 else 0) := by
  unfold O₀ owR owG owBar owRs owAg
  simp only [Pi.add_apply, Finsupp.add_apply, at_dma_bar, at_bar, Nat.zero_add, meet_bar c d]
  rfl
theorem owed_rs (c d : Dev nD) (s : Fin 3) : O₀ d (dCell c (rsR s)) () = if d = pr (up s) c then Nrs else 0 := by
  unfold O₀ owR owG owBar owRs owAg
  simp only [Pi.add_apply, Finsupp.add_apply, at_bar_dma, at_dma, Nat.zero_add, Nat.add_zero, meet_rs c d s, rs_ne_ag, and_false, if_false]
  fin_cases s <;> simp [op]
theorem owed_ag (c d : Dev nD) (s : Fin 3) (h : Fin 2) : O₀ d (dCell c (agR s h)) () = if d = pr (up s) c then Nag else 0 := by
  unfold O₀ owR owG owBar owRs owAg
  simp only [Pi.add_apply, Finsupp.add_apply, at_bar_dma, at_dma, Nat.zero_add, Nat.add_zero, meet_ag c d s, (rs_ne_ag _ _ _).symm, and_false, if_false]
  fin_cases s <;> fin_cases h <;> simp [op]

theorem launch_bar (c : Dev nD) :
    tallyOn (bCell c) (launchCredit (Pipeline.owing O₀) 0 (bCell c)) = (tallyAt (bCell c) () 3 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib, Finset.sum_add_distrib,
    Finset.sum_ite_eq' Finset.univ (pr (up 0) c) fun _ => 1, Finset.sum_ite_eq' Finset.univ (pr (up 1) c) fun _ => 1,
    Finset.sum_ite_eq' Finset.univ (pr (up 2) c) fun _ => 1, if_pos (Finset.mem_univ _), if_pos (Finset.mem_univ _), if_pos (Finset.mem_univ _)]
theorem launch_one (c : Dev nD) (k : Fin 18) (e : Dev nD) (n : ℕ) (h : ∀ d, O₀ d (dCell c k) () = if d = e then n else 0) :
    tallyOn (dCell c k) (launchCredit (Pipeline.owing O₀) 0 (dCell c k)) = (tallyAt (dCell c k) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => n,
    if_pos (Finset.mem_univ _)]

theorem creds (c : Dev nD) : (Pipeline.launchCred O₀ c : sProp 𝕄) ⊢ crs (F := F) c := by
  unfold Pipeline.launchCred crs crD
  rw [bigSep_univ_at _ (SemLoc.reg barrier0), launch_bar]
  have sub : (Finset.univ.map ⟨osem, osem_inj⟩ : Finset (SemLoc sig)) ⊆ Finset.univ.erase (SemLoc.reg barrier0) := fun x hx => by
    obtain ⟨k, -, rfl⟩ := Finset.mem_map.mp hx
    exact Finset.mem_erase.mpr ⟨osem_ne_bar k, Finset.mem_univ _⟩
  iintro ⟨H, HR⟩
  ihave HR := (fewer sub _) $$ HR
  ihave HR := (Entails.of_eq (bigSep_map (s := Finset.univ) ⟨osem, osem_inj⟩)) $$ HR
  ihave HR := (Entails.of_eq (fin18 (F := F) _)) $$ HR
  icases HR with ⟨-, -, -, R0, R1, R2, -, -, -, -, -, -, G00, G01, G10, G11, G20, G21⟩
  isplitl [H]; · iexact H
  rw [← launch_one c (rsR 0) _ _ (fun d => owed_rs c d 0), ← launch_one c (rsR 1) _ _ (fun d => owed_rs c d 1), ← launch_one c (rsR 2) _ _ (fun d => owed_rs c d 2),
    ← launch_one c (agR 0 0) _ _ (fun d => owed_ag c d 0 0), ← launch_one c (agR 0 1) _ _ (fun d => owed_ag c d 0 1),
    ← launch_one c (agR 1 0) _ _ (fun d => owed_ag c d 1 0), ← launch_one c (agR 1 1) _ _ (fun d => owed_ag c d 1 1),
    ← launch_one c (agR 2 0) _ _ (fun d => owed_ag c d 2 0), ← launch_one c (agR 2 1) _ _ (fun d => owed_ag c d 2 1)]
  isplitl [R0 G00 G01]
  · isplitl [R0]; · iexact R0
    isplitl [G00]; · iexact G00
    iexact G01
  isplitl [R1 G10 G11]
  · isplitl [R1]; · iexact R1
    isplitl [G10]; · iexact G10
    iexact G11
  isplitl [R2]; · iexact R2
  isplitl [G20]; · iexact G20
  iexact G21

/-! ## The ghost state each device starts from -/

/-- What a device holds until its call: its place at its barrier cell, the right to open its other cells, its tokens. -/
def start (K : GSem nD τ sig → ℕ) (c : Dev nD) : sProp 𝕄 :=
  iprop(invs A K ∗ (bigSep Finset.univ fun q : Dev nD => reached ER (bCell q) 0) ∗ atPos ER (bCell c) 0 (∅ : Finset (Fin 3)) 0
    ∗ (bigSep Finset.univ fun k : Fin 18 => openTok ER (dCell c k)) ∗ toks (F := F) c)
/-- The same once the cells are open. -/
def opened (K : GSem nD τ sig → ℕ) (c : Dev nD) : sProp 𝕄 := iprop(known A K c ∗ posn (F := F) c 0 ∗ toks (F := F) c)

theorem invs_dma (K : GSem nD τ sig → ℕ) (c : Dev nD) : invs A K ⊢ bigSep Finset.univ fun k : Fin 18 => cellInv ER (rd A) (K (dCell c k)) (dCell c k) := by
  unfold invs
  iintro ⟨-, H⟩
  ihave H := (Entails.of_eq (bigSep_univ_prod (fun p : Dev nD × Fin 18 => (cellInv ER (rd A) (K (dCell p.1 p.2)) (dCell p.1 p.2) : sProp 𝕄)))) $$ H
  iapply (bigSep_one (Finset.mem_univ c) (fun c : Dev nD => bigSep Finset.univ fun k : Fin 18 => (cellInv ER (rd A) (K (dCell c k)) (dCell c k) : sProp 𝕄)))
  iexact H

theorem start_open (K : GSem nD τ sig → ℕ) (c : Dev nD) :
    iprop(start A K c ∗ Pipeline.ownSems0 osem c ∗ levAts L lv) ⊢ (|={Set.univ}=> opened A K c : sProp 𝕄) := by
  unfold start opened known reaches posn
  iintro ⟨⟨#HI, #HB, Hat, Hop, Htk⟩, Hs, #Hlev⟩
  ihave HJ := (invs_dma A K c) $$ HI
  imod (Rounds.cells_open ER (rd A) Finset.univ (fun k : Fin 18 => dCell c k) (fun k => K (dCell c k)) (Es := Set.univ) (fun k _ => Set.mem_univ _)) $$ [HJ Hop Hs] with H
  · isplitr [Hs]
    · iapply (pair_up _ _ _)
      isplitl [HJ]; · iexact HJ
      iexact Hop
    unfold Pipeline.ownSems0
    iexact Hs
  ihave H := (pair_down _ _ _) $$ H
  icases H with ⟨Hpos, #Hr⟩
  imodintro
  isplitr
  · isplitr; · iexact HI
    isplitr
    · isplitr; · iexact HB
      iexact Hr
    iexact Hlev
  isplitl [Hat Hpos]
  · isplitl [Hat] <;> iassumption
  iexact Htk

end Cert.KernelIdeal.Att
-- ==== Proof.Windows.lean ====
/-
  The obligation of the kernel call's one point, from the run of the body: operands in, result out.
-/
module

public import proofs.«01_k».proof.Proof.Deal

@[expose] public section

set_option maxRecDepth 16384
set_option synthInstance.maxSize 4096

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

set_option synthInstance.maxHeartbeats 200000

variable (m : (ℓ : Loc nD τ sig) → Buf (Elt F) ℓ) (c : Dev nD)

/-- The operands of device `c`, as the windows' blocks. -/
def opIns (c : Dev nD) : Ins F where
  x := iblk m c (0 : Fin 9) t0_0
  wq := iblk m c (1 : Fin 9) t0_0
  wk := iblk m c (2 : Fin 9) t0_0
  wv := iblk m c (3 : Fin 9) t0_0
  wo := iblk m c (4 : Fin 9) t0_0
  cs := iblk m c (5 : Fin 9) t0_0
  sa := iblk m c (6 : Fin 9) t0_0
  sb := iblk m c (7 : Fin 9) t0_0

/-- Before the run: the protocol opened and the credits at hand; -/
def phi0 : sProp 𝕄 := iprop(((∃ K, opened (opIns m) K c) ∗ crs (F := F) c) ∗ scr (F := F) c ∗ ∃ r, prngReg c r)
/-- after it: every cell closed. -/
def phi1 : sProp 𝕄 := iprop(zeros (F := F) c ∗ scr (F := F) c ∗ ∃ r, prngReg c r)

/-- What the run leaves in window `w`'s staging buffer. -/
def aft (w : Fin cfg0.W) : (cfg0.win w).block.Idx → Elt F (cfg0.win w).elt := match w with
  | ⟨0, _⟩ => (opIns m c).x | ⟨1, _⟩ => (opIns m c).wq | ⟨2, _⟩ => (opIns m c).wk | ⟨3, _⟩ => (opIns m c).wv | ⟨4, _⟩ => (opIns m c).wo
  | ⟨5, _⟩ => (opIns m c).cs | ⟨6, _⟩ => (opIns m c).sa | ⟨7, _⟩ => (opIns m c).sb | ⟨8, _⟩ => outV (opIns m) c
  | ⟨_ + 9, h⟩ => absurd h (Nat.not_lt.2 (Nat.le_add_left _ _))

def dat (c : Dev nD) : Pipeline.Dat τ (Elt F) Unit ℕ UU ℕ cfg0 c where
  A w := V m c (Pipeline.arrRef spec0 w)
  after w _ := aft m c w
  Φ t := if t.val = 0 then phi0 m c else phi1 c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | ⟨0, _⟩, c => dat m c
  | ⟨_ + 1, h⟩, _ => absurd h (Nat.not_lt.2 (Nat.le_add_left _ _))

theorem owed_first : (dat m c).owed t0_0.castSucc = O₀ c := by
  show (if (t0_0.castSucc : Fin (cfg0.N + 1)).val = 0 then O₀ c else 0) = O₀ c; exact if_pos rfl
theorem owed_zero : (pdats m 0 c).owed 0 = O₀ c := by
  show (if ((0 : Fin (cfg0.N + 1)).val = 0) then O₀ c else 0) = O₀ c; exact if_pos rfl
theorem owed_last : (pdats m 0 c).owed (Fin.last _) = 0 := by
  show (if (Fin.last cfg0.N).val = 0 then O₀ c else 0) = 0
  rw [Fin.val_last, if_neg (by rw [show cfg0.N = 1 from N_0]; decide)]
theorem owed_succ : (dat m c).owed t0_0.succ = 0 := rfl
theorem phi_first : (dat m c).Φ t0_0.castSucc = phi0 m c := rfl
theorem phi_succ : (dat m c).Φ t0_0.succ = phi1 (F := F) c := rfl
theorem phi_last : (pdats m 0 c).Φ (Fin.last (Pipeline.pin (pcfgs (F := F)) adm 0).N) = phi1 (F := F) c := by
  show (if (Fin.last cfg0.N).val = 0 then phi0 m c else phi1 (F := F) c) = phi1 (F := F) c
  rw [Fin.val_last, if_neg (by rw [show cfg0.N = 1 from N_0]; decide)]

theorem owes_in {t : Fin (cfg0.N + 1)} {O : CellTallies nD τ sig Unit} (h : (dat m c).owed t = O) :
    iprop(∃ W, owes (c : Thread nD τ) O W) ⊢ ((dat m c).owesAt () t : sProp 𝕄) := by
  unfold Dat.owesAt Pipeline.owesWithin Dat.bound; rw [h]
  iintro ⟨%W, H⟩; iexists W; isplitr; · ipureintro; exact fun _ _ => Or.inl trivial
  iexact H
theorem owes_out {t : Fin (cfg0.N + 1)} {O : CellTallies nD τ sig Unit} (h : (dat m c).owed t = O) :
    ((dat m c).owesAt () t : sProp 𝕄) ⊢ iprop(∃ W, owes (c : Thread nD τ) O W) := by
  unfold Dat.owesAt Pipeline.owesWithin; rw [h]
  iintro ⟨%W, -, H⟩; iexists W; iexact H

/-- A staging buffer at given contents. -/
abbrev stg (b : Ref sig .tc) (X : b.ty.Contents (Elt F)) : sProp 𝕄 := iprop(∃ f, ⌜f = X⌝ ∗ ((c : Thread nD τ).loc b) ↦{fullShare} f)

theorem stg_out {b : Ref sig .tc} {X : b.ty.Contents (Elt F)} : stg c b X ⊢ full c b X := by
  unfold full; iintro ⟨%f, %h, H⟩; subst h; iexact H
theorem stg_in {b : Ref sig .tc} {X : b.ty.Contents (Elt F)} : full c b X ⊢ stg c b X := by
  unfold full; iintro H; iexists X; isplitr; · (ipureintro; rfl)
  iexact H

/-- What the windows hand the run: each operand's block, and the result buffer at any contents; -/
def winPre : sProp 𝕄 :=
  iprop((∃ d, stg c cc0_stg0_0 ((dat m c).before (0 : Fin 9) t0_0 d)) ∗ (∃ d, stg c cc0_stg1_0 ((dat m c).before (1 : Fin 9) t0_0 d))
    ∗ (∃ d, stg c cc0_stg2_0 ((dat m c).before (2 : Fin 9) t0_0 d)) ∗ (∃ d, stg c cc0_stg3_0 ((dat m c).before (3 : Fin 9) t0_0 d))
    ∗ (∃ d, stg c cc0_stg4_0 ((dat m c).before (4 : Fin 9) t0_0 d)) ∗ (∃ d, stg c cc0_stg5_0 ((dat m c).before (5 : Fin 9) t0_0 d))
    ∗ (∃ d, stg c cc0_stg6_0 ((dat m c).before (6 : Fin 9) t0_0 d)) ∗ (∃ d, stg c cc0_stg7_0 ((dat m c).before (7 : Fin 9) t0_0 d))
    ∗ (∃ d, stg c cc0_stg8_0 ((dat m c).before (8 : Fin 9) t0_0 d)))
/-- and what they take back. -/
def winPost : sProp 𝕄 :=
  iprop(stg c cc0_stg0_0 (opIns m c).x ∗ stg c cc0_stg1_0 (opIns m c).wq ∗ stg c cc0_stg2_0 (opIns m c).wk ∗ stg c cc0_stg3_0 (opIns m c).wv
    ∗ stg c cc0_stg4_0 (opIns m c).wo ∗ stg c cc0_stg5_0 (opIns m c).cs ∗ stg c cc0_stg6_0 (opIns m c).sa ∗ stg c cc0_stg7_0 (opIns m c).sb
    ∗ stg c cc0_stg8_0 (outV (opIns m) c))

theorem bef0 (d) : (dat m c).before (0 : Fin 9) t0_0 d = (opIns m c).x := by unfold Dat.before; rw [if_pos (fetch0_0 t0_0)]; rfl
theorem bef1 (d) : (dat m c).before (1 : Fin 9) t0_0 d = (opIns m c).wq := by unfold Dat.before; rw [if_pos (fetch0_1 t0_0)]; rfl
theorem bef2 (d) : (dat m c).before (2 : Fin 9) t0_0 d = (opIns m c).wk := by unfold Dat.before; rw [if_pos (fetch0_2 t0_0)]; rfl
theorem bef3 (d) : (dat m c).before (3 : Fin 9) t0_0 d = (opIns m c).wv := by unfold Dat.before; rw [if_pos (fetch0_3 t0_0)]; rfl
theorem bef4 (d) : (dat m c).before (4 : Fin 9) t0_0 d = (opIns m c).wo := by unfold Dat.before; rw [if_pos (fetch0_4 t0_0)]; rfl
theorem bef5 (d) : (dat m c).before (5 : Fin 9) t0_0 d = (opIns m c).cs := by unfold Dat.before; rw [if_pos (fetch0_5 t0_0)]; rfl
theorem bef6 (d) : (dat m c).before (6 : Fin 9) t0_0 d = (opIns m c).sa := by unfold Dat.before; rw [if_pos (fetch0_6 t0_0)]; rfl
theorem bef7 (d) : (dat m c).before (7 : Fin 9) t0_0 d = (opIns m c).sb := by unfold Dat.before; rw [if_pos (fetch0_7 t0_0)]; rfl

theorem win_in : winPre m c ⊢ iprop(ins (opIns m) c ∗ (∃ f : Vec F S2x512x1024 .f32, full c cc0_stg8_0 f)) := by
  unfold winPre
  simp only [bef0, bef1, bef2, bef3, bef4, bef5, bef6, bef7]
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  isplitr [H8]
  · unfold ins
    isplitl [H0]; · iapply (stg_out c); iexact H0
    isplitl [H1]; · iapply (stg_out c); iexact H1
    isplitl [H2]; · iapply (stg_out c); iexact H2
    isplitl [H3]; · iapply (stg_out c); iexact H3
    isplitl [H4]; · iapply (stg_out c); iexact H4
    isplitl [H5]; · iapply (stg_out c); iexact H5
    isplitl [H6]; · iapply (stg_out c); iexact H6
    iapply (stg_out c); iexact H7
  iexists _; iapply (stg_out c); iexact H8
theorem win_out : iprop(ins (opIns m) c ∗ full c cc0_stg8_0 (outV (opIns m) c)) ⊢ winPost m c := by
  unfold winPost ins
  iintro ⟨⟨H0, H1, H2, H3, H4, H5, H6, H7⟩, H8⟩
  isplitl [H0]; · iapply (stg_in c); iexact H0
  isplitl [H1]; · iapply (stg_in c); iexact H1
  isplitl [H2]; · iapply (stg_in c); iexact H2
  isplitl [H3]; · iapply (stg_in c); iexact H3
  isplitl [H4]; · iapply (stg_in c); iexact H4
  isplitl [H5]; · iapply (stg_in c); iexact H5
  isplitl [H6]; · iapply (stg_in c); iexact H6
  isplitl [H7]; · iapply (stg_in c); iexact H7
  iapply (stg_in c); iexact H8

theorem run_obligation :
    iprop(phi0 m c ∗ (dat m c).owesAt () t0_0.castSucc ∗ winPre m c)
      ⊢ wp frame (wpE (defs₀ (F := F)) 𝒱₀ (c : Thread nD τ) none) Set.univ (theBody (F := F))
          (fun _ => iprop(phi1 (F := F) c ∗ (dat m c).owesAt () t0_0.succ ∗ winPost m c)) := by
  unfold phi0 opened
  iintro ⟨⟨⟨⟨%K, HK, Hp, Ht⟩, Hc⟩, Hs, Hr⟩, Ho, Hw⟩
  ihave Ho' := (owes_out m c (owed_first m c)) $$ Ho
  ihave Hw' := (win_in m c) $$ Hw
  icases Hw' with ⟨Hi, H8⟩
  iapply (body_run (opIns m) K c (fun _ => iprop(phi1 (F := F) c ∗ (dat m c).owesAt () t0_0.succ ∗ winPost m c)))
  isplitr [Hr]
  · unfold bodyPre
    isplitl [HK]; · iexact HK
    isplitl [Hp]; · iexact Hp
    isplitl [Ht]; · iexact Ht
    isplitl [Hc]; · iexact Hc
    isplitl [Ho']; · iexact Ho'
    isplitl [Hi]; · iexact Hi
    isplitl [H8]; · iexact H8
    iexact Hs
  unfold bodyPost phi1
  iintro ⟨Hz, Ho, Hi, H8, Hs⟩
  isplitl [Hz Hs Hr]
  · isplitl [Hz]; · iexact Hz
    isplitl [Hs]; · iexact Hs
    iexact Hr
  isplitl [Ho]
  · iapply (owes_in m c (owed_succ m c)); iexact Ho
  iapply (win_out m c)
  isplitl [Hi]; · iexact Hi
  iexact H8

set_option maxHeartbeats 4000000 in
/-- The obligation of the call's one point. -/
theorem body_obl : BodyObligation (dat (F := F) m c) (defs₀ (F := F)) 𝒱₀ () Set.univ := fun t => by
  rw [fin_N0 t]
  rw [bigSep_W0, bigSep_W0]
  rw [phi_first, phi_succ]
  simp only [owns_whole_eq]
  exact run_obligation m c

end Cert.KernelIdeal.Att
-- ==== Proof.Region.lean ====
/-
  The kernel call as a segment of the program: its arrays, what it takes with it, and what it leaves.
-/
module

public import proofs.«01_k».proof.Proof.Windows

@[expose] public section

set_option maxRecDepth 16384
set_option synthInstance.maxSize 4096

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

set_option synthInstance.maxHeartbeats 200000

variable (m : (ℓ : Loc nD τ sig) → Buf (Elt F) ℓ) (c : Dev nD)

/-- A device's buffers as the program is launched with them, -/
abbrev atStart (c : Dev nD) : Valuation τ sig (Elt F) := fun b => m (c, b)
/-- as the kernel call finds them, -/
def atCall (c : Dev nD) : Valuation τ sig (Elt F) :=
  StableHlo.after (List.flatten [hostOps0, hostOps0_1, hostOps0_2, hostOps0_3, hostOps0_4, hostOps0_5]) (atStart m c)
/-- and as it leaves them. -/
def atEnd (c : Dev nD) : Valuation τ sig (Elt F) :=
  Function.update (atCall m c) (Proc.devRef .tc main_v41) ((dat m c).arrAt (8 : Fin 9) cfg0.N)

theorem atEnd_ne {b : DevRef τ sig} (h : b ≠ Proc.devRef .tc main_v41) : atEnd m c b = atCall m c b := Function.update_of_ne h ..

theorem share_full (w : Fin cfg0.W) : (dat m c).share w = fullShare := by unfold Dat.share; split <;> rfl

theorem arr_start (w : Fin cfg0.W) : (dat m c).arrAt w 0 = atCall m c (Proc.devRef .tc (Pipeline.arrRef spec0 w)) := rfl

theorem arr_in (w : Fin cfg0.W) (hw : (cfg0.win w).isOut = false) (hn : (Proc.devRef .tc (Pipeline.arrRef spec0 w) : DevRef τ sig) ≠ Proc.devRef .tc main_v41) :
    (dat m c).arrAt w cfg0.N = atEnd m c (Proc.devRef .tc (Pipeline.arrRef spec0 w)) := by
  rw [atEnd_ne m c hn, (dat m c).arrAt_in w hw _]; rfl
set_option maxHeartbeats 1000000 in
theorem arr_end (w : Fin 9) : (dat m c).arrAt w cfg0.N = atEnd m c (Proc.devRef .tc (Pipeline.arrRef spec0 w)) := by
  have h8 : (dat m c).arrAt (8 : Fin 9) cfg0.N = atEnd m c (Proc.devRef .tc (Pipeline.arrRef spec0 8)) := by
    exact (Function.update_self (Proc.devRef .tc main_v41 : DevRef τ sig) ((dat m c).arrAt (8 : Fin 9) cfg0.N) (atCall m c)).symm
  by_cases hw : w = 8
  · rw [hw]; exact h8
  · exact arr_in m c w (by revert w; decide) (by revert w; decide)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers the call's windows do not stand for. -/
abbrev others : Finset (DevRef τ sig) := Pipeline.ucRefs τ sig \ Pipeline.arrRefs (τ := τ) spec0
theorem arr_sub : Pipeline.arrRefs (τ := τ) spec0 ⊆ Pipeline.ucRefs τ sig := Pipeline.arrRefs_sub_ucRefs spec0 (by decide)
theorem others_kept : ∀ b ∈ others \ ∅, atEnd m c b = atCall m c b := fun b hb => by
  refine atEnd_ne m c fun h => ?_
  rw [Finset.sdiff_empty] at hb
  refine (Finset.mem_sdiff.mp hb).2 ?_
  rw [h]
  exact Finset.mem_map_of_mem _ (Finset.mem_image.mpr ⟨(8 : Fin 9), Finset.mem_univ _, rfl⟩)

/-- What a device carries into the call beside its buffers, -/
def carry : sProp 𝕄 := iprop((∃ K, start (opIns m) K c) ∗ crs (F := F) c)
/-- the same opened, -/
def carried : sProp 𝕄 := iprop((∃ K, opened (opIns m) K c) ∗ crs (F := F) c)
/-- and what it keeps after the call: the barrier's counter at zero. -/
def kept : sProp 𝕄 := semVal (bCell c) 0

theorem open_call : iprop(carry m c ∗ Pipeline.ownSems0 osem c ∗ levAts L lv) ⊢ (|={Set.univ}=> carried m c : sProp 𝕄) := by
  unfold carry carried
  iintro ⟨⟨⟨%K, HK⟩, Hc⟩, Hs, Hl⟩
  imod (start_open (opIns m) K c) $$ [HK Hs Hl] with H
  · isplitl [HK]; · iexact HK
    isplitl [Hs]; · iexact Hs
    iexact Hl
  imodintro
  isplitl [H]
  · iexists K; iexact H
  iexact Hc

theorem scr_of : (Pipeline.scopedRest spec0 c : sProp 𝕄) ⊢ scr (F := F) c := by
  rw [scopedRest0_eq]; unfold scr full; exact .rfl
theorem of_scr : scr (F := F) c ⊢ (Pipeline.scopedRest spec0 c : sProp 𝕄) := by
  rw [scopedRest0_eq]; unfold scr full; exact .rfl

theorem held_none (W : Valuation τ sig (Elt F)) : (StableHlo.held (c.tc : Thread nD τ) ∅ W : sProp 𝕄) = BI.emp := by
  unfold StableHlo.held; exact BI.bigSep_empty

theorem enter : iprop(Pipeline.scopedRest (Pipeline.pin (pcfgs (F := F)) adm 0).spec c ∗ (∃ r, prngReg c r) ∗ StableHlo.held (c.tc : Thread nD τ) ∅ (atCall m c) ∗ carried m c)
    ⊢ ((pdats m 0 c).Φ 0 : sProp 𝕄) := by
  rw [show (pdats m 0 c).Φ 0 = phi0 m c from rfl]
  unfold phi0 carried
  iintro ⟨Hs, Hp, -, Hc⟩
  isplitl [Hc]; · iexact Hc
  isplitl [Hs]; · iapply (scr_of c); iexact Hs
  iexact Hp

theorem own_sems : (bigSep Finset.univ fun k : Fin 18 => semVal (dCell c k) 0 : sProp 𝕄) ⊢ Pipeline.ownSems0 osem c := .rfl

theorem leave : (pdats m 0 c).Φ (Fin.last (Pipeline.pin (pcfgs (F := F)) adm 0).N)
    ⊢ (iprop(Pipeline.scopedRest (Pipeline.pin (pcfgs (F := F)) adm 0).spec c ∗ (∃ r, prngReg c r) ∗ StableHlo.held (c.tc : Thread nD τ) ∅ (atEnd m c) ∗ Pipeline.ownSems0 osem c ∗ kept c) : sProp 𝕄) := by
  rw [phi_last, held_none]
  unfold phi1 zeros kept
  iintro ⟨⟨Hb, Hd⟩, Hs, Hp⟩
  isplitl [Hs]; · iapply (of_scr c); iexact Hs
  isplitl [Hp]; · iexact Hp
  isplitr; · iempintro
  isplitl [Hd]; · iapply (own_sems c); iexact Hd
  iexact Hb

theorem stage_L (k : DmaSem sig) : () ∈ L ((c : Thread nD τ), .dma k) := by rw [L_tc]; exact Finset.mem_singleton_self _
theorem stage_low : ∀ (w : Fin 9) (s : Fin (cfg0.win w).nbuf), ((cfg0.win w).sem s).val < 9 := by decide
theorem stage_lv (w : Fin 9) (s : Fin (cfg0.win w).nbuf) : lv ((c : Thread nD τ), .dma ((cfg0.win w).sem s)) () ≤ 0 := by
  have h := stage_low w s
  show (if 12 ≤ ((cfg0.win w).sem s).val ∧ ((cfg0.win w).sem s).val < 15 then 2 else if 21 ≤ ((cfg0.win w).sem s).val then 3 else 0) ≤ 0
  rw [if_neg (by omega), if_neg (by omega)]
theorem owed_cut (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact above_O₀ c g i h
  · exact absurd h (Nat.lt_irrefl 0)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
/-- The call. -/
def call : ℝ𝕊 0 :=
  Pipeline.RegionSeg.ofTalk (pcfgs (F := F)) adm (pdats m) () defs₀ 𝒱₀ L lv 0 osem osem_facts
    ∅ others (Finset.empty_subset _) kitP rfl (fun c => (body_obl m c).loose)
    (fun _ => 0) O₀ (fun c => (owed_zero m c).trans (zero_add _).symm) (owed_last m) (fun _ => rfl) (share_full m)
    (atCall m) (atEnd m) (others_kept m)
    (carry m) kept (carried m) kept (open_call m) (enter m) (leave m)
    (fun c => by iintro H; imodintro; iexact H)
    (fun _ => 0)
    ⟨fun c w s => stage_L c _, fun c w s => stage_lv c w s, fun c t g i h => owed_cut m c t g i h⟩
    (fun _ => iprop(emp))
    (arr_start m) (arr_end m)

/-- What rides beside the buffers up to the call. -/
def beside : sProp 𝕄 := iprop(carry m c ∗ (∃ r, prngReg c r) ∗ ∃ W, owes (c : Thread nD τ) (O₀ c) W)

theorem call_pre : iprop(StableHlo.held (c : Thread nD τ) (Pipeline.ucRefs τ sig) (atCall m c) ∗ beside m c) ⊢ (call m).pre c := by
  show _ ⊢ iprop(StableHlo.held (c.tc : Thread nD τ) (Pipeline.arrRefs (τ := τ) (pcfgs (F := F) 0).spec) (atCall m c) ∗ (∃ r, prngReg c r)
    ∗ (StableHlo.held (c.tc : Thread nD τ) others (atCall m c) ∗ emp) ∗ carry m c ∗ ∃ Wd, owes (c : Thread nD τ) (0 + O₀ c) Wd)
  rw [zero_add, StableHlo.held_sub_split (c.tc : Thread nD τ) arr_sub (atCall m c)]
  unfold beside
  iintro ⟨⟨Ha, Hh⟩, Hc, Hp, HO⟩
  isplitl [Ha]; · iexact Ha
  isplitl [Hp]; · iexact Hp
  isplitl [Hh]
  · isplitl [Hh]; · iexact Hh
    iempintro
  isplitl [Hc]; · iexact Hc
  iexact HO

theorem call_post : (call m).post c
    ⊢ iprop((StableHlo.held (c : Thread nD τ) (Pipeline.ucRefs τ sig) (atEnd m c) ∗ semVal (bCell c) 0) ∗ ∃ W, owes (c : Thread nD τ) (0 : CellTallies nD τ sig Unit) W) := by
  show iprop(StableHlo.held (c.tc : Thread nD τ) (Pipeline.arrRefs (τ := τ) (pcfgs (F := F) 0).spec) (atEnd m c) ∗ (∃ r, prngReg c r)
    ∗ (StableHlo.held (c.tc : Thread nD τ) others (atEnd m c) ∗ emp) ∗ kept c ∗ ∃ Wd, owes (c : Thread nD τ) (0 : CellTallies nD τ sig Unit) Wd) ⊢ _
  rw [StableHlo.held_sub_split (c.tc : Thread nD τ) arr_sub (atEnd m c)]
  unfold kept
  iintro ⟨Ha, -, ⟨Hh, -⟩, Hb, HO⟩
  isplitr [HO]
  · isplitl [Ha Hh]
    · isplitl [Ha]; · iexact Ha
      iexact Hh
    iexact Hb
  iexact HO

/-! ## The host's operations before the call -/

theorem ops_sub {ops : List (HloOp τ sig (Elt F))} (h : ops.Forall fun op => op.bufs ⊆ StableHlo.tcRefs τ sig) :
    ∀ op ∈ ops, op.bufs ⊆ Pipeline.ucRefs τ sig := fun op ho => Pipeline.sub_ucRefs op (List.forall_iff_forall_mem.mp h op ho)

abbrev at1 (c : Dev nD) := StableHlo.after hostOps0 (atStart m c)
abbrev at2 (c : Dev nD) := StableHlo.after hostOps0_1 (at1 m c)
abbrev at3 (c : Dev nD) := StableHlo.after hostOps0_2 (at2 m c)
abbrev at4 (c : Dev nD) := StableHlo.after hostOps0_3 (at3 m c)
abbrev at5 (c : Dev nD) := StableHlo.after hostOps0_4 (at4 m c)
abbrev at6 (c : Dev nD) := StableHlo.after hostOps0_5 (at5 m c)
theorem at6_eq : at6 m c = atCall m c := by
  unfold atCall
  simp only [List.flatten_cons, List.flatten_nil, List.append_nil, StableHlo.after_append]

def host0 : ℍ := Pipeline.HostSeg.ofOps _ _ _ _ _ (Pipeline.ucRefs τ sig) hostOps0 (ops_sub hostOps0_sub) (List.forall_iff_forall_mem.mp hostOps0_fresh) (atStart m) (beside m)
def host1 : ℍ := Pipeline.HostSeg.ofOps _ _ _ _ _ (Pipeline.ucRefs τ sig) hostOps0_1 (ops_sub hostOps0_1_sub) (List.forall_iff_forall_mem.mp hostOps0_1_fresh) (at1 m) (beside m)
def host2 : ℍ := Pipeline.HostSeg.ofOps _ _ _ _ _ (Pipeline.ucRefs τ sig) hostOps0_2 (ops_sub hostOps0_2_sub) (List.forall_iff_forall_mem.mp hostOps0_2_fresh) (at2 m) (beside m)
def host3 : ℍ := Pipeline.HostSeg.ofOps _ _ _ _ _ (Pipeline.ucRefs τ sig) hostOps0_3 (ops_sub hostOps0_3_sub) (List.forall_iff_forall_mem.mp hostOps0_3_fresh) (at3 m) (beside m)
def host4 : ℍ := Pipeline.HostSeg.ofOps _ _ _ _ _ (Pipeline.ucRefs τ sig) hostOps0_4 (ops_sub hostOps0_4_sub) (List.forall_iff_forall_mem.mp hostOps0_4_fresh) (at4 m) (beside m)
def host5 : ℍ := Pipeline.HostSeg.ofOps _ _ _ _ _ (Pipeline.ucRefs τ sig) hostOps0_5 (ops_sub hostOps0_5_sub) (List.forall_iff_forall_mem.mp hostOps0_5_fresh) (at5 m) (beside m)

def segs : List (Pipeline.Seg (pcfgs (F := F)) adm (pdats m) () defs₀ 𝒱₀ L lv) :=
  [.host (host0 m), .host (host1 m), .host (host2 m), .host (host3 m), .host (host4 m), .host (host5 m), .region (call m)]

theorem main_segs (c : Dev nD) : main (F := F) c = Pipeline.Seg.run (segs m) := by
  rw [main_chain]
  rfl

end Cert.KernelIdeal.Att
-- ==== Proof.Run.lean ====
/-
  The launch and the whole run: every device's result, its arguments unchanged, every counter at zero.
-/
module

public import proofs.«01_k».proof.Proof.Region

@[expose] public section

set_option maxRecDepth 16384
set_option synthInstance.maxSize 4096

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

set_option synthInstance.maxHeartbeats 200000

variable (m : (ℓ : Loc nD τ sig) → Buf (Elt F) ℓ) (ρ : Dev nD → PrngReg) (c : Dev nD)

/-! ## What the launch is given -/

/-- The launch element: the windows' part and the protocol's. -/
def u₀ : UU :=
  (initOf (Pipeline.cells (Pipeline.pin (pcfgs (F := F)) adm) cellOf_inj) (Pipeline.launchToks (Pipeline.pin (pcfgs (F := F)) adm) cellOf_inj),
    launchOf barCells dmaCells allToks)

/-- The protocol's part, kept by device 0 until the cells are made. -/
abbrev seed : sProp 𝕄 := BI.own (ER (launchOf barCells dmaCells allToks))
def given (d : Dev nD) : sProp 𝕄 := if d = 0 then seed else iprop(emp)
theorem given_all : bigSep Finset.univ (given (F := F)) = seed := by
  rw [bigSep_univ_at _ (0 : Dev nD), bigSep_congr (s := Finset.univ.erase (0 : Dev nD)) (Ψ := fun _ => (BI.emp : sProp 𝕄))
      fun d hd => by unfold given; rw [if_neg (Finset.ne_of_mem_erase hd)]; rfl, BI.bigSep_emp_const]
  unfold given; rw [if_pos rfl]
  exact BI.equiv_iff.mp sep_emp

theorem launch_split : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (given (F := F))) := by
  unfold u₀
  iintro Hu
  ihave H := (ownU_pair _ _) $$ Hu
  icases H with ⟨HP, HX⟩
  imodintro
  isplitl [HP]; · iexact HP
  rw [given_all]; iexact HX

/-! ## The cells made and dealt out -/

/-- What all devices may consult. -/
def shared (κ : GSem nD τ sig → ℕ) : sProp 𝕄 := iprop(invs (opIns m) κ ∗ bigSep Finset.univ fun q : Dev nD => reached ER (bCell q) 0)
instance shared_persistent (κ : GSem nD τ sig → ℕ) : BI.Persistent (shared m κ) := by unfold shared; infer_instance

theorem shared_in (κ : GSem nD τ sig → ℕ) :
    iprop((bigSep (barCells ∪ dmaCells) fun g => (cellInv ER (rd (opIns m)) (κ g) g : sProp 𝕄)) ∗ bigSep barCells fun g => (reached ER g 0 : sProp 𝕄)) ⊢ shared m κ := by
  have e : (bigSep (barCells ∪ dmaCells) fun g => (cellInv ER (rd (opIns m)) (κ g) g : sProp 𝕄))
      = iprop((bigSep barCells fun g => (cellInv ER (rd (opIns m)) (κ g) g : sProp 𝕄)) ∗ bigSep dmaCells fun g => (cellInv ER (rd (opIns m)) (κ g) g : sProp 𝕄)) :=
    bigSep_union cells_disjoint
  rw [e]
  iintro ⟨⟨HB, HD⟩, HR⟩
  ihave HB := (Entails.of_eq (bigSep_map (s := Finset.univ) barEmb (Φ := fun g : GSem nD τ sig => (cellInv ER (rd (opIns m)) (κ g) g : sProp 𝕄)))) $$ HB
  ihave HD := (Entails.of_eq (bigSep_map (s := Finset.univ) dmaEmb (Φ := fun g : GSem nD τ sig => (cellInv ER (rd (opIns m)) (κ g) g : sProp 𝕄)))) $$ HD
  ihave HR := (Entails.of_eq (bigSep_map (s := Finset.univ) barEmb (Φ := fun g : GSem nD τ sig => (reached ER g 0 : sProp 𝕄)))) $$ HR
  unfold shared invs
  isplitr [HR]
  · isplitl [HB]; · iexact HB
    iexact HD
  iexact HR

/-- What stays with one device of the protocol, -/
def mine (c : Dev nD) : sProp 𝕄 :=
  iprop(atPos ER (bCell c) 0 (∅ : Finset (Fin 3)) 0 ∗ (bigSep Finset.univ fun k : Fin 18 => openTok ER (dCell c k)) ∗ toks (F := F) c)
/-- and of the launch otherwise. -/
def bundle (c : Dev nD) : sProp 𝕄 :=
  iprop(StableHlo.held (c : Thread nD τ) (Pipeline.ucRefs τ sig) (atStart m c) ∗ crs (F := F) c ∗ owes (c : Thread nD τ) (O₀ c) ∅ ∗ ∃ r, prngReg c r)

abbrev first (c : Dev nD) : sProp 𝕄 := iprop(StableHlo.held (c : Thread nD τ) (Pipeline.ucRefs τ sig) (atStart m c) ∗ beside m c)
abbrev final (c : Dev nD) : sProp 𝕄 := iprop(StableHlo.held (c : Thread nD τ) (Pipeline.ucRefs τ sig) (atEnd m c) ∗ semVal (bCell c) 0)

theorem first_in (κ : GSem nD τ sig → ℕ) (c : Dev nD) : iprop(shared m κ ∗ (mine (F := F) c ∗ bundle m c)) ⊢ first m c := by
  unfold shared mine bundle first beside carry start
  iintro ⟨⟨#HI, #HR⟩, ⟨Ha, Ho, Ht⟩, Hh, Hc, HO, Hp⟩
  isplitl [Hh]; · iexact Hh
  isplitl [Ha Ho Ht Hc]
  · isplitr [Hc]
    · iexists κ
      isplitr; · iexact HI
      isplitr; · iexact HR
      isplitl [Ha]; · iexact Ha
      isplitl [Ho]; · iexact Ho
      iexact Ht
    iexact Hc
  isplitl [Hp]; · iexact Hp
  iexists ∅; iexact HO

theorem bar_sem : (unscopedSems0 c : sProp 𝕄) = semVal (bCell c) 0 := by
  unfold unscopedSems0
  rw [show (Finset.univ.filter fun sm : SemLoc sig => ¬ sm.isScoped .tc) = {SemLoc.reg barrier0} from by decide, BI.bigSep_singleton]

theorem one_device (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ given (F := F) c)
    ⊢ (iprop(bundle m c ∗ (semVal (bCell c) 0 ∗ given (F := F) c)) : sProp 𝕄) := by
  rw [show unscopedBufs c (fun b => m ((c : Thread nD τ).loc b)) = StableHlo.held (c : Thread nD τ) (Pipeline.ucRefs τ sig) (atStart m c) from
    Pipeline.unscopedBufs_held c (atStart m c), bar_sem]
  unfold bundle
  iintro ⟨Hh, Hs, HO, Hc, Hp, HG⟩
  ihave Hc := (creds (F := F) c) $$ Hc
  isplitr [Hs HG]
  · isplitl [Hh]; · iexact Hh
    isplitl [Hc]; · iexact Hc
    isplitl [HO]; · iexact HO
    iexists (ρ c); iexact Hp
  isplitl [Hs]; · iexact Hs
  iexact HG

theorem sems_in : bigSep Finset.univ (fun c : Dev nD => (semVal (bCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem places_out : bigSep barCells (fun g => (atPos ER g 0 (∅ : Finset (Fin 3)) 0 : sProp 𝕄))
    ⊢ bigSep Finset.univ (fun c : Dev nD => (atPos ER (bCell c) 0 (∅ : Finset (Fin 3)) 0 : sProp 𝕄)) :=
  Entails.of_eq (bigSep_map (s := Finset.univ) barEmb (Φ := fun g : GSem nD τ sig => (atPos ER g 0 (∅ : Finset (Fin 3)) 0 : sProp 𝕄)))
theorem opens_out : bigSep dmaCells (fun g => (openTok ER g : sProp 𝕄))
    ⊢ bigSep Finset.univ (fun c : Dev nD => bigSep Finset.univ fun k : Fin 18 => (openTok ER (dCell c k) : sProp 𝕄)) :=
  Entails.of_eq (by rw [bigSep_map, bigSep_univ_prod]; rfl)

theorem each {Φ Ψ : Dev nD → sProp 𝕄} (h : ∀ c, Φ c ⊢ Ψ c) : bigSep Finset.univ Φ ⊢ bigSep Finset.univ Ψ := bigSep_mono fun c _ => h c
theorem each_with {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := bigSep_with_persistent fun c _ => h c

/-- The launch: the cells made, and every device given its part. -/
theorem begin :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ given (F := F) c)) ∗ levAts L lv)
      ⊢ (|={Set.univ}=> bigSep Finset.univ (first m) : sProp 𝕄) := by
  iintro ⟨H, -⟩
  ihave H := (each fun c => one_device m ρ c) $$ H
  ihave H := (pair_down _ _ _) $$ H
  icases H with ⟨HB, H⟩
  ihave H := (pair_down _ _ _) $$ H
  icases H with ⟨Hv, HG⟩
  ihave Hu := (Entails.of_eq (given_all (F := F))) $$ HG
  imod (Rounds.fund_launch ER (rd (opIns m)) cells_disjoint (fun g _ h => h) allToks) $$ [Hv Hu] with ⟨%κ, -, #Hinv, #Hr, Hat, Hopen, Htok⟩
  · isplitl [Hv]
    · iapply (sems_in (F := F)); iexact Hv
    · iexact Hu
  imodintro
  iapply (each_with (R := shared m κ) (Φ := fun c => iprop(mine (F := F) c ∗ bundle m c)) fun c => first_in m κ c)
  isplitr
  · iapply (shared_in m κ)
    isplitr; · iexact Hinv
    iexact Hr
  iapply (pair_up _ _ _)
  isplitr [HB]
  · unfold mine
    iapply (pair_up _ _ _); isplitl [Hat]; · iapply (places_out (F := F)); iexact Hat
    iapply (pair_up _ _ _); isplitl [Hopen]; · iapply (opens_out (F := F)); iexact Hopen
    iapply (toks_deal (F := F)); iexact Htok
  · iexact HB

/-! ## The run -/

theorem sem_only : ∀ sm : SemLoc sig, sm.isScoped .tc = false → sm = .reg barrier0 := by decide

theorem finish (s' : Phys nD τ sig (Elt F)) :
    iprop(final m c ∗ SI s') ⊢ (|={Set.univ}=> iprop(⌜(∀ b ∈ Pipeline.ucRefs τ sig, s'.mem.mem (c, b) = atEnd m c b) ∧ s'.mem.sem (bCell c) = 0⌝ ∗ SI s') : sProp 𝕄) := by
  unfold final StableHlo.held
  iintro ⟨⟨Hh, Hb⟩, HS⟩
  icombine HS Hb gives %hb
  ihave H := (pointsTo_read_all (Pipeline.ucRefs τ sig) (fun b => ((c, b) : Loc nD τ sig)) (fun b => atEnd m c b) s') $$ [Hh HS]
  · isplitl [Hh]; · iexact Hh
    iexact HS
  icases H with ⟨%h, HS⟩
  imodintro
  isplitr
  · ipureintro; exact ⟨h, by simpa using hb⟩
  iexact HS

theorem unscoped_mem (b : Ref sig .tc) (h : b.isScoped = false) : (Proc.devRef .tc b : DevRef τ sig) ∈ Pipeline.ucRefs τ sig :=
  Finset.mem_filter.mpr ⟨StableHlo.devRef_mem_tcRefs _, fun h' => Bool.false_ne_true (h.symm.trans h')⟩

set_option maxHeartbeats 1000000 in
set_option backward.isDefEq.respectTransparency.types false in
/-- From any memory with every counter at zero the program ends, on every device with the buffers as `atEnd` says and every counter at zero. -/
theorem run_all [∀ e, Nonempty (Elt F e)] : θ_run defs (onTc (τ := τ) (main (F := F))) (s₀ m ρ)
    (fun r => (∀ c : Dev nD, ∀ b ∈ Pipeline.ucRefs τ sig, r.2.mem (c, b) = atEnd m c b) ∧ r.2.sem = fun _ => 0) :=
  Pipeline.θ_run_regions_kit_sems (pcfgs (F := F)) adm (pdats m) () cellOf_inj EP defs₀ 𝒱₀ L lv m ρ main (segs m)
    (fun c Q => by rw [main_segs m c])
    (by simp only [segs, Pipeline.Seg.pipes_host, Pipeline.Seg.pipes_region, Pipeline.Seg.pipes_nil]; decide)
    (O₀ := O₀) (hL := L_of_ne) (G := given) (u₀ := u₀)
    (hu₀ := launch_split)
    (T₀ := first m) (Tₙ := final m)
    (hch := ⟨fun c => .rfl, fun c => .rfl, fun c => .rfl, fun c => .rfl, fun c => .rfl, fun c => .rfl,
      fun c => by
        have e := call_pre m c
        rw [← at6_eq] at e
        exact e,
      fun c => call_post m c⟩)
    (hinit := begin m ρ)
    (QY := fun c s => (∀ b ∈ Pipeline.ucRefs τ sig, s.mem (c, b) = atEnd m c b) ∧ s.sem (bCell c) = 0)
    (hfin := fun c s' => finish m c s')
    (hQ := fun s h hs => ⟨fun c => (h c).1,
      sem_eq_zero hs fun c sm hsm => by
        obtain rfl := sem_only sm hsm
        exact (h c).2⟩)

/-- The result and the arguments, read out of it. -/
theorem run_read [∀ e, Nonempty (Elt F e)] : θ_run defs (onTc (τ := τ) (main (F := F))) (s₀ m ρ)
    (fun r => (∀ c : Dev nD,
        (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.mem ((c.tc : Thread nD τ).loc main_v41) = (dat m c).arrAt (8 : Fin 9) cfg0.N)
      ∧ r.2.sem = fun _ => 0) :=
  (θ_run defs _ _).mono (fun _ h => ⟨fun c => ⟨
      ⟨(h.1 c _ (unscoped_mem main_arg0 rfl)).trans ((atEnd_ne m c (by decide)).trans (V_main_arg0 m c)),
      (h.1 c _ (unscoped_mem main_arg1 rfl)).trans ((atEnd_ne m c (by decide)).trans (V_main_arg1 m c)),
      (h.1 c _ (unscoped_mem main_arg2 rfl)).trans ((atEnd_ne m c (by decide)).trans (V_main_arg2 m c)),
      (h.1 c _ (unscoped_mem main_arg3 rfl)).trans ((atEnd_ne m c (by decide)).trans (V_main_arg3 m c)),
      (h.1 c _ (unscoped_mem main_arg4 rfl)).trans ((atEnd_ne m c (by decide)).trans (V_main_arg4 m c))⟩,
      (h.1 c _ (unscoped_mem main_v41 rfl)).trans (arr_end m c 8).symm⟩, h.2⟩)
    (run_all m ρ)

end Cert.KernelIdeal.Att
-- ==== Proof.Formula.lean ====
/-
  A device's four partial outputs are one function of the row chunk: the chunk's queries, turned, meet the keys and the
  values of their batch head by head, and the heads' results meet the output projection. The four texts of the kernel
  cut this function at different places.
-/
module

public import proofs.«01_k».proof.Proof.Steps

@[expose] public section

set_option maxRecDepth 16384

noncomputable section

namespace Cert.KernelIdeal.Att

open Idealize.ShloMosaic Idealize.SL.Sem
open Cert.KernelIdeal Cert.KernelIdeal.Gen

variable {F : FTy → Type} [FloatOps F]

/-! ## Blocks at equal offsets -/

theorem blk_congr {s : Shape} {e : EltTy} (f : Vec F s e) {off off' : Fin s.rank → Nat} (size : Fin s.rank → Nat)
    (ho : off = off') (h : ∀ a, off a + size a ≤ s.size a) (h' : ∀ a, off' a + size a ≤ s.size a) :
    blk f off size h = blk f off' size h' := by
  subst ho
  rfl

theorem blk_mat {e : EltTy} {off off' : Fin S1024x1024.rank → Nat} {size : Fin S1024x1024.rank → Nat}
    (ho : off = off') (h : ∀ a, off a + size a ≤ S1024x1024.size a) (h' : ∀ a, off' a + size a ≤ S1024x1024.size a)
    (f : Vec F S1024x1024 e) : blk f off size h = blk f off' size h' := blk_congr f size ho h h'

/-- Rows of chunk `j`. -/
theorem rows_inb (j : Fin 4) : ∀ b, (![256 * j.val, 0] : Fin 2 → Nat) b + S256x1024.size b ≤ S1024x1024.size b := by
  revert j; decide
/-- Rows of chunk `j`'s batch and columns of head `h`. -/
theorem head_inb (j : Fin 4) (h : Fin 8) :
    ∀ b, (![512 * (j.val / 2), 128 * h.val] : Fin 2 → Nat) b + S512x128.size b ≤ S1024x1024.size b := by
  revert j h; decide
theorem cols_slices (h : Fin 8) : S256x1024.Slices ![0, 128 * h.val] S256x128 := by revert h; decide

/-! ## One head -/

/-- One head's result: exponentials of the scores against the values, over the exponentials' sum. -/
def headF (q : FVec F S256x128 .bf16) (k v : Vec F S512x128 .bf16) : FVec F S256x128 .bf16 :=
  have s : FVec F S256x512 .f32 :=
    matmul dot_S256x128_S512x128_S256x512_1_1_0_0_n_n none q k (constant S256x512 .f32 0x00000000#32)
  have e : FVec F S256x512 .f32 := exp s
  have l : FVec F S256x1 .f32 :=
    shapeCast S256x1 (multiReduction .add [1] S256 e 0x00000000#32 reduces_S256x512_S256 (.inl rfl) rfl) shapeCasts_S256_S256x1
  have o : FVec F S256x128 .f32 :=
    matmul dot_S256x512_S512x128_S256x128_1_0_0_1_n_n none (truncf .bf16 e bitsLt_bf16_f32) v
      (constant S256x128 .f32 0x00000000#32)
  have w : FVec F S256x1 .f32 := divf (broadcast S256x1 (Scalar.ofBits .f32 0x3F800000#32)) l
  truncf .bf16 (mulf o (broadcastTo S256x128 w broadcasts_S256x1_S256x128)) bitsLt_bf16_f32

/-- Head `h`'s piece of the row chunk `j`, from the chunk's queries. -/
def pieceF (q : FVec F S256x1024 .bf16) (K V : Vec F S1024x1024 .bf16) (j : Fin 4) (h : Fin 8) : FVec F S256x128 .bf16 :=
  headF (extractStridedSlice S256x128 ![0, 128 * h.val] q (cols_slices h))
    (blk K ![512 * (j.val / 2), 128 * h.val] S512x128.size (head_inb j h))
    (blk V ![512 * (j.val / 2), 128 * h.val] S512x128.size (head_inb j h))

theorem pieces_cat (q : FVec F S256x1024 .bf16) (K V : Vec F S1024x1024 .bf16) (j : Fin 4) :
    Shape.Concatenates ((List.ofFn fun n : Fin 8 => (⟨S256x128, pieceF q K V j n⟩ : (s : Shape) × (s.Idx → F .bf16))).map (·.1))
      S256x1024 1 :=
  concatenates_S256x128_S256x128_S256x128_S256x128_S256x128_S256x128_S256x128_S256x128_S256x1024_d1

variable (a : Ins F)

/-- The queries of row chunk `j`. -/
def qF (j : Fin 4) : FVec F S256x1024 .bf16 :=
  k0_pay10 (k0_pay2 a.wq) (blk a.x ![256 * j.val, 0] S256x1024.size (rows_inb j))
    (blk a.cs ![256 * j.val, 0] S256x1024.size (rows_inb j)) (blk a.sa ![256 * j.val, 0] S256x1024.size (rows_inb j))
    (blk a.sb ![256 * j.val, 0] S256x1024.size (rows_inb j))

/-- The heads' results of row chunk `j`, side by side. -/
def ctxF (j : Fin 4) : FVec F S256x1024 .bf16 :=
  concatenate S256x1024 1 (List.ofFn fun n : Fin 8 => (⟨S256x128, pieceF (qF a j) (kB a) (vB a) j n⟩ : (s : Shape) × (s.Idx → F .bf16)))
    (pieces_cat (qF a j) (kB a) (vB a) j)

/-- The partial output of row chunk `j`. -/
def partF (j : Fin 4) : FVec F S256x1024 .f32 :=
  matmul dot_S256x1024_S1024x1024_S256x1024_1_0_0_1_n_n none (ctxF a j) (k0_pay3 a.wo)
    (constant S256x1024 .f32 0x00000000#32)

/-- The partial output as it is sent. -/
def sentF (j : Fin 4) : FVec F S256x1024 .bf16 :=
  shapeCast S256x1024 (truncf .bf16 (partF a j) bitsLt_bf16_f32) shapeCasts_S256x1024_S256x1024

/-! ## The offsets -/

theorem off1_d1 (c : Dev nD) : k0_off1 c 1#32 = ![256 * (pr 1 c).val, 0] := by revert c; decide +kernel
theorem off2_d1 (c : Dev nD) : k0_off2 c 1#32 = ![512 * ((pr 1 c).val / 2), 128 * (0 : Fin 8).val] := by revert c; decide +kernel
theorem off3_d1 (c : Dev nD) : k0_off3 c 1#32 = ![512 * ((pr 1 c).val / 2), 128 * (1 : Fin 8).val] := by revert c; decide +kernel
theorem off4_d1 (c : Dev nD) : k0_off4 c 1#32 = ![512 * ((pr 1 c).val / 2), 128 * (2 : Fin 8).val] := by revert c; decide +kernel
theorem off5_d1 (c : Dev nD) : k0_off5 c 1#32 = ![512 * ((pr 1 c).val / 2), 128 * (3 : Fin 8).val] := by revert c; decide +kernel
theorem off6_d1 (c : Dev nD) : k0_off6 c 1#32 = ![512 * ((pr 1 c).val / 2), 128 * (4 : Fin 8).val] := by revert c; decide +kernel
theorem off7_d1 (c : Dev nD) : k0_off7 c 1#32 = ![512 * ((pr 1 c).val / 2), 128 * (5 : Fin 8).val] := by revert c; decide +kernel
theorem off8_d1 (c : Dev nD) : k0_off8 c 1#32 = ![512 * ((pr 1 c).val / 2), 128 * (6 : Fin 8).val] := by revert c; decide +kernel
theorem off9_d1 (c : Dev nD) : k0_off9 c 1#32 = ![512 * ((pr 1 c).val / 2), 128 * (7 : Fin 8).val] := by revert c; decide +kernel
theorem off1_d2 (c : Dev nD) : k0_off1 c 2#32 = ![256 * (pr 2 c).val, 0] := by revert c; decide +kernel
theorem off2_d2 (c : Dev nD) : k0_off2 c 2#32 = ![512 * ((pr 2 c).val / 2), 128 * (0 : Fin 8).val] := by revert c; decide +kernel
theorem off3_d2 (c : Dev nD) : k0_off3 c 2#32 = ![512 * ((pr 2 c).val / 2), 128 * (1 : Fin 8).val] := by revert c; decide +kernel
theorem off4_d2 (c : Dev nD) : k0_off4 c 2#32 = ![512 * ((pr 2 c).val / 2), 128 * (2 : Fin 8).val] := by revert c; decide +kernel
theorem off5_d2 (c : Dev nD) : k0_off5 c 2#32 = ![512 * ((pr 2 c).val / 2), 128 * (3 : Fin 8).val] := by revert c; decide +kernel
theorem off6_d2 (c : Dev nD) : k0_off6 c 2#32 = ![512 * ((pr 2 c).val / 2), 128 * (4 : Fin 8).val] := by revert c; decide +kernel
theorem off7_d2 (c : Dev nD) : k0_off7 c 2#32 = ![512 * ((pr 2 c).val / 2), 128 * (5 : Fin 8).val] := by revert c; decide +kernel
theorem off8_d2 (c : Dev nD) : k0_off8 c 2#32 = ![512 * ((pr 2 c).val / 2), 128 * (6 : Fin 8).val] := by revert c; decide +kernel
theorem off9_d2 (c : Dev nD) : k0_off9 c 2#32 = ![512 * ((pr 2 c).val / 2), 128 * (7 : Fin 8).val] := by revert c; decide +kernel
theorem off1_d3 (c : Dev nD) : k0_off1 c 3#32 = ![256 * (pr 3 c).val, 0] := by revert c; decide +kernel
theorem off2_d3 (c : Dev nD) : k0_off2 c 3#32 = ![512 * ((pr 3 c).val / 2), 128 * (0 : Fin 8).val] := by revert c; decide +kernel
theorem off3_d3 (c : Dev nD) : k0_off3 c 3#32 = ![512 * ((pr 3 c).val / 2), 128 * (1 : Fin 8).val] := by revert c; decide +kernel
theorem off4_d3 (c : Dev nD) : k0_off4 c 3#32 = ![512 * ((pr 3 c).val / 2), 128 * (2 : Fin 8).val] := by revert c; decide +kernel
theorem off5_d3 (c : Dev nD) : k0_off5 c 3#32 = ![512 * ((pr 3 c).val / 2), 128 * (3 : Fin 8).val] := by revert c; decide +kernel
theorem off6_d3 (c : Dev nD) : k0_off6 c 3#32 = ![512 * ((pr 3 c).val / 2), 128 * (4 : Fin 8).val] := by revert c; decide +kernel
theorem off7_d3 (c : Dev nD) : k0_off7 c 3#32 = ![512 * ((pr 3 c).val / 2), 128 * (5 : Fin 8).val] := by revert c; decide +kernel
theorem off8_d3 (c : Dev nD) : k0_off8 c 3#32 = ![512 * ((pr 3 c).val / 2), 128 * (6 : Fin 8).val] := by revert c; decide +kernel
theorem off9_d3 (c : Dev nD) : k0_off9 c 3#32 = ![512 * ((pr 3 c).val / 2), 128 * (7 : Fin 8).val] := by revert c; decide +kernel
theorem off11_d0 (c : Dev nD) : k0_off11 c = ![256 * c.val, 0] := by revert c; decide +kernel
theorem off12_d0 (c : Dev nD) : k0_off12 c = ![512 * (c.val / 2), 128 * (0 : Fin 8).val] := by revert c; decide +kernel
theorem off13_d0 (c : Dev nD) : k0_off13 c = ![512 * (c.val / 2), 128 * (1 : Fin 8).val] := by revert c; decide +kernel
theorem off14_d0 (c : Dev nD) : k0_off14 c = ![512 * (c.val / 2), 128 * (2 : Fin 8).val] := by revert c; decide +kernel
theorem off15_d0 (c : Dev nD) : k0_off15 c = ![512 * (c.val / 2), 128 * (3 : Fin 8).val] := by revert c; decide +kernel
theorem off16_d0 (c : Dev nD) : k0_off16 c = ![512 * (c.val / 2), 128 * (4 : Fin 8).val] := by revert c; decide +kernel
theorem off17_d0 (c : Dev nD) : k0_off17 c = ![512 * (c.val / 2), 128 * (5 : Fin 8).val] := by revert c; decide +kernel
theorem off18_d0 (c : Dev nD) : k0_off18 c = ![512 * (c.val / 2), 128 * (6 : Fin 8).val] := by revert c; decide +kernel
theorem off19_d0 (c : Dev nD) : k0_off19 c = ![512 * (c.val / 2), 128 * (7 : Fin 8).val] := by revert c; decide +kernel

/-! ## The four texts -/

variable (c : Dev nD)

theorem chunk1_eq : chunk1 a c = sentF a (pr 1 c) := by
  unfold chunk1
  simp only [
    blk_mat (F := F) (off1_d1 c) (k0_off1_inb c 0) (rows_inb (pr 1 c)),
    blk_mat (F := F) (off2_d1 c) (k0_off2_inb c 0) (head_inb (pr 1 c) 0),
    blk_mat (F := F) (off3_d1 c) (k0_off3_inb c 0) (head_inb (pr 1 c) 1),
    blk_mat (F := F) (off4_d1 c) (k0_off4_inb c 0) (head_inb (pr 1 c) 2),
    blk_mat (F := F) (off5_d1 c) (k0_off5_inb c 0) (head_inb (pr 1 c) 3),
    blk_mat (F := F) (off6_d1 c) (k0_off6_inb c 0) (head_inb (pr 1 c) 4),
    blk_mat (F := F) (off7_d1 c) (k0_off7_inb c 0) (head_inb (pr 1 c) 5),
    blk_mat (F := F) (off8_d1 c) (k0_off8_inb c 0) (head_inb (pr 1 c) 6),
    blk_mat (F := F) (off9_d1 c) (k0_off9_inb c 0) (head_inb (pr 1 c) 7)]
  rfl

theorem chunk2_eq : chunk2 a c = sentF a (pr 2 c) := by
  unfold chunk2
  simp only [
    blk_mat (F := F) (off1_d2 c) (k0_off1_inb c 1) (rows_inb (pr 2 c)),
    blk_mat (F := F) (off2_d2 c) (k0_off2_inb c 1) (head_inb (pr 2 c) 0),
    blk_mat (F := F) (off3_d2 c) (k0_off3_inb c 1) (head_inb (pr 2 c) 1),
    blk_mat (F := F) (off4_d2 c) (k0_off4_inb c 1) (head_inb (pr 2 c) 2),
    blk_mat (F := F) (off5_d2 c) (k0_off5_inb c 1) (head_inb (pr 2 c) 3),
    blk_mat (F := F) (off6_d2 c) (k0_off6_inb c 1) (head_inb (pr 2 c) 4),
    blk_mat (F := F) (off7_d2 c) (k0_off7_inb c 1) (head_inb (pr 2 c) 5),
    blk_mat (F := F) (off8_d2 c) (k0_off8_inb c 1) (head_inb (pr 2 c) 6),
    blk_mat (F := F) (off9_d2 c) (k0_off9_inb c 1) (head_inb (pr 2 c) 7)]
  rfl

theorem chunk3_eq : chunk3 a c = sentF a (pr 3 c) := by
  unfold chunk3
  simp only [
    blk_mat (F := F) (off1_d3 c) (k0_off1_inb c 2) (rows_inb (pr 3 c)),
    blk_mat (F := F) (off2_d3 c) (k0_off2_inb c 2) (head_inb (pr 3 c) 0),
    blk_mat (F := F) (off3_d3 c) (k0_off3_inb c 2) (head_inb (pr 3 c) 1),
    blk_mat (F := F) (off4_d3 c) (k0_off4_inb c 2) (head_inb (pr 3 c) 2),
    blk_mat (F := F) (off5_d3 c) (k0_off5_inb c 2) (head_inb (pr 3 c) 3),
    blk_mat (F := F) (off6_d3 c) (k0_off6_inb c 2) (head_inb (pr 3 c) 4),
    blk_mat (F := F) (off7_d3 c) (k0_off7_inb c 2) (head_inb (pr 3 c) 5),
    blk_mat (F := F) (off8_d3 c) (k0_off8_inb c 2) (head_inb (pr 3 c) 6),
    blk_mat (F := F) (off9_d3 c) (k0_off9_inb c 2) (head_inb (pr 3 c) 7)]
  rfl

theorem chunk0_eq : chunk0 a c = partF a c := by
  unfold chunk0
  simp only [
    blk_mat (F := F) (off11_d0 c) (k0_off11_inb c) (rows_inb c),
    blk_mat (F := F) (off12_d0 c) (k0_off12_inb c) (head_inb c 0),
    blk_mat (F := F) (off13_d0 c) (k0_off13_inb c) (head_inb c 1),
    blk_mat (F := F) (off14_d0 c) (k0_off14_inb c) (head_inb c 2),
    blk_mat (F := F) (off15_d0 c) (k0_off15_inb c) (head_inb c 3),
    blk_mat (F := F) (off16_d0 c) (k0_off16_inb c) (head_inb c 4),
    blk_mat (F := F) (off17_d0 c) (k0_off17_inb c) (head_inb c 5),
    blk_mat (F := F) (off18_d0 c) (k0_off18_inb c) (head_inb c 6),
    blk_mat (F := F) (off19_d0 c) (k0_off19_inb c) (head_inb c 7)]
  rfl

theorem chunk_eq (d : Fin 3) : chunk a c d = sentF a (pr ⟨d.val + 1, by omega⟩ c) := by
  match d with
  | 0 => exact chunk1_eq a c
  | 1 => exact chunk2_eq a c
  | 2 => exact chunk3_eq a c

end Cert.KernelIdeal.Att
-- ==== Proof.Reading.lean ====
/-
  The kernel's values over the extended reals, element by element: a rotated projection, one head's attention, a
  partial output, and the whole result as the sum of four devices' partial outputs.
-/
module

public import proofs.«01_k».proof.Proof.Formula
public import Idealize.ShloMosaic.Lib.MatmulPlain
public import Idealize.ShloMosaic.Lib.ValueIdx
public import Idealize.ShloMosaic.Lib.IdealHost
public import Idealize.ShloMosaic.Lib.KernelVsHost
public import Idealize.ShloMosaic.Lib.Pipeline.Value

@[expose] public section

set_option maxRecDepth 16384

noncomputable section

namespace Cert.KernelIdeal.Att

open Idealize.ShloMosaic Idealize.SL.Sem
open Cert.KernelIdeal Cert.KernelIdeal.Gen
open Idealize.ShloMosaic.ValueIdx

/-! ## The formulas -/

/-- The score scale. -/
def scl : EReal := Ideal.ofBits .f32 0x3DB504F3#32

/-- The column after, and the column before, around the row's end. -/
def nx (n : Fin 1024) : Fin 1024 := ⟨(n.val + 1) % 1024, Nat.mod_lt _ (by decide)⟩
def bk (n : Fin 1024) : Fin 1024 := ⟨(n.val + 1023) % 1024, Nat.mod_lt _ (by decide)⟩

/-- A row turned by three rows of coefficients. -/
def rot (f cs sa sb : Fin 1024 → EReal) (n : Fin 1024) : EReal := f n * cs n + f (nx n) * sa n + f (bk n) * sb n

/-- Exponentials of the scores against the values, over the exponentials' sum. -/
def attn (s v : Fin 512 → EReal) : EReal := (∑ t, Ideal.exp (s t) * v t) * Ideal.div 1 (∑ t, Ideal.exp (s t))

/-- Row `r` of chunk `j`; row `t` of chunk `j`'s batch; column `e` of head `h`. -/
def rowX (j : Fin 4) (r : Fin 256) : Fin 1024 := ⟨256 * j.val + r.val, by omega⟩
def rowK (j : Fin 4) (t : Fin 512) : Fin 1024 := ⟨512 * (j.val / 2) + t.val, by omega⟩
def colH (h : Fin 8) (e : Fin 128) : Fin 1024 := ⟨128 * h.val + e.val, by omega⟩
/-- The head of a column, and the column within it. -/
def hdOf (n : Fin 1024) : Fin 8 := ⟨n.val / 128, by omega⟩
def inHd (n : Fin 1024) : Fin 128 := ⟨n.val % 128, by omega⟩

theorem colH_hdOf (n : Fin 1024) : colH (hdOf n) (inHd n) = n := Fin.ext (Nat.div_add_mod n.val 128)

variable (a : Ins Ideal)

def kR (r n : Fin 1024) : EReal :=
  rot (fun n => ∑ m, a.x (ix2 r m) * a.wk (ix2 m n)) (fun n => a.cs (ix2 r n)) (fun n => a.sa (ix2 r n)) (fun n => a.sb (ix2 r n)) n
def vR (r n : Fin 1024) : EReal := ∑ m, a.x (ix2 r m) * a.wv (ix2 m n)
def qR (r n : Fin 1024) : EReal :=
  rot (fun n => ∑ m, a.x (ix2 r m) * scl * a.wq (ix2 m n)) (fun n => a.cs (ix2 r n)) (fun n => a.sa (ix2 r n))
    (fun n => a.sb (ix2 r n)) n
/-- The attention result of row `r` of chunk `j` at column `n`. -/
def ctxR (j : Fin 4) (r : Fin 256) (n : Fin 1024) : EReal :=
  attn (fun t => ∑ d, qR a (rowX j r) (colH (hdOf n) d) * kR a (rowK j t) (colH (hdOf n) d)) (fun t => vR a (rowK j t) n)
def partR (j : Fin 4) (r : Fin 256) (n : Fin 1024) : EReal := ∑ k, ctxR a j r k * a.wo (ix2 k n)

/-! ## Rotations and blocks -/

theorem rotN (x : FVec Ideal S1024x1024 .f32) (r : Fin 1024) (n : Fin 1024) :
    dynamicRotate 1 1023#32 none x rotates_S1024x1024_d1 (ix2 r n) = x (ix2 r (nx n)) := by
  refine dynamicRotate_apply 1 1023#32 x _ _ _ fun b => ?_
  match b with
  | 0 => rfl
  | 1 => show (n.val + 1) % 1024 = (n.val + 1024 - 1023) % 1024; omega
theorem rotB (x : FVec Ideal S1024x1024 .f32) (r : Fin 1024) (n : Fin 1024) :
    dynamicRotate 1 1#32 none x rotates_S1024x1024_d1 (ix2 r n) = x (ix2 r (bk n)) := by
  refine dynamicRotate_apply 1 1#32 x _ _ _ fun b => ?_
  match b with
  | 0 => rfl
  | 1 => show (n.val + 1023) % 1024 = (n.val + 1024 - 1) % 1024; omega
theorem rotN256 (x : FVec Ideal S256x1024 .f32) (r : Fin 256) (n : Fin 1024) :
    dynamicRotate 1 1023#32 none x rotates_S256x1024_d1 (ix2 r n) = x (ix2 r (nx n)) := by
  refine dynamicRotate_apply 1 1023#32 x _ _ _ fun b => ?_
  match b with
  | 0 => rfl
  | 1 => show (n.val + 1) % 1024 = (n.val + 1024 - 1023) % 1024; omega
theorem rotB256 (x : FVec Ideal S256x1024 .f32) (r : Fin 256) (n : Fin 1024) :
    dynamicRotate 1 1#32 none x rotates_S256x1024_d1 (ix2 r n) = x (ix2 r (bk n)) := by
  refine dynamicRotate_apply 1 1#32 x _ _ _ fun b => ?_
  match b with
  | 0 => rfl
  | 1 => show (n.val + 1023) % 1024 = (n.val + 1024 - 1) % 1024; omega

theorem blk_rows (x : S1024x1024.Idx → EReal) (j : Fin 4) (h) (r : Fin 256) (n : Fin 1024) :
    blk (F := Ideal) (e := .f32) x ![256 * j.val, 0] S256x1024.size h (ix2 r n) = x (ix2 (rowX j r) n) := by
  refine congrArg x (funext fun b => Fin.ext ?_)
  rw [Rect.emb_apply]
  match b with
  | 0 => show 256 * j.val + 1 * r.val = 256 * j.val + r.val; omega
  | 1 => show 0 + 1 * n.val = n.val; omega
theorem blk_head (x : S1024x1024.Idx → EReal) (j : Fin 4) (hd : Fin 8) (h) (t : Fin 512) (e : Fin 128) :
    blk (F := Ideal) (e := .bf16) x ![512 * (j.val / 2), 128 * hd.val] S512x128.size h (ix2 t e) = x (ix2 (rowK j t) (colH hd e)) := by
  refine congrArg x (funext fun b => Fin.ext ?_)
  rw [Rect.emb_apply]
  match b with
  | 0 => show 512 * (j.val / 2) + 1 * t.val = 512 * (j.val / 2) + t.val; omega
  | 1 => show 128 * hd.val + 1 * e.val = 128 * hd.val + e.val; omega

/-! ## Products -/

theorem mm1024 {φ₁ φ₂ : FTy} (x : FVec Ideal S1024x1024 φ₁) (w : FVec Ideal S1024x1024 φ₂) (r n : Fin 1024) :
    matmul dot_S1024x1024_S1024x1024_S1024x1024_1_0_0_1_n_n none x w (constant S1024x1024 .f32 0x00000000#32) (ix2 r n)
      = ∑ k, x (ix2 r k) * w (ix2 k n) := by
  refine (Ideal.matmul_plain_apply (M := 1024) (K := 1024) (N := 1024) none x w _ r n).trans ?_
  rw [constant_apply, Ideal.ofBits_zero_f32, zero_add]
theorem mm256 {φ₁ φ₂ : FTy} (x : FVec Ideal S256x1024 φ₁) (w : FVec Ideal S1024x1024 φ₂) (r : Fin 256) (n : Fin 1024) :
    matmul dot_S256x1024_S1024x1024_S256x1024_1_0_0_1_n_n none x w (constant S256x1024 .f32 0x00000000#32) (ix2 r n)
      = ∑ k, x (ix2 r k) * w (ix2 k n) := by
  refine (Ideal.matmul_plain_apply (M := 256) (K := 1024) (N := 1024) none x w _ r n).trans ?_
  rw [constant_apply, Ideal.ofBits_zero_f32, zero_add]
theorem mmS {φ₁ φ₂ : FTy} (x : FVec Ideal S256x128 φ₁) (w : FVec Ideal S512x128 φ₂) (r : Fin 256) (t : Fin 512) :
    matmul dot_S256x128_S512x128_S256x512_1_1_0_0_n_n none x w (constant S256x512 .f32 0x00000000#32) (ix2 r t)
      = ∑ k, x (ix2 r k) * w (ix2 t k) := by
  refine (Ideal.matmul_transposedRhs_apply (M := 256) (K := 128) (N := 512) none x w _ r t).trans ?_
  rw [constant_apply, Ideal.ofBits_zero_f32, zero_add]
theorem mmO {φ₁ φ₂ : FTy} (x : FVec Ideal S256x512 φ₁) (w : FVec Ideal S512x128 φ₂) (r : Fin 256) (e : Fin 128) :
    matmul dot_S256x512_S512x128_S256x128_1_0_0_1_n_n none x w (constant S256x128 .f32 0x00000000#32) (ix2 r e)
      = ∑ k, x (ix2 r k) * w (ix2 k e) := by
  refine (Ideal.matmul_plain_apply (M := 256) (K := 512) (N := 128) none x w _ r e).trans ?_
  rw [constant_apply, Ideal.ofBits_zero_f32, zero_add]

/-! ## One head -/

theorem lsum_apply (e : FVec Ideal S256x512 .f32) (r : Fin 256) :
    shapeCast S256x1 (multiReduction .add [1] S256 e 0x00000000#32 reduces_S256x512_S256 (.inl rfl) rfl) shapeCasts_S256_S256x1 (ix2 r (0 : Fin 1))
      = ∑ t, e (ix2 r t) := by
  rw [shapeCast_apply _ _ _ (ix1 r) (by
    rw [Shape.rowMajor_val_one, Shape.rowMajor_val_two]; show r.val = r.val * 1 + 0; omega)]
  refine (Ideal.multiReduction_add_single (φ := .f32) (a := (1 : Fin S256x512.rank)) e _ _ _ _ (ix1 r)).trans ?_
  refine Finset.sum_congr rfl fun t _ => congrArg e ?_
  funext b
  match b with
  | 0 => rfl
  | 1 => rfl

theorem headF_apply (q : FVec Ideal S256x128 .bf16) (k v : Vec Ideal S512x128 .bf16) (r : Fin 256) (e : Fin 128) :
    headF q k v (ix2 r e) = attn (fun t => ∑ d, q (ix2 r d) * k (ix2 t d)) (fun t => v (ix2 t e)) := by
  unfold headF attn
  simp only []
  rw [truncf_apply, mulf_apply, mmO, broadcastTo_apply _ _ _ (ix2 r (0 : Fin 1)) (by
    intro b
    match b with
    | 0 => rfl
    | 1 => rfl), divf_apply, lsum_apply]
  congr 1
  · refine Finset.sum_congr rfl fun t _ => ?_
    rw [truncf_apply]
    exact congrArg (fun z => Ideal.exp z * _) (mmS q k r t)
  · show Ideal.div (Ideal.ofBits .f32 0x3F800000#32) _ = _
    rw [Ideal.ofBits_one_f32]
    exact congrArg _ (Finset.sum_congr rfl fun t _ => congrArg Ideal.exp (mmS q k r t))

/-! ## Queries, keys, values -/

theorem kB_apply (r n : Fin 1024) : kB a (ix2 r n) = kR a r n := by
  unfold kB k0_pay8 k0_pay5 k0_pay6 k0_pay7 k0_pay4 k0_pay1
  simp only [shapeCast_self]
  have hk (n : Fin 1024) := mm1024 (truncf .bf16 a.x bitsLt_bf16_f32) (truncf .bf16 a.wk bitsLt_bf16_f32) r n
  exact congrArg₂ (· + ·) (congrArg₂ (· + ·) (congrArg (· * a.cs (ix2 r n)) (hk n))
    (congrArg (· * a.sa (ix2 r n)) ((rotN _ r n).trans (hk (nx n))))) (congrArg (· * a.sb (ix2 r n)) ((rotB _ r n).trans (hk (bk n))))

theorem vB_apply (r n : Fin 1024) : vB a (ix2 r n) = vR a r n := by
  unfold vB k0_pay9 k0_pay1 vR
  simp only [shapeCast_self, truncf_apply, mm1024]

theorem qF_apply (j : Fin 4) (r : Fin 256) (n : Fin 1024) : qF a j (ix2 r n) = qR a (rowX j r) n := by
  unfold qF k0_pay10 k0_pay2
  simp only [shapeCast_self]
  have hq (n : Fin 1024) : matmul dot_S256x1024_S1024x1024_S256x1024_1_0_0_1_n_n none
      (truncf .bf16 (mulf (blk a.x ![256 * j.val, 0] S256x1024.size (rows_inb j))
        (broadcast S256x1024 (Scalar.ofBits (F := Ideal) .f32 0x3DB504F3#32))) bitsLt_bf16_f32)
      (truncf .bf16 a.wq bitsLt_bf16_f32) (constant S256x1024 .f32 0x00000000#32) (ix2 r n)
      = ∑ m, a.x (ix2 (rowX j r) m) * scl * a.wq (ix2 m n) :=
    (mm256 _ _ r n).trans (Finset.sum_congr rfl fun m _ => congrArg (· * scl * _) (blk_rows a.x j _ r m))
  exact congrArg₂ (· + ·) (congrArg₂ (· + ·) (congrArg₂ (· * ·) (hq n) (blk_rows a.cs j _ r n))
    (congrArg₂ (· * ·) ((rotN256 _ r n).trans (hq (nx n))) (blk_rows a.sa j _ r n)))
    (congrArg₂ (· * ·) ((rotB256 _ r n).trans (hq (bk n))) (blk_rows a.sb j _ r n))

theorem pieceF_apply (q : FVec Ideal S256x1024 .bf16) (K V : Vec Ideal S1024x1024 .bf16) (j : Fin 4) (h : Fin 8) (r : Fin 256) (e : Fin 128) :
    pieceF q K V j h (ix2 r e)
      = attn (fun t => ∑ d, q (ix2 r (colH h d)) * K (ix2 (rowK j t) (colH h d))) (fun t => V (ix2 (rowK j t) (colH h e))) := by
  unfold pieceF
  rw [headF_apply]
  congr 1
  · funext t
    refine Finset.sum_congr rfl fun d _ => ?_
    rw [blk_head, extractStridedSlice_apply _ _ _ _ (ix2 r (colH h d)) (by
      intro b
      match b with
      | 0 => show r.val = 0 + r.val; omega
      | 1 => rfl)]
  · funext t
    rw [blk_head]

theorem ctxF_apply (j : Fin 4) (r : Fin 256) (n : Fin 1024) : ctxF a j (ix2 r n) = ctxR a j r n := by
  unfold ctxF
  rw [concatenate_ofFn_apply (t := S256x1024) (s₁ := S256x128) 1 (fun h => pieceF (qF a j) (kB a) (vB a) j h) _ rfl 128 rfl (ix2 r n) (hdOf n) rfl (ix2 r (inHd n)) rfl (by
    intro b hb
    match b with
    | 0 => rfl
    | 1 => exact absurd rfl hb), pieceF_apply]
  unfold ctxR
  simp only [qF_apply, kB_apply, vB_apply, colH_hdOf]

theorem partF_apply (j : Fin 4) (r : Fin 256) (n : Fin 1024) : partF a j (ix2 r n) = partR a j r n := by
  unfold partF partR
  rw [mm256]
  refine Finset.sum_congr rfl fun k _ => ?_
  rw [ctxF_apply]
  unfold k0_pay3
  simp only [shapeCast_self, truncf_apply]

theorem sentF_apply (j : Fin 4) (r : Fin 256) (n : Fin 1024) : sentF a j (ix2 r n) = partR a j r n := by
  unfold sentF
  rw [shapeCast_self, truncf_apply, partF_apply]

end Cert.KernelIdeal.Att
-- ==== Proof.Softmax.lean ====
/-
  Attention with real scores and any values: dividing the weighted sum by the exponentials' sum is weighting by the
  softmax taken from the largest score. Facts of the extended reals alone.
-/
module

public import proofs.«01_k».proof.Proof.Reading

@[expose] public section

noncomputable section

namespace Cert.KernelIdeal.Att

open Idealize.ShloMosaic

theorem coe_sum {ι : Type} (S : Finset ι) (f : ι → ℝ) : ∑ t ∈ S, ((f t : ℝ) : EReal) = ((∑ t ∈ S, f t : ℝ) : EReal) := by
  classical
  induction S using Finset.induction_on with
  | empty => simp
  | insert x S hx ih => rw [Finset.sum_insert hx, Finset.sum_insert hx, ih, EReal.coe_add]

/-- A real factor that is not negative goes into a sum of extended reals. -/
theorem sum_mul_coe {ι : Type} (S : Finset ι) (f : ι → EReal) (z : ℝ) (hz : 0 ≤ z) :
    (∑ t ∈ S, f t) * (z : EReal) = ∑ t ∈ S, f t * (z : EReal) := by
  classical
  induction S using Finset.induction_on with
  | empty => simp
  | insert x S hx ih =>
    rw [Finset.sum_insert hx, Finset.sum_insert hx,
      EReal.right_distrib_of_nonneg_of_ne_top (EReal.coe_nonneg.mpr hz) (EReal.coe_ne_top z), ih]

/-- The largest of real scores is real. -/
theorem fold_max_real {ι : Type} (S : Finset ι) (hS : S.Nonempty) (f : ι → ℝ) :
    ∃ m : ℝ, S.fold max (⊥ : EReal) (fun t => ((f t : ℝ) : EReal)) = (m : EReal) := by
  classical
  have h : ∀ S : Finset ι, (S.fold max (⊥ : EReal) (fun t => ((f t : ℝ) : EReal)) = ⊥ ∧ S = ∅)
      ∨ ∃ m : ℝ, S.fold max (⊥ : EReal) (fun t => ((f t : ℝ) : EReal)) = (m : EReal) := by
    intro S
    induction S using Finset.induction_on with
    | empty => exact .inl ⟨Finset.fold_empty, rfl⟩
    | insert x S hx ih =>
      right
      rw [Finset.fold_insert hx]
      rcases ih with ⟨e, -⟩ | ⟨m, e⟩
      · exact ⟨f x, by rw [e]; exact max_bot_right _⟩
      · exact ⟨max (f x) m, by rw [e]; exact (EReal.coe_strictMono.monotone.map_max).symm⟩
  rcases h S with ⟨-, e⟩ | h
  · exact absurd e hS.ne_empty
  · exact h

theorem div_coe (x y : ℝ) (hy : y ≠ 0) : Ideal.div (x : EReal) (y : EReal) = ((x / y : ℝ) : EReal) := by
  unfold Ideal.div
  rw [if_neg (fun h => hy (EReal.coe_eq_zero.mp h)), ← EReal.coe_inv, ← EReal.coe_mul, div_eq_mul_inv]

/-- Attention, as the reference takes it. -/
def soft (s v : Fin 512 → EReal) : EReal :=
  ∑ t, v t * Ideal.div (Ideal.exp (s t - Finset.univ.fold max ⊥ s)) (0 + ∑ u, Ideal.exp (s u - Finset.univ.fold max ⊥ s))

theorem weights_eq {ι : Type} [Fintype ι] [Nonempty ι] (s : ι → ℝ) (v : ι → EReal) :
    (∑ t, Ideal.exp ((s t : ℝ) : EReal) * v t) * Ideal.div 1 (∑ t, Ideal.exp ((s t : ℝ) : EReal))
      = ∑ t, v t * Ideal.div (Ideal.exp (((s t : ℝ) : EReal) - Finset.univ.fold max ⊥ fun t => ((s t : ℝ) : EReal)))
          (0 + ∑ u, Ideal.exp (((s u : ℝ) : EReal) - Finset.univ.fold max ⊥ fun t => ((s t : ℝ) : EReal))) := by
  obtain ⟨m, hm⟩ := fold_max_real Finset.univ Finset.univ_nonempty s
  rw [hm]
  have hL : 0 < ∑ t, Real.exp (s t) := Finset.sum_pos (fun t _ => Real.exp_pos _) Finset.univ_nonempty
  have hM : 0 < ∑ t, Real.exp (s t - m) := Finset.sum_pos (fun t _ => Real.exp_pos _) Finset.univ_nonempty
  have e1 : ∑ t, Ideal.exp ((s t : ℝ) : EReal) = ((∑ t, Real.exp (s t) : ℝ) : EReal) := coe_sum Finset.univ fun t => Real.exp (s t)
  have e2 : ∑ t, Ideal.exp (((s t : ℝ) : EReal) - (m : EReal)) = ((∑ t, Real.exp (s t - m) : ℝ) : EReal) := by
    rw [← coe_sum]
    exact Finset.sum_congr rfl fun t _ => by rw [← EReal.coe_sub, Ideal.exp_coe]
  have e3 : ∑ t, Real.exp (s t - m) = (∑ t, Real.exp (s t)) * Real.exp (-m) := by
    rw [Finset.sum_mul]
    exact Finset.sum_congr rfl fun t _ => by rw [← Real.exp_add, sub_eq_add_neg]
  have e4 : Ideal.div 1 ((∑ t, Real.exp (s t) : ℝ) : EReal) = ((1 / ∑ t, Real.exp (s t) : ℝ) : EReal) := div_coe 1 _ hL.ne'
  rw [e1, e2, e4, sum_mul_coe _ _ _ (by positivity), zero_add]
  refine Finset.sum_congr rfl fun t _ => ?_
  rw [← EReal.coe_sub, Ideal.exp_coe, Ideal.exp_coe, div_coe _ _ hM.ne', mul_comm (_ : EReal) (v t), mul_assoc, ← EReal.coe_mul, e3]
  congr 2
  rw [sub_eq_add_neg, Real.exp_add, mul_div_mul_right _ _ (Real.exp_pos _).ne']
  ring

theorem attn_eq_soft (s : Fin 512 → ℝ) (v : Fin 512 → EReal) :
    attn (fun t => ((s t : ℝ) : EReal)) v = soft (fun t => ((s t : ℝ) : EReal)) v := weights_eq s v

end Cert.KernelIdeal.Att
-- ==== Proof.RefRead.lean ====
/-
  The reference's result over the extended reals, element by element: rotated projections, scaled scores, the softmax
  from the largest score, the weighted values, and the output projection over all the heads' columns.
-/
module

public import proofs.«01_k».proof.Proof.Gen.ReferenceIdeal.Read
public import proofs.«01_k».proof.Proof.Softmax

@[expose] public section

set_option maxRecDepth 16384

noncomputable section

namespace Cert.ReferenceIdeal.Att

open Cert.ReferenceIdeal Cert.ReferenceIdeal.Gen Cert.ReferenceIdeal.Read
open Idealize.ShloMosaic Idealize.ShloMosaic.ValueIdx
open Cert.KernelIdeal.Att (soft scl)

/-! ## The formulas -/

variable (X : S2x512x1024.Idx → EReal) (W Wk Wv : S1024x4096.Idx → EReal) (Wo : S4096x1024.Idx → EReal)

/-- A projection of one input row. -/
def proj (b : Fin 2) (i : Fin 512) (k : Fin 4096) : EReal := ∑ m, X (ix3 b i m) * W (ix2 m k)
/-- Column `e` of head `h`. -/
def gcol (h : Fin 32) (e : Fin 128) : Fin 4096 := ⟨128 * h.val + e.val, by omega⟩
/-- The angle of position `i` at column `e` of a head. -/
def ang (i : Fin 512) (e : Fin 128) : EReal := val_main_v18 (F := Ideal) (ix2 i (⟨e.val / 2, by omega⟩ : Fin 64))
/-- A column's partner in its pair: the one after an even column, the one before an odd column. -/
def mate (e : Fin 128) : Fin 128 := ⟨if e.val % 2 = 0 then e.val + 1 else e.val - 1, by split <;> omega⟩
/-- What a column takes of its partner: the negative at an even column. -/
def turn (b : Fin 2) (i : Fin 512) (h : Fin 32) (e : Fin 128) : EReal :=
  if e.val % 2 = 0 then -proj X W b i (gcol h (mate e)) else proj X W b i (gcol h (mate e))
/-- A rotated projection. -/
def rope (b : Fin 2) (i : Fin 512) (h : Fin 32) (e : Fin 128) : EReal :=
  proj X W b i (gcol h e) * Ideal.cos (ang i e) + turn X W b i h e * Ideal.sin (ang i e)
/-- A scaled score. -/
def score (b : Fin 2) (h : Fin 32) (i j : Fin 512) : EReal := (∑ d, rope X W b i h d * rope X Wk b j h d) * scl
/-- A row's attention at a column of the heads side by side. -/
def ctx (b : Fin 2) (i : Fin 512) (k : Fin 4096) : EReal :=
  soft (fun j => score X W Wk b ⟨k.val / 128, by omega⟩ i j) (fun j => proj X Wv b j k)

/-! ## The tables -/

theorem v21_apply (i : Fin 512) (e : Fin 128) : val_main_v21 (F := Ideal) (ix2 i e) = Ideal.cos (ang i e) := by
  rw [val_main_v21_apply, val_main_v20_apply, val_main_v19_apply]
  refine congrArg (fun z => Ideal.cos (val_main_v18 (F := Ideal) z)) (funext fun a => Fin.ext ?_)
  match a with
  | 0 => show (i.val * 128 + e.val) / 128 = i.val; omega
  | 1 => show (i.val * 128 + e.val) / 2 % 64 = e.val / 2; omega
theorem v24_apply (i : Fin 512) (e : Fin 128) : val_main_v24 (F := Ideal) (ix2 i e) = Ideal.sin (ang i e) := by
  rw [val_main_v24_apply, val_main_v23_apply, val_main_v22_apply]
  refine congrArg (fun z => Ideal.sin (val_main_v18 (F := Ideal) z)) (funext fun a => Fin.ext ?_)
  match a with
  | 0 => show (i.val * 128 + e.val) / 128 = i.val; omega
  | 1 => show (i.val * 128 + e.val) / 2 % 64 = e.val / 2; omega
theorem v38_apply (b : Fin 2) (i : Fin 512) (h : Fin 32) (e : Fin 128) :
    val_main_v38 (F := Ideal) (ix4 b i h e) = Ideal.cos (ang i e) := by
  rw [val_main_v38_apply, val_main_v37_apply, ← v21_apply]
  refine congrArg _ (funext fun a => Fin.ext ?_)
  match a with
  | 0 => rfl
  | 1 => rfl
theorem v41_apply (b : Fin 2) (i : Fin 512) (h : Fin 32) (e : Fin 128) :
    val_main_v41 (F := Ideal) (ix4 b i h e) = Ideal.sin (ang i e) := by
  rw [val_main_v41_apply, val_main_v40_apply, ← v24_apply]
  refine congrArg _ (funext fun a => Fin.ext ?_)
  match a with
  | 0 => rfl
  | 1 => rfl

/-! ## A rotated projection -/

theorem v25_apply (b : Fin 2) (i : Fin 512) (k : Fin 4096) : val_main_v25 (F := Ideal) X W (ix3 b i k) = proj X W b i k := by
  rw [val_main_v25_apply]
  refine Finset.sum_congr rfl fun m _ => congrArg₂ (fun u v => X u * W v) (funext fun a => ?_) (funext fun a => ?_)
  · match a with
    | 0 => rfl
    | 1 => rfl
    | 2 => rfl
  · match a with
    | 0 => rfl
    | 1 => rfl

theorem v26_apply (b : Fin 2) (i : Fin 512) (h : Fin 32) (e : Fin 128) :
    val_main_v26 (F := Ideal) X W (ix4 b i h e) = proj X W b i (gcol h e) := by
  rw [val_main_v26_apply, ← v25_apply]
  refine congrArg _ (funext fun a => Fin.ext ?_)
  match a with
  | 0 => show (((b.val * 512 + i.val) * 32 + h.val) * 128 + e.val) / 2097152 = b.val; omega
  | 1 => show (((b.val * 512 + i.val) * 32 + h.val) * 128 + e.val) / 4096 % 512 = i.val; omega
  | 2 => show (((b.val * 512 + i.val) * 32 + h.val) * 128 + e.val) % 4096 = 128 * h.val + e.val; omega

theorem v27_apply (b : Fin 2) (i : Fin 512) (h : Fin 32) (p : Fin 64) (t : Fin 2) :
    val_main_v27 (F := Ideal) X W (ix5 b i h p t) = proj X W b i (gcol h ⟨2 * p.val + t.val, by omega⟩) := by
  rw [← v26_apply]
  unfold val_main_v27
  exact shapeCast_apply _ _ _ _ (by
    rw [Shape.rowMajor_val_four, Shape.rowMajor_val_five]
    show ((b.val * 512 + i.val) * 32 + h.val) * 128 + (2 * p.val + t.val) = (((b.val * 512 + i.val) * 32 + h.val) * 64 + p.val) * 2 + t.val
    omega)

theorem v33_apply (b : Fin 2) (i : Fin 512) (h : Fin 32) (p : Fin 64) :
    val_main_v33 (F := Ideal) X W (ix5 b i h p (0 : Fin 1)) = -proj X W b i (gcol h ⟨2 * p.val + 1, by omega⟩) := by
  rw [val_main_v33_apply, val_main_v30_apply, val_main_v29_apply, val_main_v28_apply]
  refine congrArg (fun z : EReal => -z) (Eq.trans (congrArg _ (funext fun a => Fin.ext ?_)) (v27_apply X W b i h p 1))
  match a with
  | 0 => show (((b.val * 512 + i.val) * 32 + h.val) * 64 + p.val) / 1048576 = b.val; omega
  | 1 => show (((b.val * 512 + i.val) * 32 + h.val) * 64 + p.val) / 2048 % 512 = i.val; omega
  | 2 => show (((b.val * 512 + i.val) * 32 + h.val) * 64 + p.val) / 64 % 32 = h.val; omega
  | 3 => show (((b.val * 512 + i.val) * 32 + h.val) * 64 + p.val) / 1 % 64 = p.val; omega
  | 4 => rfl

theorem v34_apply (b : Fin 2) (i : Fin 512) (h : Fin 32) (p : Fin 64) :
    val_main_v34 (F := Ideal) X W (ix5 b i h p (0 : Fin 1)) = proj X W b i (gcol h ⟨2 * p.val, by omega⟩) := by
  rw [val_main_v34_apply, val_main_v32_apply, val_main_v31_apply]
  refine Eq.trans (congrArg _ (funext fun a => Fin.ext ?_)) (v27_apply X W b i h p 0)
  match a with
  | 0 => show (((b.val * 512 + i.val) * 32 + h.val) * 64 + p.val) / 1048576 = b.val; omega
  | 1 => show (((b.val * 512 + i.val) * 32 + h.val) * 64 + p.val) / 2048 % 512 = i.val; omega
  | 2 => show (((b.val * 512 + i.val) * 32 + h.val) * 64 + p.val) / 64 % 32 = h.val; omega
  | 3 => show (((b.val * 512 + i.val) * 32 + h.val) * 64 + p.val) / 1 % 64 = p.val; omega
  | 4 => rfl

theorem v35_left (b : Fin 2) (i : Fin 512) (h : Fin 32) (p : Fin 64) :
    val_main_v35 (F := Ideal) X W (ix5 b i h p (0 : Fin 2)) = val_main_v33 (F := Ideal) X W (ix5 b i h p (0 : Fin 1)) := by
  unfold val_main_v35
  exact concatenate_pair_apply_left (t := S2x512x32x64x2) (s₁ := S2x512x32x64x1) (s₂ := S2x512x32x64x1) 4 _ _ _ _ rfl _ (by
    intro a
    match a with
    | 0 => rfl
    | 1 => rfl
    | 2 => rfl
    | 3 => rfl
    | 4 => rfl)
theorem v35_right (b : Fin 2) (i : Fin 512) (h : Fin 32) (p : Fin 64) :
    val_main_v35 (F := Ideal) X W (ix5 b i h p (1 : Fin 2)) = val_main_v34 (F := Ideal) X W (ix5 b i h p (0 : Fin 1)) := by
  unfold val_main_v35
  exact concatenate_pair_apply_right (t := S2x512x32x64x2) (s₁ := S2x512x32x64x1) (s₂ := S2x512x32x64x1) 4 _ _ _ _ rfl rfl _ (by
    intro a ha
    match a with
    | 0 => rfl
    | 1 => rfl
    | 2 => rfl
    | 3 => rfl
    | 4 => exact absurd rfl ha) rfl

theorem v36_apply (b : Fin 2) (i : Fin 512) (h : Fin 32) (e : Fin 128) :
    val_main_v36 (F := Ideal) X W (ix4 b i h e) = turn X W b i h e := by
  have hc : val_main_v36 (F := Ideal) X W (ix4 b i h e)
      = val_main_v35 (F := Ideal) X W (ix5 b i h (⟨e.val / 2, by omega⟩ : Fin 64) (⟨e.val % 2, by omega⟩ : Fin 2)) := by
    unfold val_main_v36
    exact shapeCast_apply _ _ _ _ (by
      rw [Shape.rowMajor_val_four, Shape.rowMajor_val_five]
      show (((b.val * 512 + i.val) * 32 + h.val) * 64 + e.val / 2) * 2 + e.val % 2 = ((b.val * 512 + i.val) * 32 + h.val) * 128 + e.val
      omega)
  rw [hc]
  unfold turn
  by_cases he : e.val % 2 = 0
  · have h2 : (⟨e.val % 2, by omega⟩ : Fin 2) = 0 := Fin.ext he
    have hm : (⟨2 * (e.val / 2) + 1, by omega⟩ : Fin 128) = mate e := Fin.ext (by
      show 2 * (e.val / 2) + 1 = if e.val % 2 = 0 then e.val + 1 else e.val - 1
      rw [if_pos he]; omega)
    rw [h2, v35_left, v33_apply, if_pos he, hm]
  · have h2 : (⟨e.val % 2, by omega⟩ : Fin 2) = 1 := Fin.ext (show e.val % 2 = 1 by omega)
    have hm : (⟨2 * (e.val / 2), by omega⟩ : Fin 128) = mate e := Fin.ext (by
      show 2 * (e.val / 2) = if e.val % 2 = 0 then e.val + 1 else e.val - 1
      rw [if_neg he]; omega)
    rw [h2, v35_right, v34_apply, if_neg he, hm]

theorem v43_apply (b : Fin 2) (i : Fin 512) (h : Fin 32) (e : Fin 128) :
    val_main_v43 (F := Ideal) X W (ix4 b i h e) = rope X W b i h e := by
  rw [val_main_v43_apply, val_main_v39_apply, val_main_v42_apply, v26_apply, v36_apply, v38_apply, v41_apply]
  rfl
theorem v62_apply (b : Fin 2) (i : Fin 512) (h : Fin 32) (e : Fin 128) :
    val_main_v62 (F := Ideal) X W (ix4 b i h e) = rope X W b i h e := v43_apply X W b i h e
theorem v64_apply (b : Fin 2) (i : Fin 512) (h : Fin 32) (e : Fin 128) :
    val_main_v64 (F := Ideal) X W (ix4 b i h e) = proj X W b i (gcol h e) := v26_apply X W b i h e

/-! ## Scores and softmax -/

theorem v67_apply (b : Fin 2) (h : Fin 32) (i j : Fin 512) :
    val_main_v67 (F := Ideal) X W Wk (ix4 b h i j) = score X W Wk b h i j := by
  rw [val_main_v67_apply, val_main_v65_apply, val_main_v66_apply, val_main_cst_3_apply]
  refine congrArg (· * scl) (Finset.sum_congr rfl fun d _ => ?_)
  rw [← v43_apply, ← v62_apply]
  refine congrArg₂ (fun u v => val_main_v43 (F := Ideal) X W u * val_main_v62 (F := Ideal) X Wk v) (funext fun a => ?_) (funext fun a => ?_)
  · match a with
    | 0 => rfl
    | 1 => rfl
    | 2 => rfl
    | 3 => rfl
  · match a with
    | 0 => rfl
    | 1 => rfl
    | 2 => rfl
    | 3 => rfl

theorem reduces_scores : S2x32x512x512.Reduces [3] S2x32x512 := by decide

theorem v68_apply (b : Fin 2) (h : Fin 32) (i : Fin 512) :
    val_main_v68 (F := Ideal) X W Wk (ix3 b h i) = Finset.univ.fold max ⊥ (fun j => score X W Wk b h i j) := by
  unfold val_main_v68
  refine (Host.reduce_eq_fold_single (s := S2x32x512x512) (a := 3) (t := S2x32x512) (max : EReal → EReal → EReal) _ _ _ reduces_scores h_S_ (ix3 b h i)).trans ?_
  have hb : val_main_cst_4 (F := Ideal) (Shape.Idx.first h_S_) = (⊥ : EReal) := by
    rw [val_main_cst_4_apply]
    simp [Ideal.ofBits, Ideal.ieee, FloatOps.ofBits]
  rw [hb]
  refine congrArg (fun f => Finset.univ.fold max ⊥ f) (funext fun (j : Fin 512) => ?_)
  have hl : reduces_scores.lift (ix3 b h i) j = ix4 b h i j := by
    funext a
    match a with
    | 0 => rfl
    | 1 => rfl
    | 2 => rfl
    | 3 => rfl
  exact (congrArg (val_main_v67 (F := Ideal) X W Wk) hl).trans (v67_apply X W Wk b h i j)

theorem v72_apply (b : Fin 2) (h : Fin 32) (i j : Fin 512) :
    val_main_v72 (F := Ideal) X W Wk (ix4 b h i j)
      = Ideal.exp (score X W Wk b h i j - Finset.univ.fold max ⊥ (fun j => score X W Wk b h i j)) := by
  rw [val_main_v72_apply, val_main_v71_apply, v67_apply, val_main_v70_apply, val_main_v69_apply, ← v68_apply]
  refine congrArg (fun z => Ideal.exp (score X W Wk b h i j - val_main_v68 (F := Ideal) X W Wk z)) (funext fun a => ?_)
  match a with
  | 0 => rfl
  | 1 => rfl
  | 2 => rfl

theorem v76_apply (b : Fin 2) (h : Fin 32) (i j : Fin 512) :
    val_main_v76 (F := Ideal) X W Wk (ix4 b h i j)
      = Ideal.div (Ideal.exp (score X W Wk b h i j - Finset.univ.fold max ⊥ (fun j => score X W Wk b h i j)))
          (0 + ∑ u, Ideal.exp (score X W Wk b h i u - Finset.univ.fold max ⊥ (fun j => score X W Wk b h i j))) := by
  rw [val_main_v76_apply, v72_apply, val_main_v75_apply, val_main_v74_apply, val_main_v73_apply, val_main_cst_5_apply]
  refine congrArg (Ideal.div _) (congrArg₂ (· + ·) Ideal.ofBits_zero_f32 (Finset.sum_congr rfl fun u _ => ?_))
  rw [← v72_apply]
  refine congrArg _ (funext fun a => ?_)
  match a with
  | 0 => rfl
  | 1 => rfl
  | 2 => rfl
  | 3 => rfl

/-! ## The result -/

theorem v77_apply (b : Fin 2) (h : Fin 32) (e : Fin 128) (i : Fin 512) :
    val_main_v77 (F := Ideal) X W Wk Wv (ix4 b h e i)
      = soft (fun j => score X W Wk b h i j) (fun j => proj X Wv b j (gcol h e)) := by
  rw [val_main_v77_apply]
  unfold soft
  refine Finset.sum_congr rfl fun j _ => ?_
  refine congrArg₂ (· * ·) (Eq.trans (congrArg _ (funext fun a => ?_)) (v64_apply X Wv b j h e))
    (Eq.trans (congrArg _ (funext fun a => ?_)) (v76_apply X W Wk b h i j))
  · match a with
    | 0 => rfl
    | 1 => rfl
    | 2 => rfl
    | 3 => rfl
  · match a with
    | 0 => rfl
    | 1 => rfl
    | 2 => rfl
    | 3 => rfl

theorem v79_apply (b : Fin 2) (i : Fin 512) (k : Fin 4096) :
    val_main_v79 (F := Ideal) X W Wk Wv (ix3 b i k) = ctx X W Wk Wv b i k := by
  have hk : gcol (⟨k.val / 128, by omega⟩ : Fin 32) ⟨k.val % 128, by omega⟩ = k := Fin.ext (Nat.div_add_mod k.val 128)
  have h1 : val_main_v79 (F := Ideal) X W Wk Wv (ix3 b i k)
      = val_main_v78 (F := Ideal) X W Wk Wv (ix4 b i (⟨k.val / 128, by omega⟩ : Fin 32) (⟨k.val % 128, by omega⟩ : Fin 128)) := by
    unfold val_main_v79
    exact shapeCast_apply _ _ _ _ (by
      rw [Shape.rowMajor_val_four, Shape.rowMajor_val_three]
      show ((b.val * 512 + i.val) * 32 + k.val / 128) * 128 + k.val % 128 = (b.val * 512 + i.val) * 4096 + k.val
      omega)
  rw [h1, val_main_v78_apply]
  refine Eq.trans (congrArg _ (funext fun a => ?_)) ((v77_apply X W Wk Wv b ⟨k.val / 128, by omega⟩ ⟨k.val % 128, by omega⟩ i).trans ?_)
  · match a with
    | 0 => rfl
    | 1 => rfl
    | 2 => rfl
    | 3 => rfl
  · rw [hk]
    rfl

theorem v80_apply (b : Fin 2) (i : Fin 512) (n : Fin 1024) :
    val_main_v80 (F := Ideal) X W Wk Wv Wo (ix3 b i n) = ∑ k, ctx X W Wk Wv b i k * Wo (ix2 k n) := by
  rw [val_main_v80_apply]
  refine Finset.sum_congr rfl fun k _ => ?_
  rw [← v79_apply]
  refine congrArg₂ (fun u v => val_main_v79 (F := Ideal) X W Wk Wv u * Wo v) (funext fun a => ?_) (funext fun a => ?_)
  · match a with
    | 0 => rfl
    | 1 => rfl
    | 2 => rfl
  · match a with
    | 0 => rfl
    | 1 => rfl

end Cert.ReferenceIdeal.Att
-- ==== Proof.Parity.lean ====
/-
  Which columns of a device are even, as the kernel's host text works it out.
-/
module

public import proofs.«01_k».proof.Proof.RefRead
public import proofs.«01_k».proof.Proof.Run
public import Idealize.ShloMosaic.Lib.Claim

@[expose] public section

set_option maxRecDepth 16384

noncomputable section

namespace Cert.KernelIdeal.Att

open Idealize.ShloMosaic Idealize.SL.Sem
open Cert.KernelIdeal Cert.KernelIdeal.Gen
open Idealize.ShloMosaic.ValueIdx

variable (m : (l : Loc nD τ sig) → Buf (Elt Ideal) l) (c : Dev nD)

/-- The divisor two, guarded against zero. -/
def two : BitVec 32 := Scalar.select (IntOp.cmpi .eq 2#32 0#32) 1#32 2#32

/-- The remainder by two with the divisor's sign. -/
def rem2 (v : BitVec 32) : BitVec 32 :=
  Scalar.select
    (IntOp.andi (IntOp.cmpi .ne (IntOp.cmpi .slt (IntOp.remsi .host v two) 0#32) (IntOp.cmpi .slt two 0#32))
      (IntOp.cmpi .ne (IntOp.remsi .host v two) 0#32))
    (IntOp.addi (IntOp.remsi .host v two) two) (IntOp.remsi .host v two)

theorem two_eq : two = 2#32 := by decide +kernel

theorem rem2_even (n : Fin 1024) : IntOp.cmpi .eq (rem2 (BitVec.ofNat 32 n.val)) 0#32 = (if n.val % 2 = 0 then 1#1 else 0#1) := by
  revert n
  decide +kernel

set_option maxHeartbeats 1600000 in
theorem V_v36_word (i : S1024.Idx) : V m c main_v36 i = IntOp.cmpi .eq (rem2 (BitVec.ofNat 32 (i 0).val)) 0#32 := by
  unfold_abbrev_sides
  simp only [hostOps0, hostOps0_1, hostOps0_2, hostOps0_3, hostOps0_4, hostOps0_5, List.flatten_cons, List.flatten_nil, List.append_nil, List.cons_append, List.nil_append]
  after_results
  rfl

theorem V_v36 (n : Fin 1024) : V m c main_v36 (ix1 n) = (if n.val % 2 = 0 then 1#1 else 0#1 : BitVec 1) :=
  (V_v36_word m c (ix1 n)).trans (rem2_even n)

end Cert.KernelIdeal.Att
-- ==== Proof.Tables.lean ====
/-
  The arrays the kernel's host text makes.
-/
module

public import proofs.«01_k».proof.Proof.RefRead
public import proofs.«01_k».proof.Proof.Parity
public import Idealize.ShloMosaic.Lib.Claim

@[expose] public section

set_option maxRecDepth 16384

noncomputable section

namespace Cert.KernelIdeal.Att

open Idealize.ShloMosaic Idealize.SL.Sem
open Cert.KernelIdeal Cert.KernelIdeal.Gen
open Idealize.ShloMosaic.ValueIdx

variable (m : (l : Loc nD τ sig) → Buf (Elt Ideal) l) (c : Dev nD)

/-! ## The tables as the host text makes them -/

/-- One position's row of a head, for both batches and all the heads of a device. -/
def tile (t : S512x128.Idx → EReal) : S1024x1024.Idx → EReal :=
  shapeCast S1024x1024 (broadcastInDim S2x512x8x128 ![0, 1, 2, 3] bcast_S1x512x1x128_S2x512x8x128_0_1_2_3
    (shapeCast S1x512x1x128 t shapeCasts_S512x128_S1x512x1x128)) shapeCasts_S2x512x8x128_S1024x1024

theorem tile_apply (t : S512x128.Idx → EReal) (r n : Fin 1024) :
    tile t (ix2 r n) = t (ix2 (⟨r.val % 512, by omega⟩ : Fin 512) (inHd n)) := by
  unfold tile
  rw [shapeCast_apply _ _ _ (ix4 (⟨r.val / 512, by omega⟩ : Fin 2) (⟨r.val % 512, by omega⟩ : Fin 512) (hdOf n) (inHd n)) (by
    rw [Shape.rowMajor_val_four, Shape.rowMajor_val_two]
    show ((r.val / 512 * 512 + r.val % 512) * 8 + n.val / 128) * 128 + n.val % 128 = r.val * 1024 + n.val
    omega)]
  rw [broadcastInDim_apply _ _ _ _ (ix4 (0 : Fin 1) (⟨r.val % 512, by omega⟩ : Fin 512) (0 : Fin 1) (inHd n)) (by
    intro a
    match a with
    | 0 => rfl
    | 1 => rfl
    | 2 => rfl
    | 3 => rfl)]
  exact shapeCast_apply _ _ _ _ (by
    rw [Shape.rowMajor_val_four, Shape.rowMajor_val_two]
    show r.val % 512 * 128 + n.val % 128 = ((0 * 512 + r.val % 512) * 1 + 0) * 128 + n.val % 128
    omega)

/-- The even columns, over all rows. -/
def evens (e : S1024.Idx → BitVec 1) : S1024x1024.Idx → BitVec 1 :=
  broadcastInDim S1024x1024 ![0, 1] bcast_S1x1024_S1024x1024_0_1 (broadcastInDim S1x1024 ![1] bcast_S1024_S1x1024_1 e)

theorem evens_apply (e : S1024.Idx → BitVec 1) (r n : Fin 1024) : evens e (ix2 r n) = e (ix1 n) := by
  unfold evens
  rw [broadcastInDim_apply _ _ _ _ (ix2 (0 : Fin 1) n) (by
    intro a
    match a with
    | 0 => rfl
    | 1 => rfl)]
  exact broadcastInDim_apply _ _ _ _ _ (by
    intro a
    match a with
    | 0 => rfl)

def noSwap : S1024x1024.Idx → EReal := broadcastInDim S1024x1024 ![] bcast_S_S1024x1024 (constant (F := Ideal) S_ .f32 0x00000000#32)
theorem noSwap_apply (r n : Fin 1024) : noSwap (ix2 r n) = 0 := Ideal.ofBits_zero_f32

set_option maxHeartbeats 1600000 in
theorem V_v29 : V m c main_v29 = tile (Cert.ReferenceIdeal.Read.val_main_v21 (F := Ideal)) := by
  unfold_abbrev_sides
  simp only [hostOps0, hostOps0_1, hostOps0_2, hostOps0_3, hostOps0_4, hostOps0_5, List.flatten_cons, List.flatten_nil, List.append_nil, List.cons_append, List.nil_append]
  after_results
  rfl
set_option maxHeartbeats 1600000 in
theorem V_v39 : V m c main_v39 = select (evens (V m c main_v36)) (fun i => -tile (Cert.ReferenceIdeal.Read.val_main_v24 (F := Ideal)) i) noSwap := by
  unfold_abbrev_sides
  simp only [hostOps0, hostOps0_1, hostOps0_2, hostOps0_3, hostOps0_4, hostOps0_5, List.flatten_cons, List.flatten_nil, List.append_nil, List.cons_append, List.nil_append]
  after_results
  rfl
set_option maxHeartbeats 1600000 in
theorem V_v40 : V m c main_v40 = select (evens (V m c main_v36)) noSwap (tile (Cert.ReferenceIdeal.Read.val_main_v24 (F := Ideal))) := by
  unfold_abbrev_sides
  simp only [hostOps0, hostOps0_1, hostOps0_2, hostOps0_3, hostOps0_4, hostOps0_5, List.flatten_cons, List.flatten_nil, List.append_nil, List.cons_append, List.nil_append]
  after_results
  rfl
set_option maxHeartbeats 1600000 in
theorem V_v1 : V m c main_v1 = (shapeCast S1024x1024 (m (c.tc.loc main_arg0)) shapeCasts_S2x512x1024_S1024x1024 : S1024x1024.Idx → EReal) := by
  unfold_abbrev_sides
  simp only [hostOps0, hostOps0_1, hostOps0_2, hostOps0_3, hostOps0_4, hostOps0_5, List.flatten_cons, List.flatten_nil, List.append_nil, List.cons_append, List.nil_append]
  after_results
  rfl

end Cert.KernelIdeal.Att
-- ==== Proof.Arrays.lean ====
/-
  The blocks the kernel's body is given are whole arrays, and so is the block it hands back.
-/
module

public import proofs.«01_k».proof.Proof.RefRead
public import proofs.«01_k».proof.Proof.Run
public import Idealize.ShloMosaic.Lib.Pipeline.ValueKit.Point
public import Idealize.ShloMosaic.Lib.Pipeline.ValueKit

@[expose] public section

set_option maxRecDepth 16384

noncomputable section

namespace Cert.KernelIdeal.Att

open Idealize.ShloMosaic Idealize.SL.Sem
open Cert.KernelIdeal Cert.KernelIdeal.Gen
open Idealize.ShloMosaic.ValueIdx

variable (m : (l : Loc nD τ sig) → Buf (Elt Ideal) l) (c : Dev nD)

theorem x_eq : (opIns m c).x = V m c main_v1 := by
  funext i
  show V m c main_v1 (((cfg0.win 0).blk t0_0).view.emb i) = V m c main_v1 i
  refine congrArg (V m c main_v1) ?_
  funext a
  apply Fin.ext
  blk_simp
  have h : win0_0.index t0_0 a = 0 := by
    match a with
    | 0 => rfl
    | 1 => rfl
  rw [h]
  omega
theorem wq_eq : (opIns m c).wq = m (c.tc.loc main_arg1) := by
  rw [← V_main_arg1 m c]
  funext i
  show V m c main_arg1 (((cfg0.win 1).blk t0_0).view.emb i) = V m c main_arg1 i
  refine congrArg (V m c main_arg1) ?_
  funext a
  apply Fin.ext
  blk_simp
  have h : win0_1.index t0_0 a = 0 := by
    match a with
    | 0 => rfl
    | 1 => rfl
  rw [h]
  omega
theorem wk_eq : (opIns m c).wk = m (c.tc.loc main_arg2) := by
  rw [← V_main_arg2 m c]
  funext i
  show V m c main_arg2 (((cfg0.win 2).blk t0_0).view.emb i) = V m c main_arg2 i
  refine congrArg (V m c main_arg2) ?_
  funext a
  apply Fin.ext
  blk_simp
  have h : win0_2.index t0_0 a = 0 := by
    match a with
    | 0 => rfl
    | 1 => rfl
  rw [h]
  omega
theorem wv_eq : (opIns m c).wv = m (c.tc.loc main_arg3) := by
  rw [← V_main_arg3 m c]
  funext i
  show V m c main_arg3 (((cfg0.win 3).blk t0_0).view.emb i) = V m c main_arg3 i
  refine congrArg (V m c main_arg3) ?_
  funext a
  apply Fin.ext
  blk_simp
  have h : win0_3.index t0_0 a = 0 := by
    match a with
    | 0 => rfl
    | 1 => rfl
  rw [h]
  omega
theorem wo_eq : (opIns m c).wo = m (c.tc.loc main_arg4) := by
  rw [← V_main_arg4 m c]
  funext i
  show V m c main_arg4 (((cfg0.win 4).blk t0_0).view.emb i) = V m c main_arg4 i
  refine congrArg (V m c main_arg4) ?_
  funext a
  apply Fin.ext
  blk_simp
  have h : win0_4.index t0_0 a = 0 := by
    match a with
    | 0 => rfl
    | 1 => rfl
  rw [h]
  omega
theorem cs_eq : (opIns m c).cs = V m c main_v29 := by
  funext i
  show V m c main_v29 (((cfg0.win 5).blk t0_0).view.emb i) = V m c main_v29 i
  refine congrArg (V m c main_v29) ?_
  funext a
  apply Fin.ext
  blk_simp
  have h : win0_5.index t0_0 a = 0 := by
    match a with
    | 0 => rfl
    | 1 => rfl
  rw [h]
  omega
theorem sa_eq : (opIns m c).sa = V m c main_v39 := by
  funext i
  show V m c main_v39 (((cfg0.win 6).blk t0_0).view.emb i) = V m c main_v39 i
  refine congrArg (V m c main_v39) ?_
  funext a
  apply Fin.ext
  blk_simp
  have h : win0_6.index t0_0 a = 0 := by
    match a with
    | 0 => rfl
    | 1 => rfl
  rw [h]
  omega
theorem sb_eq : (opIns m c).sb = V m c main_v40 := by
  funext i
  show V m c main_v40 (((cfg0.win 7).blk t0_0).view.emb i) = V m c main_v40 i
  refine congrArg (V m c main_v40) ?_
  funext a
  apply Fin.ext
  blk_simp
  have h : win0_7.index t0_0 a = 0 := by
    match a with
    | 0 => rfl
    | 1 => rfl
  rw [h]
  omega
theorem out_eq : (dat m c).arrAt (8 : Fin 9) cfg0.N = outV (opIns m) c := by
  refine (dat m c).arrAt_eq_of_after_last 8 t0_0 (by decide +kernel) _ fun j => ?_
  rfl

end Cert.KernelIdeal.Att
-- ==== Proof.Reals.lean ====
/-
  Which of the reference's numbers are real: the angles, the score scale, and every projection of real arrays.
-/
module

public import proofs.«01_k».proof.Proof.RefRead

@[expose] public section

noncomputable section

namespace Cert.ReferenceIdeal.Att

open Idealize.ShloMosaic
open Cert.ReferenceIdeal Cert.ReferenceIdeal.Read
open Idealize.ShloMosaic.ValueIdx
open Cert.KernelIdeal.Att (soft scl coe_sum div_coe)

/-- A finite extended real. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩
theorem IsReal.neg {x : EReal} : IsReal x → IsReal (-x)
  | ⟨a, ha⟩ => ⟨-a, by rw [ha, EReal.coe_neg]⟩
theorem IsReal.sum {ι : Type} {S : Finset ι} {f : ι → EReal} (h : ∀ t, IsReal (f t)) : IsReal (∑ t ∈ S, f t) := by
  choose g hg using h
  exact ⟨∑ t ∈ S, g t, (Finset.sum_congr rfl fun t _ => hg t).trans (coe_sum S g)⟩
theorem IsReal.cos {x : EReal} : IsReal x → IsReal (Ideal.cos x)
  | ⟨a, ha⟩ => ⟨Real.cos a, by rw [ha]; rfl⟩
theorem IsReal.sin {x : EReal} : IsReal x → IsReal (Ideal.sin x)
  | ⟨a, ha⟩ => ⟨Real.sin a, by rw [ha]; rfl⟩

/-- A real factor goes into a sum of real numbers. -/
theorem sum_mul_real {ι : Type} {S : Finset ι} {f : ι → EReal} {z : EReal} (h : ∀ t, IsReal (f t)) (hz : IsReal z) :
    ∑ t ∈ S, f t * z = (∑ t ∈ S, f t) * z := by
  choose g hg using h
  obtain ⟨w, rfl⟩ := hz
  have h1 : ∑ t ∈ S, f t * (w : EReal) = ∑ t ∈ S, ((g t * w : ℝ) : EReal) :=
    Finset.sum_congr rfl fun t _ => by rw [hg t, EReal.coe_mul]
  have h2 : ∑ t ∈ S, f t = ∑ t ∈ S, ((g t : ℝ) : EReal) := Finset.sum_congr rfl fun t _ => hg t
  rw [h1, h2, coe_sum, coe_sum, ← EReal.coe_mul, Finset.sum_mul]

theorem add_mul_real {x y z : EReal} (hx : IsReal x) (hy : IsReal y) (hz : IsReal z) : x * z + y * z = (x + y) * z := by
  obtain ⟨a, rfl⟩ := hx
  obtain ⟨b, rfl⟩ := hy
  obtain ⟨w, rfl⟩ := hz
  rw [← EReal.coe_mul, ← EReal.coe_mul, ← EReal.coe_add, ← EReal.coe_add, ← EReal.coe_mul, add_mul]

/-! ## The constants and the angles -/

theorem lit_128 : Ideal.ofBits .f32 0x43000000#32 = ((128 : ℝ) : EReal) := by
  simp [Ideal.ofBits, Ideal.ieee, -EReal.coe_mul]; norm_num
theorem lit_10000 : Ideal.ofBits .f32 0x461C4000#32 = ((10000 : ℝ) : EReal) := by
  simp [Ideal.ofBits, Ideal.ieee, -EReal.coe_mul]; norm_num
theorem scl_real : IsReal scl := by
  unfold scl IsReal
  simp only [Ideal.ofBits, Ideal.ieee]
  exact ⟨_, rfl⟩

theorem freq_real (p : Fin 64) : IsReal (val_main_v11 (F := Ideal) (ix1 p)) := by
  have h5 : IsReal (val_main_v5 (F := Ideal) (ix1 p)) := ⟨_, rfl⟩
  obtain ⟨a, ha⟩ := h5
  have h7 : val_main_v7 (F := Ideal) (ix1 p) = ((a / 128 : ℝ) : EReal) := by
    rw [val_main_v7_apply, ha, val_main_v6_apply, val_main_cst_apply]
    exact (congrArg (Ideal.div (a : EReal)) lit_128).trans (div_coe a 128 (by norm_num))
  have h9 : val_main_v9 (F := Ideal) (ix1 p) = (((10000 : ℝ) ^ (a / 128) : ℝ) : EReal) := by
    rw [val_main_v9_apply, h7, val_main_v8_apply, val_main_cst_1_apply]
    exact congrArg (fun z => Ideal.pow z ((a / 128 : ℝ) : EReal)) lit_10000
  refine ⟨1 / (10000 : ℝ) ^ (a / 128), ?_⟩
  rw [val_main_v11_apply, h9, val_main_v10_apply, val_main_cst_2_apply]
  exact (congrArg (fun z => Ideal.div z (((10000 : ℝ) ^ (a / 128) : ℝ) : EReal)) Ideal.ofBits_one_f32).trans
    (div_coe 1 _ (Real.rpow_pos_of_pos (by norm_num) _).ne')

theorem ang_real (i : Fin 512) (e : Fin 128) : IsReal (ang i e) := by
  unfold ang
  rw [val_main_v18_apply]
  refine IsReal.mul ?_ ?_
  · rw [val_main_v16_apply]
    exact ⟨_, rfl⟩
  · rw [val_main_v17_apply, val_main_v14_apply]
    have h : ∀ j : S64.Idx, IsReal (val_main_v11 (F := Ideal) j) := fun j => by
      have hj : j = ix1 (j 0) := funext fun a => match a with | 0 => rfl
      rw [hj]
      exact freq_real _
    exact h _

/-! ## Projections, turned projections and scores of real arrays -/

section Arrays
variable {X : S2x512x1024.Idx → EReal} {W Wk : S1024x4096.Idx → EReal} (hX : ∀ j, IsReal (X j)) (hW : ∀ j, IsReal (W j))
include hX hW

theorem proj_real (b : Fin 2) (i : Fin 512) (k : Fin 4096) : IsReal (proj X W b i k) :=
  IsReal.sum fun _ => (hX _).mul (hW _)
theorem turn_real (b : Fin 2) (i : Fin 512) (h : Fin 32) (e : Fin 128) : IsReal (turn X W b i h e) := by
  unfold turn
  split
  · exact (proj_real hX hW _ _ _).neg
  · exact proj_real hX hW _ _ _
theorem rope_real (b : Fin 2) (i : Fin 512) (h : Fin 32) (e : Fin 128) : IsReal (rope X W b i h e) :=
  ((proj_real hX hW _ _ _).mul (ang_real i e).cos).add ((turn_real hX hW _ _ _ _).mul (ang_real i e).sin)
theorem score_real (hWk : ∀ j, IsReal (Wk j)) (b : Fin 2) (h : Fin 32) (i j : Fin 512) : IsReal (score X W Wk b h i j) :=
  (IsReal.sum fun _ => (rope_real hX hW _ _ _ _).mul (rope_real hX hWk _ _ _ _)).mul scl_real
end Arrays

end Cert.ReferenceIdeal.Att
-- ==== Proof.Total.lean ====
/-
  Over the extended reals every device's result is the sum of the four devices' partial outputs at the entry's row.
-/
module

public import proofs.«01_k».proof.Proof.Reading

@[expose] public section

set_option maxRecDepth 16384

noncomputable section

namespace Cert.KernelIdeal.Att

open Idealize.ShloMosaic Idealize.SL.Sem
open Cert.KernelIdeal Cert.KernelIdeal.Gen
open Idealize.ShloMosaic.ValueIdx

variable (A : Dev nD → Ins Ideal) (c : Dev nD)

/-- Row `r` of half `h` of a row chunk. -/
def rowH (h : Fin 2) (r : Fin 128) : Fin 256 := ⟨128 * h.val + r.val, by omega⟩

theorem chunk_back (d : Fin 3) (e : Fin 4) (hd : e + ⟨d.val + 1, by omega⟩ = 0) (r : Fin 256) (n : Fin 1024) :
    chunk (A (pr e c)) (pr e c) d (ix2 r n) = partR (A (pr e c)) c r n := by
  rw [chunk_eq, sentF_apply, pr_pr, add_comm, hd, pr_zero]

theorem rsV_apply (s : Fin 3) (h : Fin 2) (r : Fin 128) (n : Fin 1024) :
    rsV c A s h (ix3 (0 : Fin 1) r n) = partR (A (pr ⟨s.val + 1, by omega⟩ c)) c (rowH h r) n := by
  have he : (Rect.unit (s := S3x256x1024) ![s.val, 128 * h.val, 0] S1x128x1024.size (rs_inb s h)).emb (ix3 (0 : Fin 1) r n)
      = ix3 s (rowH h r) n := by
    funext b
    apply Fin.ext
    rw [Rect.emb_apply]
    match b with
    | 0 => show s.val + 1 * 0 = s.val; omega
    | 1 => show 128 * h.val + 1 * r.val = 128 * h.val + r.val; omega
    | 2 => show 0 + 1 * n.val = n.val; omega
  have hy : ix256 (rowH h r).val n.val (rowH h r).isLt n.isLt = ix2 (rowH h r) n := by
    funext b
    match b with
    | 0 => rfl
    | 1 => rfl
  unfold rsV blk
  rw [he]
  unfold rsB
  match s with
  | 0 => exact (congrArg _ hy).trans (chunk_back A c 2 1 (by decide) _ _)
  | 1 => exact (congrArg _ hy).trans (chunk_back A c 1 2 (by decide) _ _)
  | 2 => exact (congrArg _ hy).trans (chunk_back A c 0 3 (by decide) _ _)

theorem cast_half (v : Vec Ideal S1x128x1024 .bf16) (r : Fin 128) (n : Fin 1024) :
    shapeCast S128x1024 v shapeCasts_S1x128x1024_S128x1024 (ix2 r n) = v (ix3 (0 : Fin 1) r n) :=
  shapeCast_apply v _ _ _ (by
    rw [Shape.rowMajor_val_two, Shape.rowMajor_val_three]
    show (0 * 128 + r.val) * 1024 + n.val = r.val * 1024 + n.val
    omega)

/-- The four partial outputs at a row of chunk `j`, summed. -/
def sumR (j : Dev nD) (r : Fin 256) (n : Fin 1024) : EReal :=
  partR (A j) j r n + partR (A (pr 1 j)) j r n + partR (A (pr 2 j)) j r n + partR (A (pr 3 j)) j r n

theorem redF_apply (h : Fin 2) (r : Fin 128) (n : Fin 1024) : redF c A h (ix2 r n) = sumR A c (rowH h r) n := by
  have rc (s : Fin 3) (h : Fin 2) := (cast_half (rsV c A s h) r n).trans (rsV_apply A c s h r n)
  match h with
  | 0 =>
    show k0_pay68 _ _ _ _ (ix2 r n) = _
    unfold k0_pay68
    simp only [addf_apply, extf_apply]
    rw [extractStridedSlice_apply _ _ _ _ (ix2 (rowH 0 r) n) (by
      intro b
      match b with
      | 0 => rfl
      | 1 => show n.val = 0 + n.val; omega), chunk0_eq, partF_apply]
    exact congrArg₂ (· + ·) (congrArg₂ (· + ·) (congrArg (partR (A c) c (rowH 0 r) n + ·) (rc 0 0)) (rc 1 0)) (rc 2 0)
  | 1 =>
    show k0_pay71 _ _ (ix2 r n) = _
    unfold k0_pay71 k0_pay70
    simp only [addf_apply, extf_apply]
    rw [extractStridedSlice_apply _ _ _ _ (ix2 (rowH 1 r) n) (by
      intro b
      match b with
      | 0 => rfl
      | 1 => show n.val = 0 + n.val; omega), chunk0_eq, partF_apply]
    exact congrArg₂ (· + ·) (congrArg₂ (· + ·) (congrArg (partR (A c) c (rowH 1 r) n + ·) (rc 0 1)) (rc 1 1)) (rc 2 1)

theorem redB_apply (h : Fin 2) (r : Fin 128) (n : Fin 1024) : redB c A h (ix2 r n) = sumR A c (rowH h r) n := by
  refine Eq.trans ?_ (redF_apply A c h r n)
  match h with
  | 0 =>
    show k0_pay69 _ _ _ _ (ix2 r n) = _
    unfold k0_pay69
    simp only [shapeCast_self]
    rfl
  | 1 =>
    show k0_pay72 _ _ (ix2 r n) = _
    unfold k0_pay72
    simp only [shapeCast_self]
    rfl

theorem outB_apply (j : Dev nD) (h : Fin 2) (r : Fin 128) (n : Fin 1024) : outB A c j h (ix2 r n) = sumR A j (rowH h r) n := by
  unfold outB
  split
  · next hj => rw [redF_apply, hj]
  · unfold k0_pay75
    rw [extf_apply, redB_apply]

theorem sumR_eq (j : Dev nD) (r : Fin 256) (n : Fin 1024) : sumR A j r n = ∑ d : Dev nD, partR (A d) j r n := by
  have hs : ∀ f : Dev nD → EReal, ∑ d, f d = f 0 + f 1 + f 2 + f 3 := fun f => Fin.sum_univ_four f
  rw [hs]
  unfold sumR
  match j with
  | 0 => rfl
  | 1 =>
    show partR (A 1) 1 r n + partR (A 2) 1 r n + partR (A 3) 1 r n + partR (A 0) 1 r n = _
    abel
  | 2 =>
    show partR (A 2) 2 r n + partR (A 3) 2 r n + partR (A 0) 2 r n + partR (A 1) 2 r n = _
    abel
  | 3 =>
    show partR (A 3) 3 r n + partR (A 0) 3 r n + partR (A 1) 3 r n + partR (A 2) 3 r n = _
    abel

/-- The chunk, and the row in it, of an entry of the result. -/
def jOf (b : Fin 2) (i : Fin 512) : Fin 4 := ⟨(512 * b.val + i.val) / 256, by omega⟩
def rOf (i : Fin 512) : Fin 256 := ⟨i.val % 256, by omega⟩

theorem outV_apply (b : Fin 2) (i : Fin 512) (n : Fin 1024) :
    outV A c (ix3 b i n) = ∑ d : Dev nD, partR (A d) (jOf b i) (rOf i) n := by
  have hy (r : Nat) (hr : r < 128) : ix128 r n.val hr n.isLt = ix2 (⟨r, hr⟩ : Fin 128) n := by
    funext b
    match b with
    | 0 => rfl
    | 1 => rfl
  have hr : rowH (blkIx (ix3 b i n)).2 ⟨rowOf (ix3 b i n) % 128, Nat.mod_lt _ (by decide)⟩ = rOf i := by
    apply Fin.ext
    show 128 * ((512 * b.val + i.val) % 256 / 128) + (512 * b.val + i.val) % 128 = i.val % 256
    omega
  have h1 : outV A c (ix3 b i n) = outB A c (jOf b i) (blkIx (ix3 b i n)).2
      (ix2 (⟨rowOf (ix3 b i n) % 128, Nat.mod_lt _ (by decide)⟩ : Fin 128) n) := congrArg _ (hy _ _)
  rw [h1, outB_apply, hr, sumR_eq]

end Cert.KernelIdeal.Att
-- ==== Proof.Value.lean ====
/-
  The kernel's result is the reference's: a device's projections are its columns of the whole projections, its heads
  are its share of all the heads, and the four devices' products with their rows of the output weights add up to the
  whole product.
-/
module

public import proofs.«01_k».proof.Proof.Tables
public import proofs.«01_k».proof.Proof.Arrays
public import proofs.«01_k».proof.Proof.Reals
public import proofs.«01_k».proof.Proof.Total

@[expose] public section

set_option maxRecDepth 16384

noncomputable section

namespace Cert.KernelIdeal.Att

open Idealize.ShloMosaic hiding ix2 ix3 ix4
open Idealize.SL.Sem
open Cert.KernelIdeal Cert.KernelIdeal.Gen
open Idealize.ShloMosaic.ValueIdx
open Cert.ReferenceIdeal.Att (proj gcol ang mate rope score ctx IsReal add_mul_real sum_mul_real proj_real rope_real score_real ang_real scl_real v21_apply v24_apply)

/-- Column `n` of device `d` among all the columns; its head among all the heads. -/
def wcol (d : Dev nD) (n : Fin 1024) : Fin 4096 := ⟨1024 * d.val + n.val, by have : d.val < 4 := d.isLt; omega⟩
def whd (d : Dev nD) (h : Fin 8) : Fin 32 := ⟨8 * d.val + h.val, by have : d.val < 4 := d.isLt; omega⟩
/-- The batch and the position of a row of both batches. -/
def bOf (R : Fin 1024) : Fin 2 := ⟨R.val / 512, by omega⟩
def iOf (R : Fin 1024) : Fin 512 := ⟨R.val % 512, by omega⟩

theorem wcol_gcol (d : Dev nD) (h : Fin 8) (e : Fin 128) : wcol d (colH h e) = gcol (whd d h) e := by
  apply Fin.ext
  show 1024 * d.val + (128 * h.val + e.val) = 128 * (8 * d.val + h.val) + e.val
  omega

/-- A rotation by the tables is the reference's rotation of pairs. -/
theorem rot_pairs (d : Dev nD) (h : Fin 8) (e : Fin 128) (X : S2x512x1024.Idx → EReal) (W : Cert.ReferenceIdeal.S1024x4096.Idx → EReal)
    (b : Fin 2) (i : Fin 512) (f cs sa sb : Fin 1024 → EReal)
    (hf : ∀ n, f n = proj X W b i (wcol d n)) (hc : ∀ n, cs n = Ideal.cos (ang i (inHd n)))
    (ha : ∀ n : Fin 1024, sa n = if n.val % 2 = 0 then -Ideal.sin (ang i (inHd n)) else 0)
    (hb : ∀ n : Fin 1024, sb n = if n.val % 2 = 0 then 0 else Ideal.sin (ang i (inHd n))) :
    rot f cs sa sb (colH h e) = rope X W b i (whd d h) e := by
  have hin : inHd (colH h e) = e := Fin.ext (by show (128 * h.val + e.val) % 128 = e.val; omega)
  unfold rot rope Cert.ReferenceIdeal.Att.turn
  rw [hf, hf, hf, hc, ha, hb, hin, wcol_gcol]
  have hpar : (colH h e).val % 2 = e.val % 2 := by show (128 * h.val + e.val) % 2 = e.val % 2; omega
  rw [hpar]
  by_cases he : e.val % 2 = 0
  · have hn : wcol d (nx (colH h e)) = gcol (whd d h) (mate e) := by
      apply Fin.ext
      show 1024 * d.val + (128 * h.val + e.val + 1) % 1024 = 128 * (8 * d.val + h.val) + (if e.val % 2 = 0 then e.val + 1 else e.val - 1)
      rw [if_pos he]
      omega
    rw [if_pos he, if_pos he, if_pos he, mul_zero, add_zero, hn, mul_neg, neg_mul]
  · have hn : wcol d (bk (colH h e)) = gcol (whd d h) (mate e) := by
      apply Fin.ext
      show 1024 * d.val + (128 * h.val + e.val + 1023) % 1024 = 128 * (8 * d.val + h.val) + (if e.val % 2 = 0 then e.val + 1 else e.val - 1)
      rw [if_neg he]
      omega
    rw [if_neg he, if_neg he, if_neg he, mul_zero, add_zero, hn]

/-- A rotation of scaled numbers is the scaled rotation. -/
theorem rot_mul (f cs sa sb : Fin 1024 → EReal) (z : EReal) (n : Fin 1024) (hf : ∀ n, IsReal (f n)) (hc : IsReal (cs n))
    (ha : IsReal (sa n)) (hb : IsReal (sb n)) (hz : IsReal z) :
    rot (fun n => f n * z) cs sa sb n = rot f cs sa sb n * z := by
  unfold rot
  rw [mul_right_comm (f n), mul_right_comm (f (nx n)), mul_right_comm (f (bk n)),
    add_mul_real ((hf _).mul hc) ((hf _).mul ha) hz,
    add_mul_real (((hf _).mul hc).add ((hf _).mul ha)) ((hf _).mul hb) hz]

/-! ## What a device is given, from the whole arrays -/

section Device
variable (m : (l : Loc nD τ sig) → Buf (Elt Ideal) l) (d : Dev nD)

theorem x_apply (R k : Fin 1024) :
    (opIns m d).x (ix2 R k) = (m (d.tc.loc main_arg0) : S2x512x1024.Idx → EReal) (ix3 (bOf R) (iOf R) k) := by
  rw [x_eq, V_v1]
  refine shapeCast_apply _ _ _ (ix3 (bOf R) (iOf R) k) ?_
  rw [Shape.rowMajor_val_two, Shape.rowMajor_val_three]
  show (R.val / 512 * 512 + R.val % 512) * 1024 + k.val = R.val * 1024 + k.val
  omega

theorem cs_apply (R n : Fin 1024) : (opIns m d).cs (ix2 R n) = Ideal.cos (ang (iOf R) (inHd n)) := by
  rw [cs_eq, V_v29, tile_apply]
  exact v21_apply _ _

theorem sa_apply (R n : Fin 1024) :
    (opIns m d).sa (ix2 R n) = if n.val % 2 = 0 then -Ideal.sin (ang (iOf R) (inHd n)) else 0 := by
  rw [sa_eq, V_v39]
  show Scalar.select (evens (V m d main_v36) (ix2 R n)) (-tile _ (ix2 R n)) (noSwap (ix2 R n)) = _
  rw [evens_apply, V_v36, tile_apply, noSwap_apply, v24_apply]
  split <;> rfl

theorem sb_apply (R n : Fin 1024) :
    (opIns m d).sb (ix2 R n) = if n.val % 2 = 0 then 0 else Ideal.sin (ang (iOf R) (inHd n)) := by
  rw [sb_eq, V_v40]
  show Scalar.select (evens (V m d main_v36) (ix2 R n)) (noSwap (ix2 R n)) (tile _ (ix2 R n)) = _
  rw [evens_apply, V_v36, tile_apply, noSwap_apply, v24_apply]
  split <;> rfl

/-- A device's block of the columns, and of the rows, of a weight array. -/
theorem block_cols (W : Cert.ReferenceIdeal.S1024x4096.Idx → EReal) (k n : Fin 1024) :
    Layout.block ⟨2, ![1024, 1024]⟩ ⟨2, ![1024, 4096]⟩ 1 4 d W (by decide) (ix2 k n) = W (ix2 k (wcol d n)) := by
  rw [Layout.block_apply]
  refine congrArg W (funext fun b => Fin.ext ?_)
  rw [Layout.Tiles.idx_val]
  match b with
  | 0 => rfl
  | 1 => show d.val * 1024 + n.val = 1024 * d.val + n.val; omega
theorem block_rows (W : Cert.ReferenceIdeal.S4096x1024.Idx → EReal) (k n : Fin 1024) :
    Layout.block ⟨2, ![1024, 1024]⟩ ⟨2, ![4096, 1024]⟩ 0 4 d W (by decide) (ix2 k n) = W (ix2 (wcol d k) n) := by
  rw [Layout.block_apply]
  refine congrArg W (funext fun b => Fin.ext ?_)
  rw [Layout.Tiles.idx_val]
  match b with
  | 0 => show d.val * 1024 + k.val = 1024 * d.val + k.val; omega
  | 1 => rfl

end Device

/-! ## The whole result -/

/-- The columns of the four devices are all the columns. -/
theorem sum_wcol (f : Fin 4096 → EReal) : ∑ d : Dev nD, ∑ n, f (wcol d n) = ∑ k, f k := by
  have h := Equiv.sum_comp (finProdFinEquiv : Fin 4 × Fin 1024 ≃ Fin (4 * 1024)) f
  rw [Fintype.sum_prod_type] at h
  refine Eq.trans ?_ h
  refine Finset.sum_congr rfl fun d _ => Finset.sum_congr rfl fun n _ => congrArg f (Fin.ext ?_)
  show 1024 * d.val + n.val = n.val + 1024 * d.val
  omega

section Whole
variable {m : (l : Loc nD τ sig) → Buf (Elt Ideal) l}
  {X : S2x512x1024.Idx → EReal} {Wq Wk Wv : Cert.ReferenceIdeal.S1024x4096.Idx → EReal} {Wo : Cert.ReferenceIdeal.S4096x1024.Idx → EReal}

/-- A device's product of the input rows with its block of a weight array. -/
theorem proj_row (hX : ∀ d : Dev nD, m (d.tc.loc main_arg0) = X) (d : Dev nD) (w : S1024x1024.Idx → EReal)
    (W : Cert.ReferenceIdeal.S1024x4096.Idx → EReal) (hw : ∀ k n, w (ix2 k n) = W (ix2 k (wcol d n))) (R n : Fin 1024) :
    ∑ k, (opIns m d).x (ix2 R k) * w (ix2 k n) = proj X W (bOf R) (iOf R) (wcol d n) := by
  unfold proj
  refine Finset.sum_congr rfl fun k _ => ?_
  rw [x_apply, hX, hw]

variable (hX : ∀ d : Dev nD, m (d.tc.loc main_arg0) = X)
  (hq : ∀ d : Dev nD, m (d.tc.loc main_arg1) = Layout.block ⟨2, ![1024, 1024]⟩ ⟨2, ![1024, 4096]⟩ 1 4 d Wq (by decide))
  (hk : ∀ d : Dev nD, m (d.tc.loc main_arg2) = Layout.block ⟨2, ![1024, 1024]⟩ ⟨2, ![1024, 4096]⟩ 1 4 d Wk (by decide))
  (hv : ∀ d : Dev nD, m (d.tc.loc main_arg3) = Layout.block ⟨2, ![1024, 1024]⟩ ⟨2, ![1024, 4096]⟩ 1 4 d Wv (by decide))
  (ho : ∀ d : Dev nD, m (d.tc.loc main_arg4) = Layout.block ⟨2, ![1024, 1024]⟩ ⟨2, ![4096, 1024]⟩ 0 4 d Wo (by decide))
  (rX : ∀ j, IsReal (X j)) (rq : ∀ j, IsReal (Wq j)) (rk : ∀ j, IsReal (Wk j))

include hX hk in
theorem kR_rope (d : Dev nD) (R : Fin 1024) (h : Fin 8) (e : Fin 128) :
    kR (opIns m d) R (colH h e) = rope X Wk (bOf R) (iOf R) (whd d h) e :=
  rot_pairs d h e X Wk _ _ _ _ _ _
    (proj_row hX d _ Wk (fun k n => by rw [wk_eq, hk, block_cols]) R)
    (cs_apply m d R) (sa_apply m d R) (sb_apply m d R)

include hX hv in
theorem vR_proj (d : Dev nD) (R n : Fin 1024) : vR (opIns m d) R n = proj X Wv (bOf R) (iOf R) (wcol d n) :=
  proj_row hX d _ Wv (fun k n => by rw [wv_eq, hv, block_cols]) R n

include hX hq rX rq in
theorem qR_rope (d : Dev nD) (R : Fin 1024) (h : Fin 8) (e : Fin 128) :
    qR (opIns m d) R (colH h e) = rope X Wq (bOf R) (iOf R) (whd d h) e * scl := by
  have hp := proj_row hX d (opIns m d).wq Wq (fun k n => by rw [wq_eq, hq, block_cols]) R
  have hf : (fun n => ∑ k, (opIns m d).x (ix2 R k) * scl * (opIns m d).wq (ix2 k n))
      = fun n => proj X Wq (bOf R) (iOf R) (wcol d n) * scl := by
    funext n
    rw [← hp n, ← sum_mul_real (z := scl) (fun k => by
      rw [x_apply, hX, wq_eq, hq, block_cols]
      exact (rX _).mul (rq _)) scl_real]
    exact Finset.sum_congr rfl fun k _ => mul_right_comm _ _ _
  have hs : IsReal (Ideal.sin (ang (iOf R) (inHd (colH h e)))) := (ang_real _ _).sin
  have hz : IsReal 0 := ⟨0, rfl⟩
  unfold qR
  rw [hf, rot_mul _ _ _ _ _ _ (fun n => proj_real rX rq _ _ _) (by rw [cs_apply]; exact (ang_real _ _).cos)
    (by rw [sa_apply]; split; exacts [hs.neg, hz]) (by rw [sb_apply]; split; exacts [hz, hs]) scl_real]
  exact congrArg₂ (· * ·) (rot_pairs d h e X Wq _ _ _ _ _ _ (fun _ => rfl) (cs_apply m d R) (sa_apply m d R) (sb_apply m d R)) rfl

include hX hq hk hv rX rq rk in
/-- A device's attention result is the reference's, at the device's columns. -/
theorem ctxR_ctx (d : Dev nD) (b : Fin 2) (i : Fin 512) (n : Fin 1024) :
    ctxR (opIns m d) (jOf b i) (rOf i) n = ctx X Wq Wk Wv b i (wcol d n) := by
  have hbx : bOf (rowX (jOf b i) (rOf i)) = b := by
    apply Fin.ext
    show (256 * ((512 * b.val + i.val) / 256) + i.val % 256) / 512 = b.val
    omega
  have hix : iOf (rowX (jOf b i) (rOf i)) = i := by
    apply Fin.ext
    show (256 * ((512 * b.val + i.val) / 256) + i.val % 256) % 512 = i.val
    omega
  have hbk : ∀ t, bOf (rowK (jOf b i) t) = b := fun t => by
    apply Fin.ext
    show (512 * ((512 * b.val + i.val) / 256 / 2) + t.val) / 512 = b.val
    omega
  have hik : ∀ t, iOf (rowK (jOf b i) t) = t := fun t => by
    apply Fin.ext
    show (512 * ((512 * b.val + i.val) / 256 / 2) + t.val) % 512 = t.val
    omega
  have hh : whd d (hdOf n) = ⟨(wcol d n).val / 128, by omega⟩ := by
    apply Fin.ext
    show 8 * d.val + n.val / 128 = (1024 * d.val + n.val) / 128
    omega
  have hs : (fun t => ∑ e, qR (opIns m d) (rowX (jOf b i) (rOf i)) (colH (hdOf n) e) * kR (opIns m d) (rowK (jOf b i) t) (colH (hdOf n) e))
      = fun t => score X Wq Wk b ⟨(wcol d n).val / 128, by omega⟩ i t := by
    funext t
    unfold score
    rw [← hh, ← sum_mul_real (fun e => (rope_real rX rq _ _ _ _).mul (rope_real rX rk _ _ _ _)) scl_real]
    refine Finset.sum_congr rfl fun e _ => ?_
    rw [qR_rope hX hq rX rq, kR_rope hX hk, hbx, hix, hbk, hik]
    exact mul_right_comm _ _ _
  have hw : (fun t => vR (opIns m d) (rowK (jOf b i) t) n) = fun t => proj X Wv b t (wcol d n) := by
    funext t
    rw [vR_proj hX hv, hbk, hik]
  unfold ctxR ctx
  rw [hs, hw]
  have hr := fun t => score_real rX rq rk b ⟨(wcol d n).val / 128, by omega⟩ i t
  choose g hg using hr
  rw [show (fun t => score X Wq Wk b ⟨(wcol d n).val / 128, by omega⟩ i t) = fun t => ((g t : ℝ) : EReal) from funext hg]
  exact attn_eq_soft g _

include hX hq hk hv ho rX rq rk in
theorem outV_ref_apply (c : Dev nD) (b : Fin 2) (i : Fin 512) (n : Fin 1024) :
    outV (opIns m) c (ix3 b i n) = Cert.ReferenceIdeal.Read.val_main_v80 (F := Ideal) X Wq Wk Wv Wo (ix3 b i n) := by
  rw [outV_apply, Cert.ReferenceIdeal.Att.v80_apply, ← sum_wcol]
  refine Finset.sum_congr rfl fun d _ => Finset.sum_congr rfl fun k _ => ?_
  rw [ctxR_ctx hX hq hk hv rX rq rk, wo_eq, ho, block_rows]

include hX hq hk hv ho rX rq rk in
/-- The kernel's result, on every device, is the reference's. -/
theorem outV_ref (c : Dev nD) : outV (opIns m) c = Cert.ReferenceIdeal.Read.val_main_v80 (F := Ideal) X Wq Wk Wv Wo := by
  funext j
  have hj : j = ix3 (j 0) (j 1) (j 2) := funext fun a => match a with | 0 => rfl | 1 => rfl | 2 => rfl
  rw [hj]
  exact outV_ref_apply hX hq hk hv ho rX rq rk c (j 0) (j 1) (j 2)
end Whole

end Cert.KernelIdeal.Att
-- ==== Proof.Equal.lean ====
/-
  The value claim: over the extended reals the kernel and the reference give the same result, where the inputs that
  the scores are made of are finite.
-/
module

public import proofs.«01_k».proof.Defs
public import proofs.«01_k».proof.Proof.Value
public import proofs.«01_k».proof.Proof.Gen.ReferenceIdeal.Run

@[expose] public section

noncomputable section

namespace Cert.Proof

open Idealize.ShloMosaic Idealize.SL.Sem
open Cert.ReferenceIdeal.Att (IsReal)

/-- The two broadcasts the precondition's text makes. -/
instance finite_kernel : Cert.Pre_finite_KernelIdeal.Facts := ⟨by decide, by decide⟩
instance finite_reference : Cert.Pre_finite_ReferenceIdeal.Facts := ⟨by decide, by decide⟩

theorem lit_inf : Ideal.ofBits .f32 0x7F800000#32 = ⊤ := by
  simp [Ideal.ofBits, Ideal.ieee]

/-- The precondition's test of one number. -/
theorem real_of_test (x : EReal)
    (h : IntOp.andi (FloatOps.cmpf (F := Ideal) (φ := .f32) .olt (-Ideal.ofBits .f32 0x7F800000#32) x)
      (FloatOps.cmpf (F := Ideal) (φ := .f32) .olt x (Ideal.ofBits .f32 0x7F800000#32)) = 1#1) : IsReal x := by
  rw [lit_inf, EReal.neg_top] at h
  induction x using EReal.rec with
  | bot =>
    refine absurd h ?_
    show ¬ IntOp.andi (Ideal.cmp .olt ⊥ ⊥) (Ideal.cmp .olt ⊥ ⊤) = 1#1
    simp [IntOp.andi, Ideal.cmp]
  | top =>
    refine absurd h ?_
    show ¬ IntOp.andi (Ideal.cmp .olt ⊥ ⊤) (Ideal.cmp .olt ⊤ ⊤) = 1#1
    simp [IntOp.andi, Ideal.cmp]
  | coe r => exact ⟨r, rfl⟩

section Pre
variable {m : (l : Loc Cert.KernelIdeal.nD Cert.KernelIdeal.τ Cert.KernelIdeal.sig) → Buf (Elt Ideal) l}
  (h : Cert.Pre_KernelIdeal_finite_KernelIdeal m)
include h

theorem real_arg0 (c : Dev Cert.KernelIdeal.nD) (j : Cert.KernelIdeal.S2x512x1024.Idx) :
    IsReal ((m (c.tc.loc Cert.KernelIdeal.main_arg0) : Cert.KernelIdeal.S2x512x1024.Idx → EReal) j) :=
  real_of_test _ (congrFun (h c).1 j)
theorem real_arg1 (c : Dev Cert.KernelIdeal.nD) (j : Cert.KernelIdeal.S1024x1024.Idx) :
    IsReal ((m (c.tc.loc Cert.KernelIdeal.main_arg1) : Cert.KernelIdeal.S1024x1024.Idx → EReal) j) :=
  real_of_test _ (congrFun (h c).2.1 j)
theorem real_arg2 (c : Dev Cert.KernelIdeal.nD) (j : Cert.KernelIdeal.S1024x1024.Idx) :
    IsReal ((m (c.tc.loc Cert.KernelIdeal.main_arg2) : Cert.KernelIdeal.S1024x1024.Idx → EReal) j) :=
  real_of_test _ (congrFun (h c).2.2 j)
end Pre

/-- A weight array is real when each device's block of its columns is. -/
theorem real_cols (W : Cert.ReferenceIdeal.S1024x4096.Idx → EReal)
    (h : ∀ (d : Dev Cert.KernelIdeal.nD) (k n : Fin 1024), IsReal (W (ValueIdx.ix2 k (Cert.KernelIdeal.Att.wcol d n))))
    (j : Cert.ReferenceIdeal.S1024x4096.Idx) : IsReal (W j) := by
  have h1 : (j 1).val < 4096 := (j 1).isLt
  have hj : j = ValueIdx.ix2 (j 0 : Fin 1024) (Cert.KernelIdeal.Att.wcol (⟨(j 1).val / 1024, by show _ < 4; omega⟩ : Dev Cert.KernelIdeal.nD)
      ⟨(j 1).val % 1024, by omega⟩) := by
    funext a
    match a with
    | 0 => rfl
    | 1 => exact Fin.ext (Nat.div_add_mod (j 1).val 1024).symm
  rw [hj]
  exact h _ _ _

/-- The kernel and the reference give the same result. -/
theorem same_result : Cert.algebraic_KernelIdeal_ReferenceIdeal_pre_finite_KernelIdeal := fun m g m' g' hp hin => by
  refine ⟨Cert.ReferenceIdeal.Value.res_main_v80 m' 0, ?_, ?_⟩
  · have rX := fun j => (hin 0).1 ▸ real_arg0 hp 0 j
    have rq := real_cols (m' (((0 : Dev Cert.ReferenceIdeal.nD).tc : Thread Cert.ReferenceIdeal.nD Cert.ReferenceIdeal.τ).loc Cert.ReferenceIdeal.main_arg1)) fun d k n => by
      obtain ⟨z, hz⟩ := real_arg1 hp d (ValueIdx.ix2 k n)
      exact ⟨z, (Cert.KernelIdeal.Att.block_cols d _ k n).symm.trans ((congrFun (hin d).2.1 (ValueIdx.ix2 k n)).symm.trans hz)⟩
    have rk := real_cols (m' (((0 : Dev Cert.ReferenceIdeal.nD).tc : Thread Cert.ReferenceIdeal.nD Cert.ReferenceIdeal.τ).loc Cert.ReferenceIdeal.main_arg2)) fun d k n => by
      obtain ⟨z, hz⟩ := real_arg2 hp d (ValueIdx.ix2 k n)
      exact ⟨z, (Cert.KernelIdeal.Att.block_cols d _ k n).symm.trans ((congrFun (hin d).2.2.1 (ValueIdx.ix2 k n)).symm.trans hz)⟩
    refine (θ_run Cert.KernelIdeal.defs _ _).mono (fun r h c => ⟨?_, (h.1 c).1⟩) (Cert.KernelIdeal.Att.run_read (F := Ideal) m g)
    rw [(h.1 c).2, Cert.KernelIdeal.Att.out_eq, Cert.ReferenceIdeal.Read.val_main_v80_eq]
    exact Cert.KernelIdeal.Att.outV_ref (fun d => (hin d).1) (fun d => (hin d).2.1) (fun d => (hin d).2.2.1) (fun d => (hin d).2.2.2.1)
      (fun d => (hin d).2.2.2.2) rX rq rk c
  · exact (θ_run Cert.ReferenceIdeal.defs _ _).mono (fun r h => h 0) (Cert.ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.OnBits.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The bit-exact kernel program runs, keeps its arguments and leaves every counter at zero. -/
theorem frame_bits : Cert.quiescent_Kernel := fun m ρ _ =>
  (θ_run Cert.Kernel.defs _ _).mono (fun _ h => ⟨fun c => (h.1 c).1, h.2⟩) (Cert.Kernel.Att.run_read (F := Bits) m ρ)

/-- The kernel program over the reals runs, keeps its arguments and leaves every counter at zero. -/
theorem frame_ideal : Cert.quiescent_KernelIdeal := fun m ρ _ =>
  (θ_run Cert.KernelIdeal.defs _ _).mono (fun _ h => ⟨fun c => (h.1 c).1, h.2⟩)
    (Cert.KernelIdeal.Att.run_read (F := Ideal) m ρ)

/-- The reference runs and keeps its arguments; it has no counter. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same runs, where the inputs are finite. -/
theorem frame_ideal_finite : Cert.quiescent_KernelIdeal_pre_finite_KernelIdeal := fun m ρ _ => frame_ideal m ρ trivial
theorem frame_reference_finite : Cert.quiescent_ReferenceIdeal_pre_finite_ReferenceIdeal := fun m ρ _ => frame_reference m ρ trivial

theorem claim : Cert.Claim := ⟨Cert.Kernel.Gen.facts, Cert.KernelIdeal.Gen.facts, Cert.ReferenceIdeal.Gen.facts, finite_kernel, finite_reference,
  frame_bits, frame_ideal, frame_ideal_finite, frame_reference, frame_reference_finite, trivial, same_result⟩

end Cert.Proof

end
